-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 16384, 8, 128]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 16384, 8, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x8x128 : S_.BroadcastsInDim S1x1024x8x128 (![] : Fin 0 → Fin S1x1024x8x128.rank)

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S1x1024x1024 1 × IVec S1024x1024 1 × IVec S1x1024x8x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024x8x128 .f32 := Host.absf main_arg2
  let main_cst_1 : FVec F S_ .f32 := constant S_ .f32 0x7F800000#32
  let main_v7 : FVec F S1x1024x8x128 .f32 := broadcastInDim S1x1024x8x128 ![] bcast_S_S1x1024x8x128 main_cst_1
  let main_v8 : IVec S1x1024x8x128 1 := cmpf .olt main_v6 main_v7
  (main_v2, main_v5, main_v8)
-- ==== Pre_finite_scores_ReferenceIdeal.lean ====
abbrev S1x1024x1024 : Shape := ⟨3, ![1, 1024, 1024]⟩
abbrev S1024x1024 : Shape := ⟨2, ![1024, 1024]⟩
abbrev S1x16384x8x128 : Shape := ⟨4, ![1, 16384, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x16384x8x128 : S_.BroadcastsInDim S1x16384x8x128 (![] : Fin 0 → Fin S1x16384x8x128.rank)

variable [Facts]

def fn {F : FTy → Type} [FloatOps F] (main_arg0 : FVec F S1x1024x1024 .f32) (main_arg1 : FVec F S1024x1024 .f32) (main_arg2 : FVec F S1x16384x8x128 .f32) (main_arg3 : FVec F S1x16384x8x128 .f32) (main_arg4 : FVec F S1024x1024 .f32) : IVec S1x1024x1024 1 × IVec S1024x1024 1 × IVec S1x16384x8x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x16384x8x128 .f32 := Host.absf main_arg2
  let main_cst_1 : FVec F S_ .f32 := constant S_ .f32 0x7F800000#32
  let main_v7 : FVec F S1x16384x8x128 .f32 := broadcastInDim S1x16384x8x128 ![] bcast_S_S1x16384x8x128 main_cst_1
  let main_v8 : IVec S1x16384x8x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S1x256x1024 : Shape := ⟨3, ![1, 256, 1024]⟩
abbrev S16x64x8x128 : Shape := ⟨4, ![16, 64, 8, 128]⟩
abbrev S16x64x16 : Shape := ⟨3, ![16, 64, 16]⟩
abbrev S16x64x1024 : Shape := ⟨3, ![16, 64, 1024]⟩
abbrev S16 : Shape := ⟨1, ![16]⟩
abbrev S_ : Shape := ⟨0, ![]⟩
abbrev S256x1024 : Shape := ⟨2, ![256, 1024]⟩
abbrev S256x128 : Shape := ⟨2, ![256, 128]⟩
abbrev S1x1024x1x128 : Shape := ⟨4, ![1, 1024, 1, 128]⟩
abbrev S1024x128 : Shape := ⟨2, ![1024, 128]⟩
abbrev S256 : Shape := ⟨1, ![256]⟩
abbrev S256x1 : Shape := ⟨2, ![256, 1]⟩
abbrev S64x128 : Shape := ⟨2, ![64, 128]⟩
abbrev S1x64x1x128 : Shape := ⟨4, ![1, 64, 1, 128]⟩
abbrev S64x1 : Shape := ⟨2, ![64, 1]⟩
abbrev S1x64x1 : Shape := ⟨3, ![1, 64, 1]⟩
abbrev S1 : Shape := ⟨1, ![1]⟩
abbrev S1x64x8x128 : Shape := ⟨4, ![1, 64, 8, 128]⟩
abbrev S64x8x128 : Shape := ⟨3, ![64, 8, 128]⟩
abbrev S1x64x16 : Shape := ⟨3, ![1, 64, 16]⟩
abbrev S64x16 : Shape := ⟨2, ![64, 16]⟩
abbrev S64x8 : Shape := ⟨2, ![64, 8]⟩
abbrev S64x8x1 : Shape := ⟨3, ![64, 8, 1]⟩
abbrev S64x1024 : Shape := ⟨2, ![64, 1024]⟩
abbrev S64x1x128 : Shape := ⟨3, ![64, 1, 128]⟩
abbrev S128x1024 : Shape := ⟨2, ![128, 1024]⟩
abbrev S1x64x1024 : Shape := ⟨3, ![1, 64, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1x1024x8x128, .f32⟩
  | .local _ .vmem, ⟨4, _⟩ => ⟨S1x1024x8x128, .f32⟩
  | .local _ .vmem, ⟨5, _⟩ => ⟨S1024x1024, .f32⟩
  | .local _ .vmem, ⟨6, _⟩ => ⟨S1x1024x1024, .f32⟩
  | .local _ .vmem, ⟨7, _⟩ => ⟨S16x64x8x128, .f32⟩
  | .local _ .vmem, ⟨8, _⟩ => ⟨S16x64x16, .f32⟩
  | .local _ .vmem, ⟨9, _⟩ => ⟨S16x64x8x128, .f32⟩
  | .local _ .vmem, ⟨10, _⟩ => ⟨S16x64x16, .f32⟩
  | .local _ .vmem, ⟨11, _⟩ => ⟨S16x64x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  (ofTc nBuf bufTy 1 103 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev barrier0 : Sem sig := 0

abbrev nD : Nat := 16
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

@[reducible] def k0_t1_loop : Scf.Loop 32 :=
  let c0_i32_423 : BitVec 32 := 0#32
  let c15_i32 : BitVec 32 := 15#32
  let v803 : BitVec 32 := Scalar.addi c0_i32_423 c15_i32
  let c1_i32_424 : BitVec 32 := 1#32
  ⟨c0_i32_423, v803, c1_i32_424⟩
def k0_dev1 (d0 : Dev nD) (k0_t1 : Fin k0_t1_loop.trips) : Nat :=
  let c0_i32_431 : BitVec 32 := 0#32
  let c0_i32_423 : BitVec 32 := 0#32
  let c1_i32_424 : BitVec 32 := 1#32
  let arg18 : BitVec 32 := Scf.iv c0_i32_423 c1_i32_424 k0_t1
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v804 : BitVec 1 := Scalar.cmpi .sge arg18 v2
  let c1_i32_427 : BitVec 32 := 1#32
  let c0_i32_428 : BitVec 32 := 0#32
  let v805 : BitVec 32 := Scalar.select v804 c1_i32_427 c0_i32_428
  let v806 : BitVec 32 := Scalar.addi arg18 v805
  let c1_i32_430 : BitVec 32 := 1#32
  let v807 : BitVec 32 := Scalar.muli v806 c1_i32_430
  let v808 : BitVec 32 := Scalar.addi c0_i32_431 v807
  v808.toNat
def k0_off1 (i : grid0.Coords) (c0_i32_40 : BitVec 32) : Fin 4 → Nat :=
  let arg0 : BitVec 32 := BitVec.ofNat 32 (i 0).val
  let c4_i32 : BitVec 32 := 4#32
  let v110 : BitVec 32 := Scalar.muli arg0 c4_i32
  let v111 : BitVec 32 := Scalar.addi v110 c0_i32_40
  let v113 : Index := Scalar.indexCast v111
  let c0_41 : Index := 0#32
  let c0_42 : Index := 0#32
  let c0_43 : Index := 0#32
  ![v113.toNat, 0, 0, 0]
def k0_off2 (i : grid0.Coords) (c0_i32_40 : BitVec 32) : Fin 3 → Nat :=
  let arg0 : BitVec 32 := BitVec.ofNat 32 (i 0).val
  let c4_i32 : BitVec 32 := 4#32
  let v110 : BitVec 32 := Scalar.muli arg0 c4_i32
  let v111 : BitVec 32 := Scalar.addi v110 c0_i32_40
  let v118 : Index := Scalar.indexCast v111
  let c0_44 : Index := 0#32
  let c0_45 : Index := 0#32
  ![v118.toNat, 0, 0]
def k0_off3 (i : grid0.Coords) (c0_i32_40 : BitVec 32) : Fin 3 → Nat :=
  let arg0 : BitVec 32 := BitVec.ofNat 32 (i 0).val
  let c4_i32 : BitVec 32 := 4#32
  let v110 : BitVec 32 := Scalar.muli arg0 c4_i32
  let v111 : BitVec 32 := Scalar.addi v110 c0_i32_40
  let v123 : Index := Scalar.indexCast v111
  let c0_46 : Index := 0#32
  let c8 : Index := 8#32
  ![v123.toNat, 0, 8]
def k0_off4 (i : grid0.Coords) (c0_i32_87 : BitVec 32) : Fin 4 → Nat :=
  let arg0 : BitVec 32 := BitVec.ofNat 32 (i 0).val
  let c4_i32_86 : BitVec 32 := 4#32
  let v196 : BitVec 32 := Scalar.muli arg0 c4_i32_86
  let v197 : BitVec 32 := Scalar.addi v196 c0_i32_87
  let v199 : Index := Scalar.indexCast v197
  let c0_88 : Index := 0#32
  let c1_89 : Index := 1#32
  let c0_90 : Index := 0#32
  ![v199.toNat, 0, 1, 0]
def k0_off5 (i : grid0.Coords) (c0_i32_87 : BitVec 32) : Fin 3 → Nat :=
  let arg0 : BitVec 32 := BitVec.ofNat 32 (i 0).val
  let c4_i32_86 : BitVec 32 := 4#32
  let v196 : BitVec 32 := Scalar.muli arg0 c4_i32_86
  let v197 : BitVec 32 := Scalar.addi v196 c0_i32_87
  let v204 : Index := Scalar.indexCast v197
  let c0_91 : Index := 0#32
  let c1_92 : Index := 1#32
  ![v204.toNat, 0, 1]
def k0_off6 (i : grid0.Coords) (c0_i32_87 : BitVec 32) : Fin 3 → Nat :=
  let arg0 : BitVec 32 := BitVec.ofNat 32 (i 0).val
  let c4_i32_86 : BitVec 32 := 4#32
  let v196 : BitVec 32 := Scalar.muli arg0 c4_i32_86
  let v197 : BitVec 32 := Scalar.addi v196 c0_i32_87
  let v209 : Index := Scalar.indexCast v197
  let c0_93 : Index := 0#32
  let c9 : Index := 9#32
  ![v209.toNat, 0, 9]
def k0_off7 (i : grid0.Coords) (c0_i32_135 : BitVec 32) : Fin 4 → Nat :=
  let arg0 : BitVec 32 := BitVec.ofNat 32 (i 0).val
  let c4_i32_134 : BitVec 32 := 4#32
  let v282 : BitVec 32 := Scalar.muli arg0 c4_i32_134
  let v283 : BitVec 32 := Scalar.addi v282 c0_i32_135
  let v285 : Index := Scalar.indexCast v283
  let c0_136 : Index := 0#32
  let c2_137 : Index := 2#32
  let c0_138 : Index := 0#32
  ![v285.toNat, 0, 2, 0]
def k0_off8 (i : grid0.Coords) (c0_i32_135 : BitVec 32) : Fin 3 → Nat :=
  let arg0 : BitVec 32 := BitVec.ofNat 32 (i 0).val
  let c4_i32_134 : BitVec 32 := 4#32
  let v282 : BitVec 32 := Scalar.muli arg0 c4_i32_134
  let v283 : BitVec 32 := Scalar.addi v282 c0_i32_135
  let v290 : Index := Scalar.indexCast v283
  let c0_139 : Index := 0#32
  let c2_140 : Index := 2#32
  ![v290.toNat, 0, 2]
def k0_off9 (i : grid0.Coords) (c0_i32_135 : BitVec 32) : Fin 3 → Nat :=
  let arg0 : BitVec 32 := BitVec.ofNat 32 (i 0).val
  let c4_i32_134 : BitVec 32 := 4#32
  let v282 : BitVec 32 := Scalar.muli arg0 c4_i32_134
  let v283 : BitVec 32 := Scalar.addi v282 c0_i32_135
  let v295 : Index := Scalar.indexCast v283
  let c0_141 : Index := 0#32
  let c10 : Index := 10#32
  ![v295.toNat, 0, 10]
def k0_off10 (i : grid0.Coords) (c0_i32_183 : BitVec 32) : Fin 4 → Nat :=
  let arg0 : BitVec 32 := BitVec.ofNat 32 (i 0).val
  let c4_i32_182 : BitVec 32 := 4#32
  let v368 : BitVec 32 := Scalar.muli arg0 c4_i32_182
  let v369 : BitVec 32 := Scalar.addi v368 c0_i32_183
  let v371 : Index := Scalar.indexCast v369
  let c0_184 : Index := 0#32
  let c3_185 : Index := 3#32
  let c0_186 : Index := 0#32
  ![v371.toNat, 0, 3, 0]
def k0_off11 (i : grid0.Coords) (c0_i32_183 : BitVec 32) : Fin 3 → Nat :=
  let arg0 : BitVec 32 := BitVec.ofNat 32 (i 0).val
  let c4_i32_182 : BitVec 32 := 4#32
  let v368 : BitVec 32 := Scalar.muli arg0 c4_i32_182
  let v369 : BitVec 32 := Scalar.addi v368 c0_i32_183
  let v376 : Index := Scalar.indexCast v369
  let c0_187 : Index := 0#32
  let c3_188 : Index := 3#32
  ![v376.toNat, 0, 3]
def k0_off12 (i : grid0.Coords) (c0_i32_183 : BitVec 32) : Fin 3 → Nat :=
  let arg0 : BitVec 32 := BitVec.ofNat 32 (i 0).val
  let c4_i32_182 : BitVec 32 := 4#32
  let v368 : BitVec 32 := Scalar.muli arg0 c4_i32_182
  let v369 : BitVec 32 := Scalar.addi v368 c0_i32_183
  let v381 : Index := Scalar.indexCast v369
  let c0_189 : Index := 0#32
  let c11 : Index := 11#32
  ![v381.toNat, 0, 11]
def k0_off13 (i : grid0.Coords) (c0_i32_231 : BitVec 32) : Fin 4 → Nat :=
  let arg0 : BitVec 32 := BitVec.ofNat 32 (i 0).val
  let c4_i32_230 : BitVec 32 := 4#32
  let v454 : BitVec 32 := Scalar.muli arg0 c4_i32_230
  let v455 : BitVec 32 := Scalar.addi v454 c0_i32_231
  let v457 : Index := Scalar.indexCast v455
  let c0_232 : Index := 0#32
  let c4_233 : Index := 4#32
  let c0_234 : Index := 0#32
  ![v457.toNat, 0, 4, 0]
def k0_off14 (i : grid0.Coords) (c0_i32_231 : BitVec 32) : Fin 3 → Nat :=
  let arg0 : BitVec 32 := BitVec.ofNat 32 (i 0).val
  let c4_i32_230 : BitVec 32 := 4#32
  let v454 : BitVec 32 := Scalar.muli arg0 c4_i32_230
  let v455 : BitVec 32 := Scalar.addi v454 c0_i32_231
  let v462 : Index := Scalar.indexCast v455
  let c0_235 : Index := 0#32
  let c4_236 : Index := 4#32
  ![v462.toNat, 0, 4]
def k0_off15 (i : grid0.Coords) (c0_i32_231 : BitVec 32) : Fin 3 → Nat :=
  let arg0 : BitVec 32 := BitVec.ofNat 32 (i 0).val
  let c4_i32_230 : BitVec 32 := 4#32
  let v454 : BitVec 32 := Scalar.muli arg0 c4_i32_230
  let v455 : BitVec 32 := Scalar.addi v454 c0_i32_231
  let v467 : Index := Scalar.indexCast v455
  let c0_237 : Index := 0#32
  let c12 : Index := 12#32
  ![v467.toNat, 0, 12]
def k0_off16 (i : grid0.Coords) (c0_i32_279 : BitVec 32) : Fin 4 → Nat :=
  let arg0 : BitVec 32 := BitVec.ofNat 32 (i 0).val
  let c4_i32_278 : BitVec 32 := 4#32
  let v540 : BitVec 32 := Scalar.muli arg0 c4_i32_278
  let v541 : BitVec 32 := Scalar.addi v540 c0_i32_279
  let v543 : Index := Scalar.indexCast v541
  let c0_280 : Index := 0#32
  let c5_281 : Index := 5#32
  let c0_282 : Index := 0#32
  ![v543.toNat, 0, 5, 0]
def k0_off17 (i : grid0.Coords) (c0_i32_279 : BitVec 32) : Fin 3 → Nat :=
  let arg0 : BitVec 32 := BitVec.ofNat 32 (i 0).val
  let c4_i32_278 : BitVec 32 := 4#32
  let v540 : BitVec 32 := Scalar.muli arg0 c4_i32_278
  let v541 : BitVec 32 := Scalar.addi v540 c0_i32_279
  let v548 : Index := Scalar.indexCast v541
  let c0_283 : Index := 0#32
  let c5_284 : Index := 5#32
  ![v548.toNat, 0, 5]
def k0_off18 (i : grid0.Coords) (c0_i32_279 : BitVec 32) : Fin 3 → Nat :=
  let arg0 : BitVec 32 := BitVec.ofNat 32 (i 0).val
  let c4_i32_278 : BitVec 32 := 4#32
  let v540 : BitVec 32 := Scalar.muli arg0 c4_i32_278
  let v541 : BitVec 32 := Scalar.addi v540 c0_i32_279
  let v553 : Index := Scalar.indexCast v541
  let c0_285 : Index := 0#32
  let c13 : Index := 13#32
  ![v553.toNat, 0, 13]
def k0_off19 (i : grid0.Coords) (c0_i32_327 : BitVec 32) : Fin 4 → Nat :=
  let arg0 : BitVec 32 := BitVec.ofNat 32 (i 0).val
  let c4_i32_326 : BitVec 32 := 4#32
  let v626 : BitVec 32 := Scalar.muli arg0 c4_i32_326
  let v627 : BitVec 32 := Scalar.addi v626 c0_i32_327
  let v629 : Index := Scalar.indexCast v627
  let c0_328 : Index := 0#32
  let c6_329 : Index := 6#32
  let c0_330 : Index := 0#32
  ![v629.toNat, 0, 6, 0]
def k0_off20 (i : grid0.Coords) (c0_i32_327 : BitVec 32) : Fin 3 → Nat :=
  let arg0 : BitVec 32 := BitVec.ofNat 32 (i 0).val
  let c4_i32_326 : BitVec 32 := 4#32
  let v626 : BitVec 32 := Scalar.muli arg0 c4_i32_326
  let v627 : BitVec 32 := Scalar.addi v626 c0_i32_327
  let v634 : Index := Scalar.indexCast v627
  let c0_331 : Index := 0#32
  let c6_332 : Index := 6#32
  ![v634.toNat, 0, 6]
def k0_off21 (i : grid0.Coords) (c0_i32_327 : BitVec 32) : Fin 3 → Nat :=
  let arg0 : BitVec 32 := BitVec.ofNat 32 (i 0).val
  let c4_i32_326 : BitVec 32 := 4#32
  let v626 : BitVec 32 := Scalar.muli arg0 c4_i32_326
  let v627 : BitVec 32 := Scalar.addi v626 c0_i32_327
  let v639 : Index := Scalar.indexCast v627
  let c0_333 : Index := 0#32
  let c14 : Index := 14#32
  ![v639.toNat, 0, 14]
def k0_off22 (i : grid0.Coords) (c0_i32_375 : BitVec 32) : Fin 4 → Nat :=
  let arg0 : BitVec 32 := BitVec.ofNat 32 (i 0).val
  let c4_i32_374 : BitVec 32 := 4#32
  let v712 : BitVec 32 := Scalar.muli arg0 c4_i32_374
  let v713 : BitVec 32 := Scalar.addi v712 c0_i32_375
  let v715 : Index := Scalar.indexCast v713
  let c0_376 : Index := 0#32
  let c7_377 : Index := 7#32
  let c0_378 : Index := 0#32
  ![v715.toNat, 0, 7, 0]
def k0_off23 (i : grid0.Coords) (c0_i32_375 : BitVec 32) : Fin 3 → Nat :=
  let arg0 : BitVec 32 := BitVec.ofNat 32 (i 0).val
  let c4_i32_374 : BitVec 32 := 4#32
  let v712 : BitVec 32 := Scalar.muli arg0 c4_i32_374
  let v713 : BitVec 32 := Scalar.addi v712 c0_i32_375
  let v720 : Index := Scalar.indexCast v713
  let c0_379 : Index := 0#32
  let c7_380 : Index := 7#32
  ![v720.toNat, 0, 7]
def k0_off24 (i : grid0.Coords) (c0_i32_375 : BitVec 32) : Fin 3 → Nat :=
  let arg0 : BitVec 32 := BitVec.ofNat 32 (i 0).val
  let c4_i32_374 : BitVec 32 := 4#32
  let v712 : BitVec 32 := Scalar.muli arg0 c4_i32_374
  let v713 : BitVec 32 := Scalar.addi v712 c0_i32_375
  let v725 : Index := Scalar.indexCast v713
  let c0_381 : Index := 0#32
  let c15 : Index := 15#32
  ![v725.toNat, 0, 15]
def k0_cond2 (i : grid0.Coords) (d0 : Dev nD) : BitVec 1 :=
  let arg0 : BitVec 32 := BitVec.ofNat 32 (i 0).val
  let c4_i32_409 : BitVec 32 := 4#32
  let v780 : BitVec 32 := Scalar.muli arg0 c4_i32_409
  let c0_i32_410 : BitVec 32 := 0#32
  let v781 : BitVec 32 := Scalar.addi v780 c0_i32_410
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v782 : BitVec 1 := Scalar.cmpi .ne v781 v2
  let v783 : BitVec 32 := Scalar.extui v782
  let c0_i32_411 : BitVec 32 := 0#32
  let v784 : BitVec 1 := Scalar.cmpi .ne v783 c0_i32_411
  v784

def k0_off25 (i : grid0.Coords) : Fin 1 → Nat :=
  let arg0 : BitVec 32 := BitVec.ofNat 32 (i 0).val
  let c4_i32_409 : BitVec 32 := 4#32
  let v780 : BitVec 32 := Scalar.muli arg0 c4_i32_409
  let c0_i32_410 : BitVec 32 := 0#32
  let v781 : BitVec 32 := Scalar.addi v780 c0_i32_410
  ![v781.toNat]
def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off27 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_425 : BitVec 32 := 0#32
  let c0_i32_426 : BitVec 32 := 0#32
  let c0_i32_427 : BitVec 32 := 0#32
  ![v2.toNat, 0, 0, 0]
def k0_off28 (i : grid0.Coords) : Fin 4 → Nat :=
  let arg0 : BitVec 32 := BitVec.ofNat 32 (i 0).val
  let c4_i32_409 : BitVec 32 := 4#32
  let v780 : BitVec 32 := Scalar.muli arg0 c4_i32_409
  let c0_i32_410 : BitVec 32 := 0#32
  let v781 : BitVec 32 := Scalar.addi v780 c0_i32_410
  let c0_i32_428 : BitVec 32 := 0#32
  let c0_i32_429 : BitVec 32 := 0#32
  let c0_i32_430 : BitVec 32 := 0#32
  ![v781.toNat, 0, 0, 0]
def k0_dev2 (i : grid0.Coords) : Nat :=
  let c0_i32_424 : BitVec 32 := 0#32
  let arg0 : BitVec 32 := BitVec.ofNat 32 (i 0).val
  let c4_i32_409 : BitVec 32 := 4#32
  let v780 : BitVec 32 := Scalar.muli arg0 c4_i32_409
  let c0_i32_410 : BitVec 32 := 0#32
  let v781 : BitVec 32 := Scalar.addi v780 c0_i32_410
  let c1_i32_423 : BitVec 32 := 1#32
  let v803 : BitVec 32 := Scalar.muli v781 c1_i32_423
  let v804 : BitVec 32 := Scalar.addi c0_i32_424 v803
  v804.toNat
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_433 : BitVec 32 := 0#32
  let c0_i32_434 : BitVec 32 := 0#32
  ![v2.toNat, 0, 0]
def k0_off30 (i : grid0.Coords) : Fin 3 → Nat :=
  let arg0 : BitVec 32 := BitVec.ofNat 32 (i 0).val
  let c4_i32_409 : BitVec 32 := 4#32
  let v780 : BitVec 32 := Scalar.muli arg0 c4_i32_409
  let c0_i32_410 : BitVec 32 := 0#32
  let v781 : BitVec 32 := Scalar.addi v780 c0_i32_410
  let c0_i32_435 : BitVec 32 := 0#32
  let c0_i32_436 : BitVec 32 := 0#32
  ![v781.toNat, 0, 0]
def k0_dev3 (i : grid0.Coords) : Nat :=
  let c0_i32_432 : BitVec 32 := 0#32
  let arg0 : BitVec 32 := BitVec.ofNat 32 (i 0).val
  let c4_i32_409 : BitVec 32 := 4#32
  let v780 : BitVec 32 := Scalar.muli arg0 c4_i32_409
  let c0_i32_410 : BitVec 32 := 0#32
  let v781 : BitVec 32 := Scalar.addi v780 c0_i32_410
  let c1_i32_431 : BitVec 32 := 1#32
  let v813 : BitVec 32 := Scalar.muli v781 c1_i32_431
  let v814 : BitVec 32 := Scalar.addi c0_i32_432 v813
  v814.toNat
def k0_cond3 (i : grid0.Coords) (d0 : Dev nD) : BitVec 1 :=
  let arg0 : BitVec 32 := BitVec.ofNat 32 (i 0).val
  let c4_i32_412 : BitVec 32 := 4#32
  let v785 : BitVec 32 := Scalar.muli arg0 c4_i32_412
  let c1_i32_413 : BitVec 32 := 1#32
  let v786 : BitVec 32 := Scalar.addi v785 c1_i32_413
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v787 : BitVec 1 := Scalar.cmpi .ne v786 v2
  let v788 : BitVec 32 := Scalar.extui v787
  let c0_i32_414 : BitVec 32 := 0#32
  let v789 : BitVec 1 := Scalar.cmpi .ne v788 c0_i32_414
  v789

def k0_off31 (i : grid0.Coords) : Fin 1 → Nat :=
  let arg0 : BitVec 32 := BitVec.ofNat 32 (i 0).val
  let c4_i32_412 : BitVec 32 := 4#32
  let v785 : BitVec 32 := Scalar.muli arg0 c4_i32_412
  let c1_i32_413 : BitVec 32 := 1#32
  let v786 : BitVec 32 := Scalar.addi v785 c1_i32_413
  ![v786.toNat]
def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_425 : BitVec 32 := 0#32
  let c0_i32_426 : BitVec 32 := 0#32
  let c0_i32_427 : BitVec 32 := 0#32
  ![v2.toNat, 0, 0, 0]
def k0_off34 (i : grid0.Coords) : Fin 4 → Nat :=
  let arg0 : BitVec 32 := BitVec.ofNat 32 (i 0).val
  let c4_i32_412 : BitVec 32 := 4#32
  let v785 : BitVec 32 := Scalar.muli arg0 c4_i32_412
  let c1_i32_413 : BitVec 32 := 1#32
  let v786 : BitVec 32 := Scalar.addi v785 c1_i32_413
  let c0_i32_428 : BitVec 32 := 0#32
  let c0_i32_429 : BitVec 32 := 0#32
  let c0_i32_430 : BitVec 32 := 0#32
  ![v786.toNat, 0, 0, 0]
def k0_dev4 (i : grid0.Coords) : Nat :=
  let c0_i32_424 : BitVec 32 := 0#32
  let arg0 : BitVec 32 := BitVec.ofNat 32 (i 0).val
  let c4_i32_412 : BitVec 32 := 4#32
  let v785 : BitVec 32 := Scalar.muli arg0 c4_i32_412
  let c1_i32_413 : BitVec 32 := 1#32
  let v786 : BitVec 32 := Scalar.addi v785 c1_i32_413
  let c1_i32_423 : BitVec 32 := 1#32
  let v803 : BitVec 32 := Scalar.muli v786 c1_i32_423
  let v804 : BitVec 32 := Scalar.addi c0_i32_424 v803
  v804.toNat
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_433 : BitVec 32 := 0#32
  let c0_i32_434 : BitVec 32 := 0#32
  ![v2.toNat, 0, 0]
def k0_off36 (i : grid0.Coords) : Fin 3 → Nat :=
  let arg0 : BitVec 32 := BitVec.ofNat 32 (i 0).val
  let c4_i32_412 : BitVec 32 := 4#32
  let v785 : BitVec 32 := Scalar.muli arg0 c4_i32_412
  let c1_i32_413 : BitVec 32 := 1#32
  let v786 : BitVec 32 := Scalar.addi v785 c1_i32_413
  let c0_i32_435 : BitVec 32 := 0#32
  let c0_i32_436 : BitVec 32 := 0#32
  ![v786.toNat, 0, 0]
def k0_dev5 (i : grid0.Coords) : Nat :=
  let c0_i32_432 : BitVec 32 := 0#32
  let arg0 : BitVec 32 := BitVec.ofNat 32 (i 0).val
  let c4_i32_412 : BitVec 32 := 4#32
  let v785 : BitVec 32 := Scalar.muli arg0 c4_i32_412
  let c1_i32_413 : BitVec 32 := 1#32
  let v786 : BitVec 32 := Scalar.addi v785 c1_i32_413
  let c1_i32_431 : BitVec 32 := 1#32
  let v813 : BitVec 32 := Scalar.muli v786 c1_i32_431
  let v814 : BitVec 32 := Scalar.addi c0_i32_432 v813
  v814.toNat
def k0_cond4 (i : grid0.Coords) (d0 : Dev nD) : BitVec 1 :=
  let arg0 : BitVec 32 := BitVec.ofNat 32 (i 0).val
  let c4_i32_415 : BitVec 32 := 4#32
  let v790 : BitVec 32 := Scalar.muli arg0 c4_i32_415
  let c2_i32_416 : BitVec 32 := 2#32
  let v791 : BitVec 32 := Scalar.addi v790 c2_i32_416
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v792 : BitVec 1 := Scalar.cmpi .ne v791 v2
  let v793 : BitVec 32 := Scalar.extui v792
  let c0_i32_417 : BitVec 32 := 0#32
  let v794 : BitVec 1 := Scalar.cmpi .ne v793 c0_i32_417
  v794

def k0_off37 (i : grid0.Coords) : Fin 1 → Nat :=
  let arg0 : BitVec 32 := BitVec.ofNat 32 (i 0).val
  let c4_i32_415 : BitVec 32 := 4#32
  let v790 : BitVec 32 := Scalar.muli arg0 c4_i32_415
  let c2_i32_416 : BitVec 32 := 2#32
  let v791 : BitVec 32 := Scalar.addi v790 c2_i32_416
  ![v791.toNat]
def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_425 : BitVec 32 := 0#32
  let c0_i32_426 : BitVec 32 := 0#32
  let c0_i32_427 : BitVec 32 := 0#32
  ![v2.toNat, 0, 0, 0]
def k0_off40 (i : grid0.Coords) : Fin 4 → Nat :=
  let arg0 : BitVec 32 := BitVec.ofNat 32 (i 0).val
  let c4_i32_415 : BitVec 32 := 4#32
  let v790 : BitVec 32 := Scalar.muli arg0 c4_i32_415
  let c2_i32_416 : BitVec 32 := 2#32
  let v791 : BitVec 32 := Scalar.addi v790 c2_i32_416
  let c0_i32_428 : BitVec 32 := 0#32
  let c0_i32_429 : BitVec 32 := 0#32
  let c0_i32_430 : BitVec 32 := 0#32
  ![v791.toNat, 0, 0, 0]
def k0_dev6 (i : grid0.Coords) : Nat :=
  let c0_i32_424 : BitVec 32 := 0#32
  let arg0 : BitVec 32 := BitVec.ofNat 32 (i 0).val
  let c4_i32_415 : BitVec 32 := 4#32
  let v790 : BitVec 32 := Scalar.muli arg0 c4_i32_415
  let c2_i32_416 : BitVec 32 := 2#32
  let v791 : BitVec 32 := Scalar.addi v790 c2_i32_416
  let c1_i32_423 : BitVec 32 := 1#32
  let v803 : BitVec 32 := Scalar.muli v791 c1_i32_423
  let v804 : BitVec 32 := Scalar.addi c0_i32_424 v803
  v804.toNat
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_433 : BitVec 32 := 0#32
  let c0_i32_434 : BitVec 32 := 0#32
  ![v2.toNat, 0, 0]
def k0_off42 (i : grid0.Coords) : Fin 3 → Nat :=
  let arg0 : BitVec 32 := BitVec.ofNat 32 (i 0).val
  let c4_i32_415 : BitVec 32 := 4#32
  let v790 : BitVec 32 := Scalar.muli arg0 c4_i32_415
  let c2_i32_416 : BitVec 32 := 2#32
  let v791 : BitVec 32 := Scalar.addi v790 c2_i32_416
  let c0_i32_435 : BitVec 32 := 0#32
  let c0_i32_436 : BitVec 32 := 0#32
  ![v791.toNat, 0, 0]
def k0_dev7 (i : grid0.Coords) : Nat :=
  let c0_i32_432 : BitVec 32 := 0#32
  let arg0 : BitVec 32 := BitVec.ofNat 32 (i 0).val
  let c4_i32_415 : BitVec 32 := 4#32
  let v790 : BitVec 32 := Scalar.muli arg0 c4_i32_415
  let c2_i32_416 : BitVec 32 := 2#32
  let v791 : BitVec 32 := Scalar.addi v790 c2_i32_416
  let c1_i32_431 : BitVec 32 := 1#32
  let v813 : BitVec 32 := Scalar.muli v791 c1_i32_431
  let v814 : BitVec 32 := Scalar.addi c0_i32_432 v813
  v814.toNat
def k0_cond5 (i : grid0.Coords) (d0 : Dev nD) : BitVec 1 :=
  let arg0 : BitVec 32 := BitVec.ofNat 32 (i 0).val
  let c4_i32_418 : BitVec 32 := 4#32
  let v795 : BitVec 32 := Scalar.muli arg0 c4_i32_418
  let c3_i32_419 : BitVec 32 := 3#32
  let v796 : BitVec 32 := Scalar.addi v795 c3_i32_419
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v797 : BitVec 1 := Scalar.cmpi .ne v796 v2
  let v798 : BitVec 32 := Scalar.extui v797
  let c0_i32_420 : BitVec 32 := 0#32
  let v799 : BitVec 1 := Scalar.cmpi .ne v798 c0_i32_420
  v799

def k0_off43 (i : grid0.Coords) : Fin 1 → Nat :=
  let arg0 : BitVec 32 := BitVec.ofNat 32 (i 0).val
  let c4_i32_418 : BitVec 32 := 4#32
  let v795 : BitVec 32 := Scalar.muli arg0 c4_i32_418
  let c3_i32_419 : BitVec 32 := 3#32
  let v796 : BitVec 32 := Scalar.addi v795 c3_i32_419
  ![v796.toNat]
def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_425 : BitVec 32 := 0#32
  let c0_i32_426 : BitVec 32 := 0#32
  let c0_i32_427 : BitVec 32 := 0#32
  ![v2.toNat, 0, 0, 0]
def k0_off46 (i : grid0.Coords) : Fin 4 → Nat :=
  let arg0 : BitVec 32 := BitVec.ofNat 32 (i 0).val
  let c4_i32_418 : BitVec 32 := 4#32
  let v795 : BitVec 32 := Scalar.muli arg0 c4_i32_418
  let c3_i32_419 : BitVec 32 := 3#32
  let v796 : BitVec 32 := Scalar.addi v795 c3_i32_419
  let c0_i32_428 : BitVec 32 := 0#32
  let c0_i32_429 : BitVec 32 := 0#32
  let c0_i32_430 : BitVec 32 := 0#32
  ![v796.toNat, 0, 0, 0]
def k0_dev8 (i : grid0.Coords) : Nat :=
  let c0_i32_424 : BitVec 32 := 0#32
  let arg0 : BitVec 32 := BitVec.ofNat 32 (i 0).val
  let c4_i32_418 : BitVec 32 := 4#32
  let v795 : BitVec 32 := Scalar.muli arg0 c4_i32_418
  let c3_i32_419 : BitVec 32 := 3#32
  let v796 : BitVec 32 := Scalar.addi v795 c3_i32_419
  let c1_i32_423 : BitVec 32 := 1#32
  let v803 : BitVec 32 := Scalar.muli v796 c1_i32_423
  let v804 : BitVec 32 := Scalar.addi c0_i32_424 v803
  v804.toNat
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_433 : BitVec 32 := 0#32
  let c0_i32_434 : BitVec 32 := 0#32
  ![v2.toNat, 0, 0]
def k0_off48 (i : grid0.Coords) : Fin 3 → Nat :=
  let arg0 : BitVec 32 := BitVec.ofNat 32 (i 0).val
  let c4_i32_418 : BitVec 32 := 4#32
  let v795 : BitVec 32 := Scalar.muli arg0 c4_i32_418
  let c3_i32_419 : BitVec 32 := 3#32
  let v796 : BitVec 32 := Scalar.addi v795 c3_i32_419
  let c0_i32_435 : BitVec 32 := 0#32
  let c0_i32_436 : BitVec 32 := 0#32
  ![v796.toNat, 0, 0]
def k0_dev9 (i : grid0.Coords) : Nat :=
  let c0_i32_432 : BitVec 32 := 0#32
  let arg0 : BitVec 32 := BitVec.ofNat 32 (i 0).val
  let c4_i32_418 : BitVec 32 := 4#32
  let v795 : BitVec 32 := Scalar.muli arg0 c4_i32_418
  let c3_i32_419 : BitVec 32 := 3#32
  let v796 : BitVec 32 := Scalar.addi v795 c3_i32_419
  let c1_i32_431 : BitVec 32 := 1#32
  let v813 : BitVec 32 := Scalar.muli v796 c1_i32_431
  let v814 : BitVec 32 := Scalar.addi c0_i32_432 v813
  v814.toNat
def k0_cond6 (i : grid0.Coords) : BitVec 1 :=
  let arg0 : BitVec 32 := BitVec.ofNat 32 (i 0).val
  let c3_i32_421 : BitVec 32 := 3#32
  let v800 : BitVec 1 := Scalar.cmpi .eq arg0 c3_i32_421
  let v801 : BitVec 32 := Scalar.extui v800
  let c0_i32_422 : BitVec 32 := 0#32
  let v802 : BitVec 1 := Scalar.cmpi .ne v801 c0_i32_422
  v802

def k0_off49 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v803 : Index := Scalar.indexCast v2
  let c0_423 : Index := 0#32
  let c0_424 : Index := 0#32
  let c0_425 : Index := 0#32
  ![v803.toNat, 0, 0, 0]
def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v806 : Index := Scalar.indexCast v2
  let c0_426 : Index := 0#32
  let c0_427 : Index := 0#32
  ![v806.toNat, 0, 0]
@[reducible] def k0_t2_loop : Scf.Loop 32 :=
  let c0_i32_428 : BitVec 32 := 0#32
  let c15_i32 : BitVec 32 := 15#32
  let v809 : BitVec 32 := Scalar.addi c0_i32_428 c15_i32
  let c1_i32_429 : BitVec 32 := 1#32
  ⟨c0_i32_428, v809, c1_i32_429⟩
def k0_off51 (d0 : Dev nD) (k0_t2 : Fin k0_t2_loop.trips) : Fin 1 → Nat :=
  let c0_i32_428 : BitVec 32 := 0#32
  let c1_i32_429 : BitVec 32 := 1#32
  let arg18 : BitVec 32 := Scf.iv c0_i32_428 c1_i32_429 k0_t2
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v878 : BitVec 1 := Scalar.cmpi .sge arg18 v2
  let c1_i32_467 : BitVec 32 := 1#32
  let c0_i32_468 : BitVec 32 := 0#32
  let v879 : BitVec 32 := Scalar.select v878 c1_i32_467 c0_i32_468
  let v880 : BitVec 32 := Scalar.addi arg18 v879
  ![v880.toNat]
def k0_off52 (d0 : Dev nD) (k0_t2 : Fin k0_t2_loop.trips) : Fin 4 → Nat :=
  let c0_i32_428 : BitVec 32 := 0#32
  let c1_i32_429 : BitVec 32 := 1#32
  let arg18 : BitVec 32 := Scf.iv c0_i32_428 c1_i32_429 k0_t2
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v878 : BitVec 1 := Scalar.cmpi .sge arg18 v2
  let c1_i32_467 : BitVec 32 := 1#32
  let c0_i32_468 : BitVec 32 := 0#32
  let v879 : BitVec 32 := Scalar.select v878 c1_i32_467 c0_i32_468
  let v880 : BitVec 32 := Scalar.addi arg18 v879
  let c0_i32_471 : BitVec 32 := 0#32
  let c0_i32_472 : BitVec 32 := 0#32
  let c0_i32_473 : BitVec 32 := 0#32
  ![v880.toNat, 0, 0, 0]
def k0_off53 (d0 : Dev nD) (k0_t2 : Fin k0_t2_loop.trips) : Fin 3 → Nat :=
  let c0_i32_428 : BitVec 32 := 0#32
  let c1_i32_429 : BitVec 32 := 1#32
  let arg18 : BitVec 32 := Scf.iv c0_i32_428 c1_i32_429 k0_t2
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v878 : BitVec 1 := Scalar.cmpi .sge arg18 v2
  let c1_i32_467 : BitVec 32 := 1#32
  let c0_i32_468 : BitVec 32 := 0#32
  let v879 : BitVec 32 := Scalar.select v878 c1_i32_467 c0_i32_468
  let v880 : BitVec 32 := Scalar.addi arg18 v879
  let c0_i32_479 : BitVec 32 := 0#32
  let c0_i32_480 : BitVec 32 := 0#32
  ![v880.toNat, 0, 0]
def k0_off54 (d0 : Dev nD) (k0_t2 : Fin k0_t2_loop.trips) : Fin 4 → Nat :=
  let c0_i32_428 : BitVec 32 := 0#32
  let c1_i32_429 : BitVec 32 := 1#32
  let arg18 : BitVec 32 := Scf.iv c0_i32_428 c1_i32_429 k0_t2
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v878 : BitVec 1 := Scalar.cmpi .sge arg18 v2
  let c1_i32_467 : BitVec 32 := 1#32
  let c0_i32_468 : BitVec 32 := 0#32
  let v879 : BitVec 32 := Scalar.select v878 c1_i32_467 c0_i32_468
  let v880 : BitVec 32 := Scalar.addi arg18 v879
  let v897 : Index := Scalar.indexCast v880
  let c0_483 : Index := 0#32
  let c0_484 : Index := 0#32
  let c0_485 : Index := 0#32
  ![v897.toNat, 0, 0, 0]
def k0_off55 (d0 : Dev nD) (k0_t2 : Fin k0_t2_loop.trips) : Fin 3 → Nat :=
  let c0_i32_428 : BitVec 32 := 0#32
  let c1_i32_429 : BitVec 32 := 1#32
  let arg18 : BitVec 32 := Scf.iv c0_i32_428 c1_i32_429 k0_t2
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v878 : BitVec 1 := Scalar.cmpi .sge arg18 v2
  let c1_i32_467 : BitVec 32 := 1#32
  let c0_i32_468 : BitVec 32 := 0#32
  let v879 : BitVec 32 := Scalar.select v878 c1_i32_467 c0_i32_468
  let v880 : BitVec 32 := Scalar.addi arg18 v879
  let v900 : Index := Scalar.indexCast v880
  let c0_486 : Index := 0#32
  let c0_487 : Index := 0#32
  ![v900.toNat, 0, 0]
def k0_off56 (d0 : Dev nD) : Fin 3 → Nat :=
  let c0_451 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_450 : BitVec 32 := 64#32
  let v866 : BitVec 32 := Scalar.muli v2 c64_i32_450
  let v867 : Index := Scalar.indexCast v866
  let c0_452 : Index := 0#32
  ![0, v867.toNat, 0]
def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v871 : Index := Scalar.indexCast v2
  let c0_453 : Index := 0#32
  let c0_454 : Index := 0#32
  ![v871.toNat, 0, 0]
@[reducible] def k0_t3_loop : Scf.Loop 32 :=
  let c0_i32_455 : BitVec 32 := 0#32
  let c15_i32_456 : BitVec 32 := 15#32
  let v875 : BitVec 32 := Scalar.addi c0_i32_455 c15_i32_456
  let c1_i32_457 : BitVec 32 := 1#32
  ⟨c0_i32_455, v875, c1_i32_457⟩
def k0_off58 (d0 : Dev nD) (k0_t3 : Fin k0_t3_loop.trips) : Fin 1 → Nat :=
  let c0_i32_455 : BitVec 32 := 0#32
  let c1_i32_457 : BitVec 32 := 1#32
  let arg18 : BitVec 32 := Scf.iv c0_i32_455 c1_i32_457 k0_t3
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v878 : BitVec 1 := Scalar.cmpi .sge arg18 v2
  let c1_i32_467 : BitVec 32 := 1#32
  let c0_i32_468 : BitVec 32 := 0#32
  let v879 : BitVec 32 := Scalar.select v878 c1_i32_467 c0_i32_468
  let v880 : BitVec 32 := Scalar.addi arg18 v879
  ![v880.toNat]
def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_471 : BitVec 32 := 0#32
  let c0_i32_472 : BitVec 32 := 0#32
  ![v2.toNat, 0, 0]
def k0_dev10 (d0 : Dev nD) (k0_t3 : Fin k0_t3_loop.trips) : Nat :=
  let c0_i32_470 : BitVec 32 := 0#32
  let c0_i32_455 : BitVec 32 := 0#32
  let c1_i32_457 : BitVec 32 := 1#32
  let arg18 : BitVec 32 := Scf.iv c0_i32_455 c1_i32_457 k0_t3
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v878 : BitVec 1 := Scalar.cmpi .sge arg18 v2
  let c1_i32_467 : BitVec 32 := 1#32
  let c0_i32_468 : BitVec 32 := 0#32
  let v879 : BitVec 32 := Scalar.select v878 c1_i32_467 c0_i32_468
  let v880 : BitVec 32 := Scalar.addi arg18 v879
  let c1_i32_469 : BitVec 32 := 1#32
  let v881 : BitVec 32 := Scalar.muli v880 c1_i32_469
  let v882 : BitVec 32 := Scalar.addi c0_i32_470 v881
  v882.toNat
@[reducible] def k0_t4_loop : Scf.Loop 32 :=
  let c0_i32_459 : BitVec 32 := 0#32
  let c15_i32_460 : BitVec 32 := 15#32
  let v876 : BitVec 32 := Scalar.addi c0_i32_459 c15_i32_460
  let c1_i32_461 : BitVec 32 := 1#32
  ⟨c0_i32_459, v876, c1_i32_461⟩
def k0_off61 (d0 : Dev nD) (k0_t4 : Fin k0_t4_loop.trips) : Fin 1 → Nat :=
  let c0_i32_459 : BitVec 32 := 0#32
  let c1_i32_461 : BitVec 32 := 1#32
  let arg18 : BitVec 32 := Scf.iv c0_i32_459 c1_i32_461 k0_t4
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v878 : BitVec 1 := Scalar.cmpi .sge arg18 v2
  let c1_i32_467 : BitVec 32 := 1#32
  let c0_i32_468 : BitVec 32 := 0#32
  let v879 : BitVec 32 := Scalar.select v878 c1_i32_467 c0_i32_468
  let v880 : BitVec 32 := Scalar.addi arg18 v879
  ![v880.toNat]
def k0_off62 (d0 : Dev nD) (k0_t4 : Fin k0_t4_loop.trips) : Fin 3 → Nat :=
  let c0_i32_459 : BitVec 32 := 0#32
  let c1_i32_461 : BitVec 32 := 1#32
  let arg18 : BitVec 32 := Scf.iv c0_i32_459 c1_i32_461 k0_t4
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v878 : BitVec 1 := Scalar.cmpi .sge arg18 v2
  let c1_i32_467 : BitVec 32 := 1#32
  let c0_i32_468 : BitVec 32 := 0#32
  let v879 : BitVec 32 := Scalar.select v878 c1_i32_467 c0_i32_468
  let v880 : BitVec 32 := Scalar.addi arg18 v879
  let c0_i32_471 : BitVec 32 := 0#32
  let c0_i32_472 : BitVec 32 := 0#32
  ![v880.toNat, 0, 0]
def k0_off63 (d0 : Dev nD) (k0_t4 : Fin k0_t4_loop.trips) : Fin 3 → Nat :=
  let c0_i32_459 : BitVec 32 := 0#32
  let c1_i32_461 : BitVec 32 := 1#32
  let arg18 : BitVec 32 := Scf.iv c0_i32_459 c1_i32_461 k0_t4
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v878 : BitVec 1 := Scalar.cmpi .sge arg18 v2
  let c1_i32_467 : BitVec 32 := 1#32
  let c0_i32_468 : BitVec 32 := 0#32
  let v879 : BitVec 32 := Scalar.select v878 c1_i32_467 c0_i32_468
  let v880 : BitVec 32 := Scalar.addi arg18 v879
  let v889 : Index := Scalar.indexCast v880
  let c0_475 : Index := 0#32
  let c0_476 : Index := 0#32
  ![v889.toNat, 0, 0]
def k0_off64 (d0 : Dev nD) (k0_t4 : Fin k0_t4_loop.trips) : Fin 3 → Nat :=
  let c0_478 : Index := 0#32
  let c0_i32_459 : BitVec 32 := 0#32
  let c1_i32_461 : BitVec 32 := 1#32
  let arg18 : BitVec 32 := Scf.iv c0_i32_459 c1_i32_461 k0_t4
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v878 : BitVec 1 := Scalar.cmpi .sge arg18 v2
  let c1_i32_467 : BitVec 32 := 1#32
  let c0_i32_468 : BitVec 32 := 0#32
  let v879 : BitVec 32 := Scalar.select v878 c1_i32_467 c0_i32_468
  let v880 : BitVec 32 := Scalar.addi arg18 v879
  let c64_i32_477 : BitVec 32 := 64#32
  let v892 : BitVec 32 := Scalar.muli v880 c64_i32_477
  let v893 : Index := Scalar.indexCast v892
  let c0_479 : Index := 0#32
  ![0, v893.toNat, 0]
@[reducible] def k0_t5_loop : Scf.Loop 32 :=
  let c0_i32_463 : BitVec 32 := 0#32
  let c15_i32_464 : BitVec 32 := 15#32
  let v877 : BitVec 32 := Scalar.addi c0_i32_463 c15_i32_464
  let c1_i32_465 : BitVec 32 := 1#32
  ⟨c0_i32_463, v877, c1_i32_465⟩
def k0_off65 (d0 : Dev nD) (k0_t5 : Fin k0_t5_loop.trips) : Fin 1 → Nat :=
  let c0_i32_463 : BitVec 32 := 0#32
  let c1_i32_465 : BitVec 32 := 1#32
  let arg18 : BitVec 32 := Scf.iv c0_i32_463 c1_i32_465 k0_t5
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v878 : BitVec 1 := Scalar.cmpi .sge arg18 v2
  let c1_i32_467 : BitVec 32 := 1#32
  let c0_i32_468 : BitVec 32 := 0#32
  let v879 : BitVec 32 := Scalar.select v878 c1_i32_467 c0_i32_468
  let v880 : BitVec 32 := Scalar.addi arg18 v879
  ![v880.toNat]
def k0_off66 (d0 : Dev nD) (k0_t5 : Fin k0_t5_loop.trips) : Fin 4 → Nat :=
  let c0_i32_463 : BitVec 32 := 0#32
  let c1_i32_465 : BitVec 32 := 1#32
  let arg18 : BitVec 32 := Scf.iv c0_i32_463 c1_i32_465 k0_t5
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v878 : BitVec 1 := Scalar.cmpi .sge arg18 v2
  let c1_i32_467 : BitVec 32 := 1#32
  let c0_i32_468 : BitVec 32 := 0#32
  let v879 : BitVec 32 := Scalar.select v878 c1_i32_467 c0_i32_468
  let v880 : BitVec 32 := Scalar.addi arg18 v879
  let c0_i32_470 : BitVec 32 := 0#32
  let c0_i32_471 : BitVec 32 := 0#32
  let c0_i32_472 : BitVec 32 := 0#32
  ![v880.toNat, 0, 0, 0]
def k0_off67 (d0 : Dev nD) (k0_t5 : Fin k0_t5_loop.trips) : Fin 3 → Nat :=
  let c0_i32_463 : BitVec 32 := 0#32
  let c1_i32_465 : BitVec 32 := 1#32
  let arg18 : BitVec 32 := Scf.iv c0_i32_463 c1_i32_465 k0_t5
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v878 : BitVec 1 := Scalar.cmpi .sge arg18 v2
  let c1_i32_467 : BitVec 32 := 1#32
  let c0_i32_468 : BitVec 32 := 0#32
  let v879 : BitVec 32 := Scalar.select v878 c1_i32_467 c0_i32_468
  let v880 : BitVec 32 := Scalar.addi arg18 v879
  let c0_i32_477 : BitVec 32 := 0#32
  let c0_i32_478 : BitVec 32 := 0#32
  ![v880.toNat, 0, 0]
def k0_off68 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_482 : BitVec 32 := 0#32
  let c0_i32_483 : BitVec 32 := 0#32
  ![v2.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x1024x1024 : Shape := ⟨3, ![1, 1024, 1024]⟩
abbrev S1024x1024 : Shape := ⟨2, ![1024, 1024]⟩
abbrev S1x16384x8x128 : Shape := ⟨4, ![1, 16384, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S16384 : Shape := ⟨1, ![16384]⟩
abbrev S1x16384 : Shape := ⟨2, ![1, 16384]⟩
abbrev S1024x16384 : Shape := ⟨2, ![1024, 16384]⟩
abbrev S1x8x1024x16384 : Shape := ⟨4, ![1, 8, 1024, 16384]⟩
abbrev S1x1x1024x16384 : Shape := ⟨4, ![1, 1, 1024, 16384]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x16384x8x128, .f32⟩
  | .hbm, ⟨3, _⟩ => ⟨S1x16384x8x128, .f32⟩
  | .hbm, ⟨4, _⟩ => ⟨S1024x1024, .f32⟩
  | .hbm, ⟨5, _⟩ => ⟨S1x1024x1024, .f32⟩
  | .hbm, ⟨6, _⟩ => ⟨S1x1024x8x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S16384, .i32⟩
  | .hbm, ⟨28, _⟩ => ⟨S_, .i32⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S1x16384, .i32⟩
  | .hbm, ⟨47, _⟩ => ⟨S1024x16384, .i32⟩
  | .hbm, ⟨48, _⟩ => ⟨S1024x16384, .i32⟩
  | .hbm, ⟨49, _⟩ => ⟨S1024x16384, .i1⟩
  | .hbm, ⟨50, _⟩ => ⟨S_, .i32⟩
  | .hbm, ⟨51, _⟩ => ⟨S1x16384, .i32⟩
  | .hbm, ⟨52, _⟩ => ⟨S1x16384, .i1⟩
  | .hbm, ⟨53, _⟩ => ⟨S1024x16384, .i1⟩
  | .hbm, ⟨54, _⟩ => ⟨S1024x16384, .i1⟩
  | .hbm, ⟨55, _⟩ => ⟨S1024x16384, .i32⟩
  | .hbm, ⟨56, _⟩ => ⟨S1024x16384, .i32⟩
  | .hbm, ⟨57, _⟩ => ⟨S1024x16384, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x16384, .i32⟩
  | .hbm, ⟨65, _⟩ => ⟨S1024x16384, .i32⟩
  | .hbm, ⟨66, _⟩ => ⟨S_, .i32⟩
  | .hbm, ⟨67, _⟩ => ⟨S1024x16384, .i32⟩
  | .hbm, ⟨68, _⟩ => ⟨S1024x16384, .i1⟩
  | .hbm, ⟨69, _⟩ => ⟨S_, .i32⟩
  | .hbm, ⟨70, _⟩ => ⟨S1024x16384, .i32⟩
  | .hbm, ⟨71, _⟩ => ⟨S1024x16384, .i1⟩
  | .hbm, ⟨72, _⟩ => ⟨S_, .i32⟩
  | .hbm, ⟨73, _⟩ => ⟨S_, .i1⟩
  | .hbm, ⟨74, _⟩ => ⟨S1024x16384, .i1⟩
  | .hbm, ⟨75, _⟩ => ⟨S1024x16384, .i1⟩
  | .hbm, ⟨76, _⟩ => ⟨S1024x16384, .i1⟩
  | .hbm, ⟨77, _⟩ => ⟨S1024x16384, .i32⟩
  | .hbm, ⟨78, _⟩ => ⟨S1024x16384, .i32⟩
  | .hbm, ⟨79, _⟩ => ⟨S1024x16384, .i32⟩
  | .hbm, ⟨80, _⟩ => ⟨S_, .i32⟩
  | .hbm, ⟨81, _⟩ => ⟨S1024x16384, .i32⟩
  | .hbm, ⟨82, _⟩ => ⟨S1024x16384, .i1⟩
  | .hbm, ⟨83, _⟩ => ⟨S1024x16384, .i1⟩
  | .hbm, ⟨84, _⟩ => ⟨S1x8x1024x16384, .f32⟩
  | .hbm, ⟨85, _⟩ => ⟨S_, .f32⟩
  | .hbm, ⟨86, _⟩ => ⟨S1x8x1024x16384, .f32⟩
  | .hbm, ⟨87, _⟩ => ⟨S1x8x1024x16384, .f32⟩
  | .hbm, ⟨88, _⟩ => ⟨S1x1x1024x16384, .i1⟩
  | .hbm, ⟨89, _⟩ => ⟨S_, .f32⟩
  | .hbm, ⟨90, _⟩ => ⟨S_, .f32⟩
  | .hbm, ⟨91, _⟩ => ⟨S1x8x1024x16384, .i1⟩
  | .hbm, ⟨92, _⟩ => ⟨S1x8x1024x16384, .f32⟩
  | .hbm, ⟨93, _⟩ => ⟨S1x8x1024x16384, .f32⟩
  | .hbm, ⟨94, _⟩ => ⟨S_, .f32⟩
  | .hbm, ⟨95, _⟩ => ⟨S1x8x1024, .f32⟩
  | .hbm, ⟨96, _⟩ => ⟨S1x8x1024x1, .f32⟩
  | .hbm, ⟨97, _⟩ => ⟨S1x8x1024x16384, .f32⟩
  | .hbm, ⟨98, _⟩ => ⟨S1x8x1024x16384, .f32⟩
  | .hbm, ⟨99, _⟩ => ⟨S1x8x1024x16384, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S1x8x1024, .f32⟩
  | .hbm, ⟨105, _⟩ => ⟨S1x8x1024x1, .f32⟩
  | .hbm, ⟨106, _⟩ => ⟨S_, .f32⟩
  | .hbm, ⟨107, _⟩ => ⟨S_, .f32⟩
  | .hbm, ⟨108, _⟩ => ⟨S1x8x1024x1, .i1⟩
  | .hbm, ⟨109, _⟩ => ⟨S1x8x1024x1, .f32⟩
  | .hbm, ⟨110, _⟩ => ⟨S1x8x1024x1, .f32⟩
  | .hbm, ⟨111, _⟩ => ⟨S1x8x1024x16384, .f32⟩
  | .hbm, ⟨112, _⟩ => ⟨S1x8x1024x16384, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S1x8x1024x16384, .i1⟩
  | .hbm, ⟨117, _⟩ => ⟨S1x8x1024x16384, .f32⟩
  | .hbm, ⟨118, _⟩ => ⟨S1x8x1024x16384, .f32⟩
  | .hbm, ⟨119, _⟩ => ⟨S1x8x128x1024, .f32⟩
  | .hbm, ⟨120, _⟩ => ⟨S1x1024x8x128, .f32⟩
  | .hbm, ⟨121, _⟩ => ⟨S1x1024x1024, .f32⟩
  | .hbm, ⟨122, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Values.lean ====
/-
# What each buffer of the kernel holds

The contents the run puts into the kernel's buffers, over any float values `F`, from the blocks the pipeline brings in:
one attention head of one query chunk against a device's own keys (`sV`, `mV`, `wV`, `lV`, `cV`), the partial results a
device keeps for all sixteen query blocks (`LC`, `LS`), what the other devices' partial results look like in its landing
buffers (`RC`, `RS`), the running combination of them (`comb`), the finished block (`OV`), the gathered blocks (`BC`) and
the output array (`OUT`).
-/
module

public import proofs.«01_k».proof.Proof.Gen.KernelIdeal.Skeleton
public import proofs.«01_k».proof.Proof.Gen.KernelIdeal.Frame
public import Idealize.ShloMosaic.Lib.ValueIdxCore

@[expose] public section

set_option maxRecDepth 16384

noncomputable section

namespace Cert.KP

open Cert.KernelIdeal Cert.KernelIdeal.Gen
open Idealize.ShloMosaic Idealize.ShloMosaic.TcCoe
open Idealize.ShloMosaic.ValueIdx

variable {F : FTy → Type} [FloatOps F]
variable (m : (ℓ : Loc nD τ sig) → Buf (Elt F) ℓ)

/-! ## Places -/

/-- The `n`-th device other than `c`, in order. -/
abbrev peer (c : Dev nD) (n : Fin 15) : Dev nD := c.succAbove n

theorem peer_ne (c : Dev nD) (n : Fin 15) : peer c n ≠ c := Fin.succAbove_ne c n

theorem peer_val (c : Dev nD) (n : Fin 15) : (peer c n).val = n.val + (if n.val ≥ c.val then 1 else 0) := by
  revert c n; decide

set_option backward.proofsInPublic true in
/-- The grid point with a given number. -/
def pt (n : ℕ) : Fin cfg0.N := ⟨n % 4, by rw [show cfg0.N = 4 from N_0]; omega⟩

theorem pt_val (t : Fin cfg0.N) : pt t.val = t := Fin.ext (Nat.mod_eq_of_lt (lt_of_lt_of_eq t.isLt N_0))

/-! ## The blocks the pipeline brings in -/

/-- The query rows of grid point `t`. -/
def xB (c : Dev nD) (t : Fin cfg0.N) : Vec F S1x256x1024 .f32 := iblk m c 0 t
/-- The query projection. -/
def wqB (c : Dev nD) (t : Fin cfg0.N) : Vec F S1024x1024 .f32 := iblk m c 1 t
/-- The device's keys. -/
def kB (c : Dev nD) (t : Fin cfg0.N) : Vec F S1x1024x8x128 .f32 := iblk m c 2 t
/-- The device's values. -/
def vB (c : Dev nD) (t : Fin cfg0.N) : Vec F S1x1024x8x128 .f32 := iblk m c 3 t
/-- The output projection. -/
def woB (c : Dev nD) (t : Fin cfg0.N) : Vec F S1024x1024 .f32 := iblk m c 4 t

/-! ## One attention head -/

theorem slices_head (h : Fin 8) : S256x1024.Slices ![0, 128 * h.val] S256x128 := by revert h; decide
theorem slices_ctx (r : Fin 4) : S256x128.Slices ![64 * r.val, 0] S64x128 := by revert r; decide
theorem slices_st (r : Fin 4) : S256x1.Slices ![64 * r.val, 0] S64x1 := by revert r; decide
theorem inb_head (h : Fin 8) : ∀ a, (![0, 0, h.val, 0] : Fin 4 → Nat) a + S1x1024x1x128.size a ≤ S1x1024x8x128.size a := by revert h; decide

/-- Head `h`'s rows of a key or value block. -/
def headB (B : Vec F S1x1024x8x128 .f32) (h : Fin 8) : Vec F S1x1024x1x128 .f32 :=
  fun j => B ((Rect.unit (s := S1x1024x8x128) ![0, 0, h.val, 0] S1x1024x1x128.size (inb_head h)).toLoadRect.idx j)

/-- The projected queries of grid point `t`. -/
def qV (c : Dev nD) (t : Fin cfg0.N) : FVec F S256x1024 .f32 := k0_pay23 (xB m c t) (wqB m c t)

/-- The device's word, as the kernel computes it from its number. -/
def devW (c : Dev nD) : BitVec 32 := Scalar.remsi (Scalar.divsi (Dev.word c) 1#32) 16#32

/-- Which keys of device `c` the queries of grid point `t` attend to. -/
def maskV (c : Dev nD) (t : Fin cfg0.N) : IVec S256x1024 1 :=
  k0_pay35 (k0_pay30 (devW c) (k0_pay25 (grid0.coords t)) (k0_pay26 (grid0.coords t)) (k0_pay27 (grid0.coords t)))
    (Scalar.select (Scalar.cmpi .eq 3#32 0#32) 1#32 3#32)
    (k0_pay31 (devW c) (k0_pay25 (grid0.coords t)) (k0_pay26 (grid0.coords t)) (k0_pay27 (grid0.coords t)))
    (k0_pay32 (devW c) (k0_pay25 (grid0.coords t)) (k0_pay26 (grid0.coords t)) (k0_pay27 (grid0.coords t)))
    (k0_pay33 (devW c) (k0_pay25 (grid0.coords t)) (k0_pay26 (grid0.coords t)) (k0_pay27 (grid0.coords t)))
    k0_pay34

/-- The masked scores of one head. -/
def headS (q : FVec F S256x1024 .f32) (mk : IVec S256x1024 1) (kb : Vec F S1x1024x1x128 .f32) (h : Fin 8) : FVec F S256x1024 .f32 :=
  select mk
    (mulf (matmul dot_S256x128_S1024x128_S256x1024_1_1_0_0_n_n none (extractStridedSlice S256x128 ![0, 128 * h.val] q (slices_head h))
        (shapeCast S1024x128 kb shapeCasts_S1x1024x1x128_S1024x128) (constant S256x1024 .f32 0x00000000#32))
      (broadcast S256x1024 (Scalar.ofBits .f32 0x3DB504F3#32)))
    (broadcast S256x1024 (Scalar.ofBits .f32 0xCE6E6B28#32))

/-- The greatest score of each row, as a vector. -/
def rowMax (s : FVec F S256x1024 .f32) : FVec F S256 .f32 :=
  multiReduction .maximumf [1] S256 s 0xFF800000#32 reduces_S256x1024_S256 (.inl rfl) rfl

/-- A vector of rows as a column. -/
def col (v : FVec F S256 .f32) : FVec F S256x1 .f32 := shapeCast S256x1 v shapeCasts_S256_S256x1

/-- The weights of scores `s` against row maxima `x`. -/
def headW (s : FVec F S256x1024 .f32) (x : FVec F S256x1 .f32) : FVec F S256x1024 .f32 :=
  exp (subf s (broadcastTo S256x1024 x broadcasts_S256x1_S256x1024))

/-- The sum of each row, as a column. -/
def rowSum (w : FVec F S256x1024 .f32) : FVec F S256x1 .f32 :=
  col (multiReduction .add [1] S256 w 0x00000000#32 reduces_S256x1024_S256 (.inl rfl) rfl)

/-- The weighted sum of the values. -/
def headC (w : FVec F S256x1024 .f32) (vb : Vec F S1x1024x1x128 .f32) : FVec F S256x128 .f32 :=
  matmul dot_S256x1024_S1024x128_S256x128_1_0_0_1_n_n none w (shapeCast S1024x128 vb shapeCasts_S1x1024x1x128_S1024x128)
    (constant S256x128 .f32 0x00000000#32)

/-- Device `c`'s scores at grid point `t`, head `h`; -/
def sV (c : Dev nD) (t : Fin cfg0.N) (h : Fin 8) : FVec F S256x1024 .f32 := headS (qV m c t) (maskV c t) (headB (kB m c t) h) h
/-- their row maxima; -/
def mV (c : Dev nD) (t : Fin cfg0.N) (h : Fin 8) : FVec F S256x1 .f32 := col (rowMax (sV m c t h))
/-- the weights; -/
def wV (c : Dev nD) (t : Fin cfg0.N) (h : Fin 8) : FVec F S256x1024 .f32 := headW (sV m c t h) (mV m c t h)
/-- the weights' row sums; -/
def lV (c : Dev nD) (t : Fin cfg0.N) (h : Fin 8) : FVec F S256x1 .f32 := rowSum (wV m c t h)
/-- the weighted sums of the values. -/
def cV (c : Dev nD) (t : Fin cfg0.N) (h : Fin 8) : FVec F S256x128 .f32 := headC (wV m c t h) (headB (vB m c t) h)

/-! ## The device's own partial results -/

/-- Row `64 r + a` of a block of 256 rows. -/
def row256 (r : ℕ) (a : Fin 64) : Fin 256 := ⟨(64 * r + a.val) % 256, Nat.mod_lt _ (by decide)⟩

/-- The weighted sums device `c` keeps, for all sixteen query blocks. -/
def LC (c : Dev nD) : Vec F S16x64x8x128 .f32 := fun i =>
  cV m c (pt ((i 0).val / 4)) (i 2) (ix2 (row256 ((i 0).val % 4) (i 1)) (i 3))

/-- The row maxima (columns 0 to 7) and row sums (columns 8 to 15) device `c` keeps. -/
def LS (c : Dev nD) : Vec F S16x64x16 .f32 := fun i =>
  if h : (i 2).val < 8 then mV m c (pt ((i 0).val / 4)) ⟨(i 2).val, h⟩ (ix2 (row256 ((i 0).val % 4) (i 1)) 0)
  else lV m c (pt ((i 0).val / 4)) ⟨(i 2).val - 8, by have : (i 2).val < 16 := (i 2).isLt; omega⟩ (ix2 (row256 ((i 0).val % 4) (i 1)) 0)

/-- Device `c`'s landing buffer for weighted sums: block `p` holds what device `p` computed for `c`'s queries. -/
def RC (c : Dev nD) : Vec F S16x64x8x128 .f32 := fun i => LC m (i 0) (ix4 c (i 1) (i 2) (i 3))
/-- The same for maxima and sums. -/
def RS (c : Dev nD) : Vec F S16x64x16 .f32 := fun i => LS m (i 0) (ix3 c (i 1) (i 2))

/-- One block of a buffer of sixteen, as a load reads it. -/
def blkC (B : Vec F S16x64x8x128 .f32) (k : Dev nD) : Vec F S1x64x8x128 .f32 := fun j => B (ix4 k (j 1) (j 2) (j 3))
def blkS (B : Vec F S16x64x16 .f32) (k : Dev nD) : Vec F S1x64x16 .f32 := fun j => B (ix3 k (j 1) (j 2))
def blkB (B : Vec F S16x64x1024 .f32) (k : Dev nD) : Vec F S1x64x1024 .f32 := fun j => B (ix3 k (j 1) (j 2))

/-! ## The combination -/

/-- One trip of the combination: the running pair with one more device's partial result. -/
def combStep (a : FVec F S64x8x128 .f32 × FVec F S64x16 .f32) (vc : Vec F S1x64x8x128 .f32) (vs : Vec F S1x64x16 .f32) :
    FVec F S64x8x128 .f32 × FVec F S64x16 .f32 :=
  (k0_pay14 a.1 (k0_pay2 vc) (k0_pay10 a.2 vs) (k0_pay11 a.2 vs),
   k0_pay15 (k0_pay5 a.2) (k0_pay7 vs) (k0_pay8 a.2 vs) (k0_pay9 a.2 vs) (k0_pay10 a.2 vs))

/-- The running pair on device `c` after `n` trips. -/
def comb (c : Dev nD) : ℕ → FVec F S64x8x128 .f32 × FVec F S64x16 .f32
  | 0 => (k0_pay12 (blkC (LC m c) c), k0_pay13 (blkS (LS m c) c))
  | n + 1 => if h : n < 15 then combStep (comb c n) (blkC (RC m c) (peer c ⟨n, h⟩)) (blkS (RS m c) (peer c ⟨n, h⟩)) else comb c n

theorem inb_wo (h : Fin 8) : ∀ a, (![128 * h.val, 0] : Fin 2 → Nat) a + S128x1024.size a ≤ S1024x1024.size a := by revert h; decide

/-- Head `h`'s rows of the output projection. -/
def woH (W : Vec F S1024x1024 .f32) (h : Fin 8) : Vec F S128x1024 .f32 :=
  fun j => W ((Rect.unit (s := S1024x1024) ![128 * h.val, 0] S128x1024.size (inb_wo h)).toLoadRect.idx j)

/-- The finished block of rows from a combined pair and the output projection. -/
def fin (a : FVec F S64x8x128 .f32 × FVec F S64x16 .f32) (W : Vec F S1024x1024 .f32) : FVec F S64x1024 .f32 :=
  k0_pay20 (k0_pay16 a.1 a.2) (k0_pay17 a.1 a.2 (woH W 0) (woH W 1) (woH W 2)) (k0_pay18 a.1 a.2) (k0_pay19 (woH W 3))
    (constant S64x1024 .f32 0x00000000#32) (woH W 4) (woH W 5) (woH W 6) (woH W 7)

/-- Device `c`'s finished block of rows. -/
def OV (c : Dev nD) : FVec F S64x1024 .f32 := fin (comb m c 15) (woB m c (pt 3))

/-- The gathered blocks: block `p` is device `p`'s. -/
def BC : Vec F S16x64x1024 .f32 := fun i => OV m (i 0) (ix2 (i 1) (i 2))

set_option backward.proofsInPublic true in
/-- The output array: its row `64 p + a` is row `a` of device `p`'s block. -/
def OUT : Vec F S1x1024x1024 .f32 := fun i =>
  OV m (⟨(i 1).val / 64, by have h : (i 1).val < 1024 := (i 1).isLt; omega⟩ : Fin 16) (ix2 (⟨(i 1).val % 64, Nat.mod_lt _ (by decide)⟩ : Fin 64) (i 2))

end Cert.KP
-- ==== Proof.Slots.lean ====
/-
# The sixteen blocks of each buffer, and the semaphore cells

The kernel's five buffers are arrays of sixteen blocks, one per device, and its six semaphore arrays have sixteen cells
each. Here: the blocks as memrefs and as sets of elements, that they are a partition of the buffer, what a read and a
remote copy of a block give, and the cells the slices of the semaphore arrays name.
-/
module

public import proofs.«01_k».proof.Proof.Values
public import Idealize.ShloMosaic.Lib.Ring
public import Idealize.ShloMosaic.Lib.Tactic

@[expose] public section

set_option maxRecDepth 16384

noncomputable section

namespace Cert.KP

open Cert.KernelIdeal Cert.KernelIdeal.Gen
open Idealize.ShloMosaic Idealize.ShloMosaic.TcCoe
open Idealize.ShloMosaic.ValueIdx

variable {F : FTy → Type} [FloatOps F]

/-! ## Blocks of a buffer -/

/-- The elements of block `k` of a buffer of sixteen blocks. -/
def setC (k : Dev nD) : Finset S16x64x8x128.Idx := Finset.univ.filter fun i => (i 0).val = k.val
def setS (k : Dev nD) : Finset S16x64x16.Idx := Finset.univ.filter fun i => (i 0).val = k.val
def setB (k : Dev nD) : Finset S16x64x1024.Idx := Finset.univ.filter fun i => (i 0).val = k.val

theorem mem_setC {k : Dev nD} {i : S16x64x8x128.Idx} : i ∈ setC k ↔ (i 0).val = k.val := by simp [setC]
theorem mem_setS {k : Dev nD} {i : S16x64x16.Idx} : i ∈ setS k ↔ (i 0).val = k.val := by simp [setS]
theorem mem_setB {k : Dev nD} {i : S16x64x1024.Idx} : i ∈ setB k ↔ (i 0).val = k.val := by simp [setB]

theorem inbC (k : Dev nD) : ∀ a, (![k.val, 0, 0, 0] : Fin 4 → Nat) a + S1x64x8x128.size a ≤ S16x64x8x128.size a := by revert k; decide
theorem inbS (k : Dev nD) : ∀ a, (![k.val, 0, 0] : Fin 3 → Nat) a + S1x64x16.size a ≤ S16x64x16.size a := by revert k; decide
theorem inbB (k : Dev nD) : ∀ a, (![k.val, 0, 0] : Fin 3 → Nat) a + S1x64x1024.size a ≤ S16x64x1024.size a := by revert k; decide

/-- Block `k` as a rectangle of the buffer. -/
abbrev rectC (k : Dev nD) : Rect S16x64x8x128 := Rect.unit (s := S16x64x8x128) ![k.val, 0, 0, 0] S1x64x8x128.size (inbC k)
abbrev rectS (k : Dev nD) : Rect S16x64x16 := Rect.unit (s := S16x64x16) ![k.val, 0, 0] S1x64x16.size (inbS k)
abbrev rectB (k : Dev nD) : Rect S16x64x1024 := Rect.unit (s := S16x64x1024) ![k.val, 0, 0] S1x64x1024.size (inbB k)

theorem rectC_emb (k : Dev nD) (j : S1x64x8x128.Idx) : (rectC k).emb j = ix4 k (j 1) (j 2) (j 3) := by
  funext a
  refine Fin.ext ?_
  rw [Rect.emb_apply]
  have h0 : (j 0).val < 1 := (j 0).isLt
  match a with
  | ⟨0, _⟩ => show k.val + 1 * (j 0).val = k.val; omega
  | ⟨1, _⟩ => show 0 + 1 * (j 1).val = (j 1).val; omega
  | ⟨2, _⟩ => show 0 + 1 * (j 2).val = (j 2).val; omega
  | ⟨3, _⟩ => show 0 + 1 * (j 3).val = (j 3).val; omega

theorem rectS_emb (k : Dev nD) (j : S1x64x16.Idx) : (rectS k).emb j = ix3 k (j 1) (j 2) := by
  funext a
  refine Fin.ext ?_
  rw [Rect.emb_apply]
  have h0 : (j 0).val < 1 := (j 0).isLt
  match a with
  | ⟨0, _⟩ => show k.val + 1 * (j 0).val = k.val; omega
  | ⟨1, _⟩ => show 0 + 1 * (j 1).val = (j 1).val; omega
  | ⟨2, _⟩ => show 0 + 1 * (j 2).val = (j 2).val; omega

theorem rectB_emb (k : Dev nD) (j : S1x64x1024.Idx) : (rectB k).emb j = ix3 k (j 1) (j 2) := by
  funext a
  refine Fin.ext ?_
  rw [Rect.emb_apply]
  have h0 : (j 0).val < 1 := (j 0).isLt
  match a with
  | ⟨0, _⟩ => show k.val + 1 * (j 0).val = k.val; omega
  | ⟨1, _⟩ => show 0 + 1 * (j 1).val = (j 1).val; omega
  | ⟨2, _⟩ => show 0 + 1 * (j 2).val = (j 2).val; omega

theorem rectC_set (k : Dev nD) : (rectC k).set = setC k := by
  rw [← Rect.map_emb_univ]
  ext i
  rw [mem_setC, Finset.mem_map]
  constructor
  · rintro ⟨j, -, rfl⟩
    rw [rectC_emb]
  · intro h
    refine ⟨(ix4 (0 : Fin 1) (i 1) (i 2) (i 3) : S1x64x8x128.Idx), Finset.mem_univ _, ?_⟩
    rw [rectC_emb, eq_ix4 i]
    exact congrArg (fun x => (ix4 x (i 1) (i 2) (i 3) : S16x64x8x128.Idx)) (Fin.ext h.symm)

theorem rectS_set (k : Dev nD) : (rectS k).set = setS k := by
  rw [← Rect.map_emb_univ]
  ext i
  rw [mem_setS, Finset.mem_map]
  constructor
  · rintro ⟨j, -, rfl⟩
    rw [rectS_emb]
  · intro h
    refine ⟨(ix3 (0 : Fin 1) (i 1) (i 2) : S1x64x16.Idx), Finset.mem_univ _, ?_⟩
    rw [rectS_emb, eq_ix3 i]
    exact congrArg (fun x => (ix3 x (i 1) (i 2) : S16x64x16.Idx)) (Fin.ext h.symm)

theorem rectB_set (k : Dev nD) : (rectB k).set = setB k := by
  rw [← Rect.map_emb_univ]
  ext i
  rw [mem_setB, Finset.mem_map]
  constructor
  · rintro ⟨j, -, rfl⟩
    rw [rectB_emb]
  · intro h
    refine ⟨(ix3 (0 : Fin 1) (i 1) (i 2) : S1x64x1024.Idx), Finset.mem_univ _, ?_⟩
    rw [rectB_emb, eq_ix3 i]
    exact congrArg (fun x => (ix3 x (i 1) (i 2) : S16x64x1024.Idx)) (Fin.ext h.symm)

/-! The blocks are a partition. -/

theorem setC_disj (k k' : Dev nD) (h : k ≠ k') : Disjoint (setC k) (setC k') :=
  Finset.disjoint_left.mpr fun i hi hi' => h (Fin.ext ((mem_setC.mp hi).symm.trans (mem_setC.mp hi')))
theorem setS_disj (k k' : Dev nD) (h : k ≠ k') : Disjoint (setS k) (setS k') :=
  Finset.disjoint_left.mpr fun i hi hi' => h (Fin.ext ((mem_setS.mp hi).symm.trans (mem_setS.mp hi')))
theorem setB_disj (k k' : Dev nD) (h : k ≠ k') : Disjoint (setB k) (setB k') :=
  Finset.disjoint_left.mpr fun i hi hi' => h (Fin.ext ((mem_setB.mp hi).symm.trans (mem_setB.mp hi')))
theorem setC_cover : (Finset.univ : Finset (Dev nD)).biUnion setC = Finset.univ :=
  Finset.eq_univ_of_forall fun i => Finset.mem_biUnion.mpr ⟨(i 0 : Fin 16), Finset.mem_univ _, mem_setC.mpr rfl⟩
theorem setS_cover : (Finset.univ : Finset (Dev nD)).biUnion setS = Finset.univ :=
  Finset.eq_univ_of_forall fun i => Finset.mem_biUnion.mpr ⟨(i 0 : Fin 16), Finset.mem_univ _, mem_setS.mpr rfl⟩
theorem setB_cover : (Finset.univ : Finset (Dev nD)).biUnion setB = Finset.univ :=
  Finset.eq_univ_of_forall fun i => Finset.mem_biUnion.mpr ⟨(i 0 : Fin 16), Finset.mem_univ _, mem_setB.mpr rfl⟩

/-! ## Blocks as memrefs -/

/-- Block `k` of a memref of sixteen blocks, as the kernel names it. -/
abbrev slotC (b : Memref sig .tc .vmem S16x64x8x128 .f32) (k : Dev nD) : Memref sig .tc .vmem S64x8x128 .f32 :=
  (b.slice (rectC k) (fun _ => rfl)).squeeze S64x8x128 squeezes_S1x64x8x128_S64x8x128
abbrev slotS (b : Memref sig .tc .vmem S16x64x16 .f32) (k : Dev nD) : Memref sig .tc .vmem S64x16 .f32 :=
  (b.slice (rectS k) (fun _ => rfl)).squeeze S64x16 squeezes_S1x64x16_S64x16
abbrev slotB (b : Memref sig .tc .vmem S16x64x1024 .f32) (k : Dev nD) : Memref sig .tc .vmem S64x1024 .f32 :=
  (b.slice (rectB k) (fun _ => rfl)).squeeze S64x1024 squeezes_S1x64x1024_S64x1024

/-- The five buffers: the device's own weighted sums, its own maxima and sums, the landed weighted sums, the landed maxima
    and sums, the gathered blocks. -/
abbrev locC : Memref sig .tc .vmem S16x64x8x128 .f32 := Memref.whole cc0_scratch0
abbrev locS : Memref sig .tc .vmem S16x64x16 .f32 := Memref.whole cc0_scratch1
abbrev rcvC : Memref sig .tc .vmem S16x64x8x128 .f32 := Memref.whole cc0_scratch2
abbrev rcvS : Memref sig .tc .vmem S16x64x16 .f32 := Memref.whole cc0_scratch3
abbrev gatB : Memref sig .tc .vmem S16x64x1024 .f32 := Memref.whole cc0_scratch4

theorem slot_locC (k : Dev nD) : (slotC locC k).view.set = setC k := by
  show (((View.whole cc0_scratch0).slice (rectC k)).reshape S64x8x128 _).set = _
  rw [View.set_reshape, View.set_slice_whole, rectC_set]
theorem slot_rcvC (k : Dev nD) : (slotC rcvC k).view.set = setC k := by
  show (((View.whole cc0_scratch2).slice (rectC k)).reshape S64x8x128 _).set = _
  rw [View.set_reshape, View.set_slice_whole, rectC_set]
theorem slot_locS (k : Dev nD) : (slotS locS k).view.set = setS k := by
  show (((View.whole cc0_scratch1).slice (rectS k)).reshape S64x16 _).set = _
  rw [View.set_reshape, View.set_slice_whole, rectS_set]
theorem slot_rcvS (k : Dev nD) : (slotS rcvS k).view.set = setS k := by
  show (((View.whole cc0_scratch3).slice (rectS k)).reshape S64x16 _).set = _
  rw [View.set_reshape, View.set_slice_whole, rectS_set]
theorem slot_gatB (k : Dev nD) : (slotB gatB k).view.set = setB k := by
  show (((View.whole cc0_scratch4).slice (rectB k)).reshape S64x1024 _).set = _
  rw [View.set_reshape, View.set_slice_whole, rectB_set]

/-! What a remote copy of block `k` of one buffer into block `k'` of another leaves there. -/

theorem copyC (k k' : Dev nD) (fs fd : Vec F S16x64x8x128 .f32) (i : S16x64x8x128.Idx) (hi : i ∈ setC k') :
    (slotC rcvC k').view.write (Elt F) fd ((slotC locC k).view.read (Elt F) fs) Finset.univ i = fs (ix4 k (i 1) (i 2) (i 3)) := by
  rw [← slot_rcvC] at hi
  obtain ⟨x, -, rfl⟩ := Finset.mem_map.mp hi
  refine (View.write_emb_of_mem (v := (slotC rcvC k').view) (Val := Elt F) fd _ (M := Finset.univ) (Finset.mem_univ x)).trans ?_
  show fs ((rectC k).emb (Shape.reshapeEquiv squeezes_S1x64x8x128_S64x8x128.numel_eq x)) = _
  rw [rectC_emb]
  refine congrArg fs ?_
  show _ = ix4 k ((rectC k').emb (Shape.reshapeEquiv squeezes_S1x64x8x128_S64x8x128.numel_eq x) 1)
    ((rectC k').emb (Shape.reshapeEquiv squeezes_S1x64x8x128_S64x8x128.numel_eq x) 2) ((rectC k').emb (Shape.reshapeEquiv squeezes_S1x64x8x128_S64x8x128.numel_eq x) 3)
  rw [rectC_emb]
  rfl

theorem copyS (k k' : Dev nD) (fs fd : Vec F S16x64x16 .f32) (i : S16x64x16.Idx) (hi : i ∈ setS k') :
    (slotS rcvS k').view.write (Elt F) fd ((slotS locS k).view.read (Elt F) fs) Finset.univ i = fs (ix3 k (i 1) (i 2)) := by
  rw [← slot_rcvS] at hi
  obtain ⟨x, -, rfl⟩ := Finset.mem_map.mp hi
  refine (View.write_emb_of_mem (v := (slotS rcvS k').view) (Val := Elt F) fd _ (M := Finset.univ) (Finset.mem_univ x)).trans ?_
  show fs ((rectS k).emb (Shape.reshapeEquiv squeezes_S1x64x16_S64x16.numel_eq x)) = _
  rw [rectS_emb]
  refine congrArg fs ?_
  show _ = ix3 k ((rectS k').emb (Shape.reshapeEquiv squeezes_S1x64x16_S64x16.numel_eq x) 1)
    ((rectS k').emb (Shape.reshapeEquiv squeezes_S1x64x16_S64x16.numel_eq x) 2)
  rw [rectS_emb]
  rfl

theorem copyB (k k' : Dev nD) (fs fd : Vec F S16x64x1024 .f32) (i : S16x64x1024.Idx) (hi : i ∈ setB k') :
    (slotB gatB k').view.write (Elt F) fd ((slotB gatB k).view.read (Elt F) fs) Finset.univ i = fs (ix3 k (i 1) (i 2)) := by
  rw [← slot_gatB] at hi
  obtain ⟨x, -, rfl⟩ := Finset.mem_map.mp hi
  refine (View.write_emb_of_mem (v := (slotB gatB k').view) (Val := Elt F) fd _ (M := Finset.univ) (Finset.mem_univ x)).trans ?_
  show fs ((rectB k).emb (Shape.reshapeEquiv squeezes_S1x64x1024_S64x1024.numel_eq x)) = _
  rw [rectB_emb]
  refine congrArg fs ?_
  show _ = ix3 k ((rectB k').emb (Shape.reshapeEquiv squeezes_S1x64x1024_S64x1024.numel_eq x) 1)
    ((rectB k').emb (Shape.reshapeEquiv squeezes_S1x64x1024_S64x1024.numel_eq x) 2)
  rw [rectB_emb]
  rfl

/-! What a load of block `k` reads. -/

theorem read_locC (k : Dev nD) (f : Vec F S16x64x8x128 .f32) : locC.view.readAt (Elt F) (rectC k).toLoadRect f = blkC f k := by
  funext j
  show f ((rectC k).emb j) = _
  rw [rectC_emb]; rfl
theorem read_rcvC (k : Dev nD) (f : Vec F S16x64x8x128 .f32) : rcvC.view.readAt (Elt F) (rectC k).toLoadRect f = blkC f k := by
  funext j
  show f ((rectC k).emb j) = _
  rw [rectC_emb]; rfl
theorem read_locS (k : Dev nD) (f : Vec F S16x64x16 .f32) : locS.view.readAt (Elt F) (rectS k).toLoadRect f = blkS f k := by
  funext j
  show f ((rectS k).emb j) = _
  rw [rectS_emb]; rfl
theorem read_rcvS (k : Dev nD) (f : Vec F S16x64x16 .f32) : rcvS.view.readAt (Elt F) (rectS k).toLoadRect f = blkS f k := by
  funext j
  show f ((rectS k).emb j) = _
  rw [rectS_emb]; rfl
theorem read_gatB (k : Dev nD) (f : Vec F S16x64x1024 .f32) : gatB.view.readAt (Elt F) (rectB k).toLoadRect f = blkB f k := by
  funext j
  show f ((rectB k).emb j) = _
  rw [rectB_emb]; rfl

/-! ## Semaphore cells -/

/-- The runtime's barrier semaphore. -/
abbrev barS : Sem sig := (SemArray.scalar (sig.barrier 0 rfl) : Sems sig S_).sem

set_option backward.proofsInPublic true in
/-- Cell `k` of the `f`-th DMA semaphore array. -/
def dS (f : Fin 6) (k : Dev nD) : DmaSem sig := ⟨7 + 16 * f.val + k.val, by have := f.isLt; have : k.val < 16 := k.isLt; show _ < 103; omega⟩

/-- The array a DMA semaphore is in, and its place there. -/
def famOf (s : DmaSem sig) : ℕ := (s.val - 7) / 16
set_option backward.proofsInPublic true in
def posOf (s : DmaSem sig) : Dev nD := ⟨(s.val - 7) % 16, Nat.mod_lt _ (by decide)⟩

theorem famOf_dS (f : Fin 6) (k : Dev nD) : famOf (dS f k) = f.val := by
  have : k.val < 16 := k.isLt
  show (7 + 16 * f.val + k.val - 7) / 16 = f.val
  omega
theorem posOf_dS (f : Fin 6) (k : Dev nD) : posOf (dS f k) = k := by
  have : k.val < 16 := k.isLt
  refine Fin.ext ?_
  show (7 + 16 * f.val + k.val - 7) % 16 = k.val
  omega
theorem dS_ge (f : Fin 6) (k : Dev nD) : 7 ≤ (dS f k).val := by show 7 ≤ 7 + 16 * f.val + k.val; omega

theorem dS_inj {f f' : Fin 6} {k k' : Dev nD} (h : dS f k = dS f' k') : f = f' ∧ k = k' :=
  ⟨Fin.ext (by rw [← famOf_dS f k, ← famOf_dS f' k', h]), by rw [← posOf_dS f k, ← posOf_dS f' k', h]⟩

theorem inbSem (k : Dev nD) : ∀ a, (![k.val] : Fin 1 → Nat) a + S1.size a ≤ S16.size a := by revert k; decide

/-- Cell `k` of a semaphore array of sixteen, as the kernel names it. -/
abbrev cellS (A : DmaSems sig S16) (k : Dev nD) : DmaSems sig S_ :=
  (A.slice (Rect.unit (s := S16) ![k.val] S1.size (inbSem k))).squeeze S_ squeezes_S1_S_

theorem sem_5 (k : Dev nD) : (cellS cc0_scratch5 k).sem = dS 0 k := by revert k; decide +kernel
theorem sem_6 (k : Dev nD) : (cellS cc0_scratch6 k).sem = dS 1 k := by revert k; decide +kernel
theorem sem_7 (k : Dev nD) : (cellS cc0_scratch7 k).sem = dS 2 k := by revert k; decide +kernel
theorem sem_8 (k : Dev nD) : (cellS cc0_scratch8 k).sem = dS 3 k := by revert k; decide +kernel
theorem sem_9 (k : Dev nD) : (cellS cc0_scratch9 k).sem = dS 4 k := by revert k; decide +kernel
theorem sem_10 (k : Dev nD) : (cellS cc0_scratch10 k).sem = dS 5 k := by revert k; decide +kernel

/-- What a copy of one block credits, by the kind of block. -/
abbrev NC : ℕ := (slotC locC 0).view.dmaCredit
abbrev NS : ℕ := (slotS locS 0).view.dmaCredit
abbrev NB : ℕ := (slotB gatB 0).view.dmaCredit
theorem NC_pos : 0 < NC := View.dmaCredit_pos _ (by decide)
theorem NS_pos : 0 < NS := View.dmaCredit_pos _ (by decide)
theorem NB_pos : 0 < NB := View.dmaCredit_pos _ (by decide)

theorem credit_locC (k : Dev nD) : (slotC locC k).view.dmaCredit = NC := rfl
theorem credit_rcvC (k : Dev nD) : (slotC rcvC k).view.dmaCredit = NC := rfl
theorem credit_rcvS (k : Dev nD) : (slotS rcvS k).view.dmaCredit = NS := rfl
theorem credit_gatB (k : Dev nD) : (slotB gatB k).view.dmaCredit = NB := rfl

end Cert.KP
-- ==== Proof.Protocol.lean ====
/-
# The protocol of the kernel's semaphores

Every device has one barrier cell and six arrays of sixteen DMA cells; cell `k` of an array serves the transfers between the
device and device `k`, and cell `c` of device `c` itself is never used. Each cell in use has one round.

* The barrier cell of `c`: every other device `p` adds one unit, and hands over the blocks `c` of its own landing buffers
  and of its own gathering buffer: the places that `c` will write.
* Arrays 0 and 2 on `c`, cell `k`: credited when the copy of block `k` of `c`'s partial results has left; gives the block back.
* Arrays 1 and 3 on `c`, cell `k`: credited when device `k`'s partial results for `c`'s queries have landed; gives block `k`
  of the landing buffer holding them.
* Array 4 on `c`, cell `k`: credited when the copy of `c`'s finished block to `k` has left; gives back the share it read.
* Array 5 on `c`, cell `k`: credited when device `k`'s finished block has landed; gives block `k` of the gathering buffer.

Order: a device waits at its barrier owing every landing (level 1 below 2 and 3), for the partial results owing only the
finished blocks (2 below 3), and for everything else owing nothing.
-/
module

public import proofs.«01_k».proof.Proof.Slots
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KP

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-- The resources: the pipeline's rounds and, beside them, the rounds of this protocol with devices as duty names. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Families over devices, taken one member at a time -/

section Families
variable {N : ℕ}

/-- The places from `n` on, and those before `n`. -/
def frm (N n : ℕ) : Finset (Fin N) := Finset.univ.filter fun k => n ≤ k.val
def upto (N n : ℕ) : Finset (Fin N) := Finset.univ.filter fun k => k.val < n

theorem mem_frm {n : ℕ} {k : Fin N} : k ∈ frm N n ↔ n ≤ k.val := by simp [frm]
theorem mem_upto {n : ℕ} {k : Fin N} : k ∈ upto N n ↔ k.val < n := by simp [upto]
theorem frm_zero : frm N 0 = Finset.univ := by ext k; simp [mem_frm]
theorem frm_end : frm N N = ∅ := by ext k; simp [mem_frm]
theorem upto_zero : upto N 0 = ∅ := by ext k; simp [mem_upto]
theorem upto_end : upto N N = Finset.univ := by ext k; simp [mem_upto]
theorem frm_succ (k : Fin N) : frm N k.val = insert k (frm N (k.val + 1)) := by
  ext j
  rw [Finset.mem_insert, mem_frm, mem_frm, Fin.ext_iff]
  omega
theorem upto_succ (k : Fin N) : upto N (k.val + 1) = insert k (upto N k.val) := by
  ext j
  rw [Finset.mem_insert, mem_upto, mem_upto, Fin.ext_iff]
  omega

theorem frm_peel (Φ : Fin N → sProp 𝕄) (k : Fin N) : bigSep (frm N k.val) Φ = iprop(Φ k ∗ bigSep (frm N (k.val + 1)) Φ) := by
  rw [frm_succ, bigSep_insert (by rw [mem_frm]; omega)]; rfl
theorem upto_push (Φ : Fin N → sProp 𝕄) (k : Fin N) : bigSep (upto N (k.val + 1)) Φ = iprop(Φ k ∗ bigSep (upto N k.val) Φ) := by
  rw [upto_succ, bigSep_insert (by rw [mem_upto]; omega)]; rfl
theorem frm_sum {A : Type} [AddCommMonoid A] (g : Fin N → A) (k : Fin N) : ∑ j ∈ frm N k.val, g j = ∑ j ∈ frm N (k.val + 1), g j + g k := by
  rw [frm_succ, Finset.sum_insert (by rw [mem_frm]; omega), add_comm]

/-- A family over all devices is its member at `c` and those at `c`'s peers. -/
theorem bigSep_peers (Φ : Dev nD → sProp 𝕄) (c : Dev nD) :
    bigSep Finset.univ Φ = iprop(Φ c ∗ bigSep Finset.univ fun n : Fin 15 => Φ (peer c n)) := by
  rw [show (Finset.univ : Finset (Dev nD)) = Finset.cons c (Finset.univ.map (Fin.succAboveEmb c)) (by simp) from Fin.univ_succAbove 15 c,
    Finset.cons_eq_insert, bigSep_insert (by simp), bigSep_map]; rfl
theorem bigSep_erase_peers (Φ : Dev nD → sProp 𝕄) (c : Dev nD) :
    bigSep (Finset.univ.erase c) Φ = bigSep Finset.univ fun n : Fin 15 => Φ (peer c n) := by
  rw [show (Finset.univ : Finset (Dev nD)).erase c = Finset.univ.map (Fin.succAboveEmb c) by
    rw [show (Finset.univ : Finset (Dev nD)) = Finset.cons c (Finset.univ.map (Fin.succAboveEmb c)) (by simp) from Fin.univ_succAbove 15 c,
      Finset.cons_eq_insert, Finset.erase_insert (by simp)], bigSep_map]; rfl

end Families

/-! ## The cells -/

abbrev bar (c : Dev nD) : GSem nD τ sig := ((c : Thread nD τ), .reg barS)
abbrev cel (c : Dev nD) (f : Fin 6) (k : Dev nD) : GSem nD τ sig := ((c : Thread nD τ), .dma (dS f k))

theorem bar_eq_iff {a b : Dev nD} : bar a = bar b ↔ a = b :=
  ⟨fun h => Fin.ext (congrArg (fun g : GSem nD τ sig => g.1.1.val) h), fun h => h ▸ rfl⟩
theorem cel_eq_iff {a b : Dev nD} {f f' : Fin 6} {k k' : Dev nD} : cel a f k = cel b f' k' ↔ a = b ∧ f = f' ∧ k = k' := by
  constructor
  · intro h
    have h1 : a = b := Fin.ext (congrArg (fun g : GSem nD τ sig => g.1.1.val) h)
    have h2 : SemLoc.dma (dS f k) = (SemLoc.dma (dS f' k') : SemLoc sig) := congrArg Prod.snd h
    exact ⟨h1, dS_inj (SemLoc.dma.inj h2)⟩
  · rintro ⟨rfl, rfl, rfl⟩; rfl
theorem bar_ne_cel (a b : Dev nD) (f : Fin 6) (k : Dev nD) : bar a ≠ cel b f k := fun h => by
  have := congrArg Prod.snd h; cases this

/-! ## What the buffers hold, by block -/

/-- Elements `S` of device `c`'s own weighted sums, maxima and sums, landed weighted sums, landed maxima and sums, gathered blocks. -/
abbrev ptLC (c : Dev nD) (S : Finset S16x64x8x128.Idx) (q : PosShare TreeShare) (f : Vec F S16x64x8x128 .f32) : sProp 𝕄 :=
  ((c : Thread nD τ).loc cc0_scratch0) ↦[S]{q} f
abbrev ptLS (c : Dev nD) (S : Finset S16x64x16.Idx) (q : PosShare TreeShare) (f : Vec F S16x64x16 .f32) : sProp 𝕄 :=
  ((c : Thread nD τ).loc cc0_scratch1) ↦[S]{q} f
abbrev ptRC (c : Dev nD) (S : Finset S16x64x8x128.Idx) (q : PosShare TreeShare) (f : Vec F S16x64x8x128 .f32) : sProp 𝕄 :=
  ((c : Thread nD τ).loc cc0_scratch2) ↦[S]{q} f
abbrev ptRS (c : Dev nD) (S : Finset S16x64x16.Idx) (q : PosShare TreeShare) (f : Vec F S16x64x16 .f32) : sProp 𝕄 :=
  ((c : Thread nD τ).loc cc0_scratch3) ↦[S]{q} f
abbrev ptB (c : Dev nD) (S : Finset S16x64x1024.Idx) (q : PosShare TreeShare) (f : Vec F S16x64x1024 .f32) : sProp 𝕄 :=
  ((c : Thread nD τ).loc cc0_scratch4) ↦[S]{q} f

/-- A landing block at some contents; a gathering block at some contents. -/
def exRC (c k : Dev nD) : sProp 𝕄 := iprop(∃ f, ptRC (F := F) c (setC k) fullShare f)
def exRS (c k : Dev nD) : sProp 𝕄 := iprop(∃ f, ptRS (F := F) c (setS k) fullShare f)
def exB (c k : Dev nD) : sProp 𝕄 := iprop(∃ f, ptB (F := F) c (setB k) fullShare f)

/-! ## The schedule -/

/-- What device `p`'s signal hands device `c`. -/
def barPay (c p : Dev nD) : sProp 𝕄 := iprop(exRC (F := F) p c ∗ exRS (F := F) p c ∗ exB (F := F) p c)

/-- What a DMA cell's landing hands over, by its array. -/
def dmaPay (c : Dev nD) (f : ℕ) (k : Dev nD) : sProp 𝕄 :=
  if f = 0 then ptLC c (setC k) fullShare (LC m c)
  else if f = 1 then ptRC c (setC k) fullShare (RC m c)
  else if f = 2 then ptLS c (setS k) fullShare (LS m c)
  else if f = 3 then ptRS c (setS k) fullShare (RS m c)
  else if f = 4 then ptB c (setB c) (shareTok fullShare 16 k) (BC m)
  else if f = 5 then ptB c (setB k) fullShare (BC m)
  else iprop(emp)

/-- The credit of one landing, by the array. -/
def amt (f : ℕ) : ℕ := if f = 0 ∨ f = 1 then NC else if f = 2 ∨ f = 3 then NS else NB
theorem amt_pos (f : ℕ) : 0 < amt f := by
  unfold amt
  split
  · exact NC_pos
  split
  · exact NS_pos
  · exact NB_pos

def dutiesOf (c : Dev nD) : SemLoc sig → Finset (Dev nD)
  | .reg _ => Finset.univ.erase c
  | .dma s => if 7 ≤ s.val ∧ posOf s ≠ c then {0} else ∅
def amountOf : SemLoc sig → ℕ
  | .reg _ => 1
  | .dma s => amt (famOf s)
def payOf (c d : Dev nD) : SemLoc sig → sProp 𝕄
  | .reg _ => barPay c d
  | .dma s => dmaPay m c (famOf s) (posOf s)

def rd : Rounds.Schedule (GSem nD τ sig) (Dev nD) 𝕄 where
  duties g r := if r = 0 ∧ g.1.2 = .tc then dutiesOf g.1.1 g.2 else ∅
  unitless _ := False
  amount g _ _ := amountOf g.2
  payload g _ d := payOf m g.1.1 d g.2
  amount_pos g _ _ _ := by
    cases g.2 with
    | reg _ => exact Nat.one_pos
    | dma s => exact amt_pos _

instance rd_payload_storable (g : GSem nD τ sig) (r : ℕ) (d : Dev nD) :
    BI.Storable (upEmb : UEmb _ 𝕄) ((rd (F := F) m).payload g r d) := by
  show BI.Storable upEmb (payOf m g.1.1 d g.2)
  cases g.2 with
  | reg _ => show BI.Storable upEmb (barPay g.1.1 d); unfold barPay exRC exRS exB; infer_instance
  | dma s => show BI.Storable upEmb (dmaPay m g.1.1 (famOf s) (posOf s)); unfold dmaPay; (repeat' split) <;> infer_instance

theorem duties_bar (c : Dev nD) : (rd (F := F) m).duties (bar c) 0 = Finset.univ.erase c := by dsimp only [rd]; exact if_pos ⟨rfl, rfl⟩
theorem duties_cel (c : Dev nD) (f : Fin 6) (k : Dev nD) (h : k ≠ c) : (rd (F := F) m).duties (cel c f k) 0 = {0} := by
  dsimp only [rd]; rw [if_pos ⟨rfl, rfl⟩]; exact if_pos ⟨dS_ge f k, by rw [posOf_dS]; exact h⟩
theorem duties_own (c : Dev nD) (f : Fin 6) : ∀ r, 0 ≤ r → (rd (F := F) m).duties (cel c f c) r = ∅ := fun r _ => by
  dsimp only [rd]
  split
  · exact if_neg fun h => h.2 (posOf_dS f c)
  · rfl
theorem duties_later (g : GSem nD τ sig) : ∀ r, 1 ≤ r → (rd (F := F) m).duties g r = ∅ :=
  fun r hr => by dsimp only [rd]; rw [if_neg fun h => by omega]

theorem amount_bar (c d : Dev nD) : (rd (F := F) m).amount (bar c) 0 d = 1 := rfl
theorem amount_cel (c : Dev nD) (f : Fin 6) (k d : Dev nD) : (rd (F := F) m).amount (cel c f k) 0 d = amt f.val := by
  show amt (famOf (dS f k)) = _
  rw [famOf_dS]
theorem expect_bar (c : Dev nD) : (rd (F := F) m).expect (bar c) 0 = 15 := by
  unfold Schedule.expect Schedule.amountOf
  rw [duties_bar, Finset.sum_congr rfl fun d _ => amount_bar m c d, Finset.sum_const, Finset.card_erase_of_mem (Finset.mem_univ c), Finset.card_univ]
  rfl
theorem expect_cel (c : Dev nD) (f : Fin 6) (k : Dev nD) (h : k ≠ c) : (rd (F := F) m).expect (cel c f k) 0 = amt f.val := by
  unfold Schedule.expect Schedule.amountOf
  rw [duties_cel m c f k h, Finset.sum_singleton, amount_cel]
theorem payload_bar (c d : Dev nD) : (rd (F := F) m).payload (bar c) 0 d = barPay c d := rfl
theorem payload_cel (c : Dev nD) (f : Fin 6) (k d : Dev nD) : (rd (F := F) m).payload (cel c f k) 0 d = dmaPay m c f.val k := by
  show dmaPay m c (famOf (dS f k)) (posOf (dS f k)) = _
  rw [famOf_dS, posOf_dS]
theorem rest_bar (c : Dev nD) : bigSep ((rd (F := F) m).duties (bar c) 0 \ ∅) (fun d => (rd (F := F) m).payload (bar c) 0 d)
    = bigSep Finset.univ fun n : Fin 15 => barPay (F := F) c (peer c n) := by
  rw [Finset.sdiff_empty, duties_bar, ← bigSep_erase_peers]; rfl
theorem rest_cel (c : Dev nD) (f : Fin 6) (k : Dev nD) (h : k ≠ c) :
    bigSep ((rd (F := F) m).duties (cel c f k) 0 \ ∅) (fun d => (rd (F := F) m).payload (cel c f k) 0 d) = dmaPay m c f.val k := by
  rw [Finset.sdiff_empty, duties_cel m c f k h, bigSep_singleton, payload_cel]

/-! ## What a device owes; the levels -/

/-- The barrier units device `c` has still to signal, after `n` signals. -/
def Obar (c : Dev nD) (n : ℕ) : CellTallies nD τ sig Unit := ∑ j ∈ frm 15 n, tallyAt (bar (peer c j)) () 1
/-- The landing credits of partial results it still owes the devices from `n` on: of one device, and in all. -/
def Orec1 (c k : Dev nD) : CellTallies nD τ sig Unit :=
  if k = c then 0 else tallyAt (cel k 3 c) () (amt 3) + tallyAt (cel k 1 c) () (amt 1)
def Orec (c : Dev nD) (n : ℕ) : CellTallies nD τ sig Unit := ∑ k ∈ frm nD n, Orec1 c k
/-- The landing credits of its finished block it still owes, after `n` copies. -/
def Obc (c : Dev nD) (n : ℕ) : CellTallies nD τ sig Unit := ∑ j ∈ frm 15 n, tallyAt (cel (peer c j) 5 c) () (amt 5)

theorem Obar_peel (c : Dev nD) (j : Fin 15) : Obar c j.val = Obar c (j.val + 1) + tallyAt (bar (peer c j)) () 1 := frm_sum _ j
theorem Orec_peel (c k : Dev nD) : Orec c k.val = Orec c (k.val + 1) + Orec1 c k := frm_sum _ k
theorem Obc_peel (c : Dev nD) (j : Fin 15) : Obc c j.val = Obc c (j.val + 1) + tallyAt (cel (peer c j) 5 c) () (amt 5) := frm_sum _ j
theorem Obar_end (c : Dev nD) : Obar c 15 = 0 := by unfold Obar; rw [frm_end]; rfl
theorem Orec_end (c : Dev nD) : Orec c 16 = 0 := by unfold Orec; rw [show frm nD 16 = ∅ from frm_end]; rfl
theorem Obc_end (c : Dev nD) : Obc c 15 = 0 := by unfold Obc; rw [frm_end]; rfl

/-- What device `c` owes before the first grid point. -/
def O₀ (c : Dev nD) : CellTallies nD τ sig Unit := (Obc c 0 + Orec c 0) + Obar c 0

def L (g : GSem nD τ sig) : Finset Unit := if g.1.2 = .tc then {()} else ∅
def lvl : SemLoc sig → ℕ
  | .reg _ => 1
  | .dma s => if 7 ≤ s.val then (if famOf s = 1 ∨ famOf s = 3 then 2 else if famOf s = 5 then 3 else 0) else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (bar c) u = 1 := rfl
theorem lv_cel (c : Dev nD) (f : Fin 6) (k : Dev nD) (u : Unit) : lv (cel c f k) u = if f.val = 1 ∨ f.val = 3 then 2 else if f.val = 5 then 3 else 0 := by
  show (if 7 ≤ (dS f k).val then (if famOf (dS f k) = 1 ∨ famOf (dS f k) = 3 then 2 else if famOf (dS f k) = 5 then 3 else 0) else 0) = _
  rw [if_pos (dS_ge f k), famOf_dS]

/-- A tally owes only to cells of tensor cores, all above level `n`. -/
def Above (n : ℕ) (O : CellTallies nD τ sig Unit) : Prop := ∀ g u, 0 < O g u → () ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_sum {n : ℕ} {I : Type} (s : Finset I) (O : I → CellTallies nD τ sig Unit) (h : ∀ i ∈ s, Above n (O i)) : Above n (∑ i ∈ s, O i) := by
  classical
  induction s using Finset.induction_on with
  | empty => exact above_zero n
  | insert i s hi ih =>
    rw [Finset.sum_insert hi]
    exact above_add (h i (Finset.mem_insert_self i s)) (ih fun j hj => h j (Finset.mem_insert_of_mem hj))
theorem above_tally {n : ℕ} (c : Dev nD) (sm : SemLoc sig) (k : ℕ) (h : n < lvl sm) : Above n (tallyAt ((c : Thread nD τ), sm) () k) := fun g u hg => by
  rw [tallyAt_apply] at hg
  by_cases hh : g = ((c : Thread nD τ), sm) ∧ u = ()
  · rw [hh.1, L_tc]; exact ⟨Finset.mem_singleton_self _, h⟩
  · rw [if_neg hh] at hg; exact absurd hg (Nat.lt_irrefl 0)

theorem above_Obar (c : Dev nD) (n : ℕ) : Above 0 (Obar c n) := above_sum _ _ fun j _ => above_tally (peer c j) (.reg barS) 1 (by decide)
theorem above_Orec (c : Dev nD) (n : ℕ) : Above 1 (Orec c n) := above_sum _ _ fun k _ => by
  unfold Orec1
  split
  · exact above_zero 1
  · exact above_add (above_tally k (.dma (dS 3 c)) _ (by have := lv_cel k 3 c (); unfold lv at this; rw [this]; decide))
      (above_tally k (.dma (dS 1 c)) _ (by have := lv_cel k 1 c (); unfold lv at this; rw [this]; decide))
theorem above_Obc (c : Dev nD) (n : ℕ) : Above 2 (Obc c n) := above_sum _ _ fun j _ =>
  above_tally (peer c j) (.dma (dS 5 c)) _ (by have := lv_cel (peer c j) 5 c (); unfold lv at this; rw [this]; decide)
theorem above_mono {n n' : ℕ} {O : CellTallies nD τ sig Unit} (h : Above n O) (hn : n' ≤ n) : Above n' O := fun g u hg => ⟨(h g u hg).1, lt_of_le_of_lt hn (h g u hg).2⟩
theorem above_O₀ (c : Dev nD) : Above 0 (O₀ c) :=
  above_add (above_add (above_mono (above_Obc c 0) (by decide)) (above_mono (above_Orec c 0) (by decide))) (above_Obar c 0)

/-- A device may wait on a cell below everything it owes. -/
theorem mayWait (c : Dev nD) (sm : SemLoc sig) (n : ℕ) (hs : lvl sm ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hs)
    (fun g u hg => (hO g u hg).2)

/-! ## The records every device holds -/

/-- The places of the cells: the barrier's, and the DMA cells'. -/
abbrev Ck : Type := Option (Fin 6 × Dev nD)
def csem : Ck → SemLoc sig
  | none => .reg barS
  | some (f, k) => .dma (dS f k)
abbrev kcell (x : Dev nD × Ck) : GSem nD τ sig := ((x.1 : Thread nD τ), csem x.2)

/-- Every cell's invariant under the names `K`, and that every cell has reached its round. -/
def records (K : Dev nD × Ck → ℕ) : sProp 𝕄 :=
  iprop((bigSep Finset.univ fun x : Dev nD × Ck => cellInv ER (rd m) (K x) (kcell x))
    ∗ bigSep Finset.univ fun x : Dev nD × Ck => reached ER (kcell x) 0)

instance records_persistent (K : Dev nD × Ck → ℕ) : BI.Persistent (records m K) := by unfold records; infer_instance

theorem inv_bar (K : Dev nD × Ck → ℕ) (c : Dev nD) : records m K ⊢ cellInv ER (rd m) (K (c, none)) (bar c) := by
  unfold records
  iintro ⟨H, -⟩
  have h : (bigSep Finset.univ (fun x : Dev nD × Ck => (cellInv ER (rd m) (K x) (kcell x) : sProp 𝕄))) ⊢ (fun x : Dev nD × Ck => (cellInv ER (rd m) (K x) (kcell x) : sProp 𝕄)) (c, none) := bigSep_elim (Finset.mem_univ (c, none))
  iapply h; iexact H
theorem inv_cel (K : Dev nD × Ck → ℕ) (c : Dev nD) (f : Fin 6) (k : Dev nD) : records m K ⊢ cellInv ER (rd m) (K (c, some (f, k))) (cel c f k) := by
  unfold records
  iintro ⟨H, -⟩
  have h : (bigSep Finset.univ (fun x : Dev nD × Ck => (cellInv ER (rd m) (K x) (kcell x) : sProp 𝕄))) ⊢ (fun x : Dev nD × Ck => (cellInv ER (rd m) (K x) (kcell x) : sProp 𝕄)) (c, some (f, k)) := bigSep_elim (Finset.mem_univ (c, some (f, k)))
  iapply h; iexact H
theorem reached_bar (K : Dev nD × Ck → ℕ) (c : Dev nD) : records m K ⊢ reached ER (bar c) 0 := by
  unfold records
  iintro ⟨-, H⟩
  have h : (bigSep Finset.univ (fun x : Dev nD × Ck => (reached ER (kcell x) 0 : sProp 𝕄))) ⊢ (fun x : Dev nD × Ck => (reached ER (kcell x) 0 : sProp 𝕄)) (c, none) := bigSep_elim (Finset.mem_univ (c, none))
  iapply h; iexact H
theorem reached_cel (K : Dev nD × Ck → ℕ) (c : Dev nD) (f : Fin 6) (k : Dev nD) : records m K ⊢ reached ER (cel c f k) 0 := by
  unfold records
  iintro ⟨-, H⟩
  have h : (bigSep Finset.univ (fun x : Dev nD × Ck => (reached ER (kcell x) 0 : sProp 𝕄))) ⊢ (fun x : Dev nD × Ck => (reached ER (kcell x) 0 : sProp 𝕄)) (c, some (f, k)) := bigSep_elim (Finset.mem_univ (c, some (f, k)))
  iapply h; iexact H

/-! ## What a device holds, family by family -/

/-- The token of the one duty of a DMA cell; its owner's position before its round; the credit it waits with. -/
abbrev tok (c : Dev nD) (f : Fin 6) (k : Dev nD) : sProp 𝕄 := dutyTok ER (cel c f k) 0 0
abbrev pos (c : Dev nD) (f : Fin 6) (k : Dev nD) : sProp 𝕄 := atPos ER (cel c f k) 0 ∅ 0
abbrev crd (c : Dev nD) (f : Fin 6) (k : Dev nD) : sProp 𝕄 := cred (tallyAt (cel c f k) () (amt f.val))
abbrev zer (c : Dev nD) (f : Fin 6) (k : Dev nD) : sProp 𝕄 := semVal (cel c f k) 0

/-- For sending block `k` of its partial results: tokens, and the places on `k`. -/
def sendTok (c k : Dev nD) : sProp 𝕄 :=
  if k = c then iprop(emp) else iprop(tok (F := F) c 0 k ∗ tok (F := F) k 1 c ∗ tok (F := F) c 2 k ∗ tok (F := F) k 3 c)
def sendRes (c k : Dev nD) : sProp 𝕄 :=
  if k = c then iprop(emp) else iprop((tok (F := F) c 0 k ∗ tok (F := F) k 1 c ∗ tok (F := F) c 2 k ∗ tok (F := F) k 3 c) ∗ exRC (F := F) k c ∗ exRS (F := F) k c)
/-- After that: the credits to wait with; its own block stays. -/
def sent (c k : Dev nD) : sProp 𝕄 :=
  if k = c then iprop(ptLC c (setC c) fullShare (LC m c) ∗ ptLS c (setS c) fullShare (LS m c)) else iprop(crd (F := F) c 0 k ∗ crd (F := F) c 2 k)
/-- For receiving device `j`'s partial results. -/
def recvRes (c j : Dev nD) : sProp 𝕄 := iprop((pos (F := F) c 1 j ∗ crd (F := F) c 1 j) ∗ pos (F := F) c 3 j ∗ crd (F := F) c 3 j)
def recvDone (c j : Dev nD) : sProp 𝕄 := iprop((exRC (F := F) c j ∗ zer (F := F) c 1 j) ∗ exRS (F := F) c j ∗ zer (F := F) c 3 j)
/-- For sending the finished block to `j`, and receiving `j`'s. -/
def bcTok (c j : Dev nD) : sProp 𝕄 := iprop(tok (F := F) c 4 j ∗ tok (F := F) j 5 c)
def bcRes (c j : Dev nD) : sProp 𝕄 := iprop(bcTok (F := F) c j ∗ exB (F := F) j c)
def gatRes (c j : Dev nD) : sProp 𝕄 := iprop(pos (F := F) c 5 j ∗ crd (F := F) c 5 j)
def gatDone (c j : Dev nD) : sProp 𝕄 := iprop(exB (F := F) c j ∗ zer (F := F) c 5 j)
/-- For the waits on its own copies' departure. -/
def drainPos (c j : Dev nD) : sProp 𝕄 := iprop(pos (F := F) c 0 j ∗ pos (F := F) c 2 j ∗ pos (F := F) c 4 j)
def drainDone (c j : Dev nD) : sProp 𝕄 :=
  iprop((ptLC c (setC j) fullShare (LC m c) ∗ zer (F := F) c 0 j) ∗ (ptLS c (setS j) fullShare (LS m c) ∗ zer (F := F) c 2 j)
    ∗ ptB c (setB c) (shareTok fullShare 16 j) (BC m) ∗ zer (F := F) c 4 j)

/-- Everything the handshake and the sends do not touch. -/
def rest (c : Dev nD) : sProp 𝕄 :=
  iprop((bigSep Finset.univ fun n : Fin 15 => recvRes (F := F) c (peer c n))
    ∗ (bigSep Finset.univ fun n : Fin 15 => gatRes (F := F) c (peer c n))
    ∗ (bigSep Finset.univ fun n : Fin 15 => drainPos (F := F) c (peer c n))
    ∗ (bigSep Finset.univ fun f : Fin 6 => pos (F := F) c f c))

/-- Rows of blocks `a` up to `b`. -/
def segC (a b : ℕ) : Finset S16x64x8x128.Idx := Finset.univ.filter fun i => a ≤ (i 0).val ∧ (i 0).val < b
def segS (a b : ℕ) : Finset S16x64x16.Idx := Finset.univ.filter fun i => a ≤ (i 0).val ∧ (i 0).val < b
theorem mem_segC {a b : ℕ} {i : S16x64x8x128.Idx} : i ∈ segC a b ↔ a ≤ (i 0).val ∧ (i 0).val < b := by simp [segC]
theorem mem_segS {a b : ℕ} {i : S16x64x16.Idx} : i ∈ segS a b ↔ a ≤ (i 0).val ∧ (i 0).val < b := by simp [segS]

/-- Before the first grid point. -/
def preS (K : Dev nD × Ck → ℕ) (c : Dev nD) : sProp 𝕄 :=
  iprop(records m K ∗ levAts L lv
    ∗ (atPos ER (bar c) 0 ∅ 0 ∗ cred (tallyAt (bar c) () 15) ∗ bigSep Finset.univ fun n : Fin 15 => dutyTok ER (bar (peer c n)) 0 c)
    ∗ (∃ f, ptLC (F := F) c (segC 0 16) fullShare f) ∗ (∃ f, ptLS (F := F) c (segS 0 16) fullShare f)
    ∗ (bigSep Finset.univ fun k : Dev nD => exRC (F := F) c k) ∗ (bigSep Finset.univ fun k : Dev nD => exRS (F := F) c k) ∗ (bigSep Finset.univ fun k : Dev nD => exB (F := F) c k)
    ∗ (bigSep Finset.univ fun k : Dev nD => sendTok (F := F) c k)
    ∗ (bigSep Finset.univ fun n : Fin 15 => bcTok (F := F) c (peer c n))
    ∗ rest (F := F) c)

/-- What stays between the handshake and the combination besides the local buffers, with the blocks before `n` sent. -/
def midR (K : Dev nD × Ck → ℕ) (c : Dev nD) (n : ℕ) : sProp 𝕄 :=
  iprop(records m K ∗ levAts L lv ∗ semVal (bar c) 0
    ∗ bigSep (frm nD n) (sendRes (F := F) c) ∗ bigSep (upto nD n) (sent m c)
    ∗ (exRC (F := F) c c ∗ exRS (F := F) c c ∗ exB (F := F) c c)
    ∗ (bigSep Finset.univ fun n : Fin 15 => bcRes (F := F) c (peer c n))
    ∗ rest (F := F) c)
/-- Between grid points, with the blocks before `n` computed and sent. -/
def midS (K : Dev nD × Ck → ℕ) (c : Dev nD) (n : ℕ) : sProp 𝕄 :=
  iprop((∃ f, ptLC (F := F) c (segC n 16) fullShare f) ∗ (∃ f, ptLS (F := F) c (segS n 16) fullShare f) ∗ midR m K c n)

/-- After the last grid point: every counter at zero, every buffer whole. -/
def endS (c : Dev nD) : sProp 𝕄 :=
  iprop(semVal (bar c) 0 ∗ (bigSep Finset.univ fun x : Fin 6 × Dev nD => zer (F := F) c x.1 x.2)
    ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f))

end Cert.KP
-- ==== Proof.Compute.lean ====
/-
# Writing the partial results

During a grid point's computation the kernel stores, for each head and each of the four query blocks, the weighted sums, the
row maxima and the row sums. `CP … n` says the first `n` of these 96 stores are done: the blocks of the grid point hold the
final contents `LC`, `LS` where stored and the old contents elsewhere. The rules below move one load or store.
-/
module

public import proofs.«01_k».proof.Proof.Protocol
public import Idealize.ShloMosaic.Lib.Pipeline.Value

@[expose] public section

set_option maxRecDepth 16384

noncomputable section

namespace Cert.KP

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Part-written contents -/

/-- The local weighted sums after `n` stores of grid point `t`. -/
def mixC (c : Dev nD) (t : Fin cfg0.N) (n : ℕ) (f : Vec F S16x64x8x128 .f32) : Vec F S16x64x8x128 .f32 :=
  fun i => if 12 * (i 2).val + 3 * ((i 0).val - 4 * t.val) < n then LC m c i else f i
/-- The local maxima and sums after `n` stores of grid point `t`. -/
def mixS (c : Dev nD) (t : Fin cfg0.N) (n : ℕ) (g : Vec F S16x64x16 .f32) : Vec F S16x64x16 .f32 :=
  fun i => if 12 * ((i 2).val % 8) + 3 * ((i 0).val - 4 * t.val) + 1 + (i 2).val / 8 < n then LS m c i else g i

theorem mixC_zero (c : Dev nD) (t : Fin cfg0.N) (f : Vec F S16x64x8x128 .f32) : mixC m c t 0 f = f := by
  funext i; exact if_neg (Nat.not_lt_zero _)
theorem mixS_zero (c : Dev nD) (t : Fin cfg0.N) (g : Vec F S16x64x16 .f32) : mixS m c t 0 g = g := by
  funext i; exact if_neg (Nat.not_lt_zero _)
theorem mixC_end (c : Dev nD) (t : Fin cfg0.N) (f : Vec F S16x64x8x128 .f32) (i : S16x64x8x128.Idx) (hi : i ∈ segC (4 * t.val) (4 * t.val + 4)) :
    mixC m c t 96 f i = LC m c i := by
  refine if_pos ?_
  have h := mem_segC.mp hi
  have h2 : (i 2).val < 8 := (i 2).isLt
  omega
theorem mixS_end (c : Dev nD) (t : Fin cfg0.N) (g : Vec F S16x64x16 .f32) (i : S16x64x16.Idx) (hi : i ∈ segS (4 * t.val) (4 * t.val + 4)) :
    mixS m c t 96 g i = LS m c i := by
  refine if_pos ?_
  have h := mem_segS.mp hi
  have h2 : (i 2).val < 16 := (i 2).isLt
  omega

/-! ## The blocks stored -/

/-- Query block `r` of head `h`'s weighted sums, maxima and sums, as stored. -/
def wC (c : Dev nD) (t : Fin cfg0.N) (h : Fin 8) (r : Fin 4) : Vec F S1x64x1x128 .f32 :=
  shapeCast S1x64x1x128 (extractStridedSlice S64x128 ![64 * r.val, 0] (cV m c t h) (slices_ctx r)) shapeCasts_S64x128_S1x64x1x128
def wM (c : Dev nD) (t : Fin cfg0.N) (h : Fin 8) (r : Fin 4) : Vec F S1x64x1 .f32 :=
  shapeCast S1x64x1 (extractStridedSlice S64x1 ![64 * r.val, 0] (mV m c t h) (slices_st r)) shapeCasts_S64x1_S1x64x1
def wL (c : Dev nD) (t : Fin cfg0.N) (h : Fin 8) (r : Fin 4) : Vec F S1x64x1 .f32 :=
  shapeCast S1x64x1 (extractStridedSlice S64x1 ![64 * r.val, 0] (lV m c t h) (slices_st r)) shapeCasts_S64x1_S1x64x1

/-- The grid's only coordinate is the point's number. -/
theorem co (t : Fin cfg0.N) : (grid0.coords t 0).val = t.val := by
  rcases fin_N0 t with rfl | rfl | rfl | rfl <;> decide +kernel

theorem t_lt (t : Fin cfg0.N) : t.val < 4 := lt_of_lt_of_eq t.isLt N_0

theorem inbC1 (t : Fin cfg0.N) (h : Fin 8) (r : Fin 4) :
    ∀ a, (![4 * t.val + r.val, 0, h.val, 0] : Fin 4 → Nat) a + S1x64x1x128.size a ≤ S16x64x8x128.size a := by
  have := t_lt t
  intro a
  match a with
  | ⟨0, _⟩ => show 4 * t.val + r.val + 1 ≤ 16; omega
  | ⟨1, _⟩ => show 0 + 64 ≤ 64; omega
  | ⟨2, _⟩ => show h.val + 1 ≤ 8; omega
  | ⟨3, _⟩ => show 0 + 128 ≤ 128; omega
theorem inbS1 (t : Fin cfg0.N) (k : Fin 16) (r : Fin 4) :
    ∀ a, (![4 * t.val + r.val, 0, k.val] : Fin 3 → Nat) a + S1x64x1.size a ≤ S16x64x16.size a := by
  have := t_lt t
  intro a
  match a with
  | ⟨0, _⟩ => show 4 * t.val + r.val + 1 ≤ 16; omega
  | ⟨1, _⟩ => show 0 + 64 ≤ 64; omega
  | ⟨2, _⟩ => show k.val + 1 ≤ 16; omega

/-- The row of the buffer that query block `r` of grid point `t` is. -/
def rowOf (t : Fin cfg0.N) (r : Fin 4) : Dev nD := ⟨4 * t.val + r.val, by have := t_lt t; show _ < 16; omega⟩

abbrev rectC1 (t : Fin cfg0.N) (h : Fin 8) (r : Fin 4) : Rect S16x64x8x128 :=
  Rect.unit (s := S16x64x8x128) ![4 * t.val + r.val, 0, h.val, 0] S1x64x1x128.size (inbC1 t h r)
abbrev rectS1 (t : Fin cfg0.N) (k : Fin 16) (r : Fin 4) : Rect S16x64x16 :=
  Rect.unit (s := S16x64x16) ![4 * t.val + r.val, 0, k.val] S1x64x1.size (inbS1 t k r)

theorem rectC1_emb (t : Fin cfg0.N) (h : Fin 8) (r : Fin 4) (j : S1x64x1x128.Idx) : (rectC1 t h r).emb j = ix4 (rowOf t r) (j 1) h (j 3) := by
  funext a
  refine Fin.ext ?_
  rw [Rect.emb_apply]
  have h0 : (j 0).val < 1 := (j 0).isLt
  have h2 : (j 2).val < 1 := (j 2).isLt
  match a with
  | ⟨0, _⟩ => show 4 * t.val + r.val + 1 * (j 0).val = 4 * t.val + r.val; omega
  | ⟨1, _⟩ => show 0 + 1 * (j 1).val = (j 1).val; omega
  | ⟨2, _⟩ => show h.val + 1 * (j 2).val = h.val; omega
  | ⟨3, _⟩ => show 0 + 1 * (j 3).val = (j 3).val; omega
theorem rectS1_emb (t : Fin cfg0.N) (k : Fin 16) (r : Fin 4) (j : S1x64x1.Idx) : (rectS1 t k r).emb j = ix3 (rowOf t r) (j 1) k := by
  funext a
  refine Fin.ext ?_
  rw [Rect.emb_apply]
  have h0 : (j 0).val < 1 := (j 0).isLt
  have h2 : (j 2).val < 1 := (j 2).isLt
  match a with
  | ⟨0, _⟩ => show 4 * t.val + r.val + 1 * (j 0).val = 4 * t.val + r.val; omega
  | ⟨1, _⟩ => show 0 + 1 * (j 1).val = (j 1).val; omega
  | ⟨2, _⟩ => show k.val + 1 * (j 2).val = k.val; omega

theorem pt_row (t : Fin cfg0.N) (r : Fin 4) : pt ((rowOf t r).val / 4) = t := by
  rw [show (rowOf t r).val / 4 = t.val by show (4 * t.val + r.val) / 4 = t.val; omega, pt_val]
theorem mod_row (t : Fin cfg0.N) (r : Fin 4) : (rowOf t r).val % 4 = r.val := by show (4 * t.val + r.val) % 4 = r.val; omega

/-- A stored element is the final contents' there. -/
theorem wC_at (c : Dev nD) (t : Fin cfg0.N) (h : Fin 8) (r : Fin 4) (j : S1x64x1x128.Idx) :
    wC m c t h r j = LC m c (ix4 (rowOf t r) (j 1) h (j 3)) := by
  show wC m c t h r j = cV m c (pt ((rowOf t r).val / 4)) h (ix2 (row256 ((rowOf t r).val % 4) (j 1)) (j 3))
  rw [pt_row, mod_row]
  have h0 : (j 0).val < 1 := (j 0).isLt
  have h1 : (j 1).val < 64 := (j 1).isLt
  have h2 : (j 2).val < 1 := (j 2).isLt
  refine (shapeCast_apply _ _ j (ix2 (j 1) (j 3) : S64x128.Idx) (by
    rw [Shape.rowMajor_val_two, Shape.rowMajor_val_four]
    show (j 1).val * 128 + (j 3).val = (((j 0).val * 64 + (j 1).val) * 1 + (j 2).val) * 128 + (j 3).val
    omega)).trans ?_
  refine extractStridedSlice_apply _ _ _ _ (ix2 (row256 r.val (j 1)) (j 3) : S256x128.Idx) fun a => ?_
  match a with
  | ⟨0, _⟩ => show (64 * r.val + (j 1).val) % 256 = 64 * r.val + (j 1).val; omega
  | ⟨1, _⟩ => show (j 3).val = 0 + (j 3).val; omega

/-- A query block of a column, as stored, at an element. -/
theorem col_at (v : FVec F S256x1 .f32) (r : Fin 4) (j : S1x64x1.Idx) :
    (shapeCast S1x64x1 (extractStridedSlice S64x1 ![64 * r.val, 0] v (slices_st r)) shapeCasts_S64x1_S1x64x1 : Vec F S1x64x1 .f32) j
      = v (ix2 (row256 r.val (j 1)) 0) := by
  have h0 : (j 0).val < 1 := (j 0).isLt
  have h1 : (j 1).val < 64 := (j 1).isLt
  have h2 : (j 2).val < 1 := (j 2).isLt
  refine (shapeCast_apply _ _ j (ix2 (j 1) 0 : S64x1.Idx) (by
    rw [Shape.rowMajor_val_two, Shape.rowMajor_val_three]
    show (j 1).val * 1 + 0 = ((j 0).val * 64 + (j 1).val) * 1 + (j 2).val
    omega)).trans ?_
  refine extractStridedSlice_apply _ _ _ _ (ix2 (row256 r.val (j 1)) 0 : S256x1.Idx) fun a => ?_
  match a with
  | ⟨0, _⟩ => show (64 * r.val + (j 1).val) % 256 = 64 * r.val + (j 1).val; omega
  | ⟨1, _⟩ => show 0 = 0 + 0; omega

theorem wM_at (c : Dev nD) (t : Fin cfg0.N) (h : Fin 8) (r : Fin 4) (j : S1x64x1.Idx) :
    wM m c t h r j = LS m c (ix3 (rowOf t r) (j 1) (⟨h.val, by omega⟩ : Fin 16)) := by
  have hh : h.val < 8 := h.isLt
  show _ = if h' : h.val < 8 then mV m c (pt ((rowOf t r).val / 4)) ⟨h.val, h'⟩ (ix2 (row256 ((rowOf t r).val % 4) (j 1)) 0) else _
  rw [dif_pos hh, pt_row, mod_row]
  exact col_at _ r j
theorem wL_at (c : Dev nD) (t : Fin cfg0.N) (h : Fin 8) (r : Fin 4) (j : S1x64x1.Idx) :
    wL m c t h r j = LS m c (ix3 (rowOf t r) (j 1) (⟨8 + h.val, by omega⟩ : Fin 16)) := by
  have hh : ¬ (8 + h.val < 8) := by omega
  show _ = if h' : 8 + h.val < 8 then _ else lV m c (pt ((rowOf t r).val / 4)) ⟨8 + h.val - 8, _⟩ (ix2 (row256 ((rowOf t r).val % 4) (j 1)) 0)
  rw [dif_neg hh, pt_row, mod_row]
  refine (col_at _ r j).trans ?_
  congr 2
  exact Fin.ext (by show h.val = 8 + h.val - 8; omega)

/-! ## One store -/

theorem storeC_eq (c : Dev nD) (t : Fin cfg0.N) (h : Fin 8) (r : Fin 4) (n : ℕ) (hn : n = 12 * h.val + 3 * r.val) (f : Vec F S16x64x8x128 .f32)
    (i : S16x64x8x128.Idx) (hi : i ∈ segC (4 * t.val) (4 * t.val + 4)) :
    (locC.access (rectC1 t h r)).write (Elt F) (mixC m c t n f) (wC m c t h r) Finset.univ i = mixC m c t (n + 1) f i := by
  have hseg := mem_segC.mp hi
  have h2 : (i 2).val < 8 := (i 2).isLt
  by_cases hin : ∃ j, (rectC1 t h r).emb j = i
  · obtain ⟨j, rfl⟩ := hin
    refine (View.write_emb_of_mem (v := locC.access (rectC1 t h r)) (Val := Elt F) _ _ (M := Finset.univ) (Finset.mem_univ j)).trans ?_
    refine (wC_at m c t h r j).trans ((congrArg (LC m c) (rectC1_emb t h r j).symm).trans ?_)
    refine (if_pos ?_).symm
    rw [rectC1_emb]
    show 12 * h.val + 3 * (4 * t.val + r.val - 4 * t.val) < n + 1
    omega
  · refine (View.write_of_not_mem (v := locC.access (rectC1 t h r)) (Val := Elt F) _ _ Finset.univ ?_).trans ?_
    · intro hm
      obtain ⟨j, -, hj⟩ := Finset.mem_map.mp hm
      exact hin ⟨j, hj⟩
    · unfold mixC
      refine if_congr ?_ rfl rfl
      have hne : ¬ ((i 0).val = 4 * t.val + r.val ∧ (i 2).val = h.val) := fun ⟨ha, hb⟩ => hin ⟨(ix4 (0 : Fin 1) (i 1) (0 : Fin 1) (i 3) : S1x64x1x128.Idx), by
        rw [rectC1_emb, eq_ix4 i]
        have e0 : rowOf t r = (i 0 : Fin 16) := Fin.ext ha.symm
        have e2 : h = (i 2 : Fin 8) := Fin.ext hb.symm
        rw [e0, e2]; rfl⟩
      omega

/-- Two different places of the store order are never `n` and `n`: the places before `n` and before `n + 1` agree off `n`'s own. -/
theorem place_ne (a b x y q q' n : ℕ) (ha : a < 8) (hb : b < 8) (hx : x < 4) (hy : y < 4) (hq : q < 2) (hq' : q' < 2) (hn : n = 12 * b + 3 * y + 1 + q')
    (hne : ¬ (a = b ∧ x = y ∧ q = q')) : 12 * a + 3 * x + 1 + q < n ↔ 12 * a + 3 * x + 1 + q < n + 1 := by
  constructor
  · intro h; omega
  · intro h
    refine lt_of_le_of_ne (Nat.lt_succ_iff.mp h) fun he => hne ?_
    have h1 : q = q' := by omega
    have h2 : 4 * a + x = 4 * b + y := by omega
    have h3 : a = b := by omega
    exact ⟨h3, by omega, h1⟩

theorem storeS_eq (c : Dev nD) (t : Fin cfg0.N) (k : Fin 16) (r : Fin 4) (n : ℕ) (hn : n = 12 * (k.val % 8) + 3 * r.val + 1 + k.val / 8)
    (w : Vec F S1x64x1 .f32) (hw : ∀ j, w j = LS m c (ix3 (rowOf t r) (j 1) k)) (g : Vec F S16x64x16 .f32)
    (i : S16x64x16.Idx) (hi : i ∈ segS (4 * t.val) (4 * t.val + 4)) :
    (locS.access (rectS1 t k r)).write (Elt F) (mixS m c t n g) w Finset.univ i = mixS m c t (n + 1) g i := by
  have hseg := mem_segS.mp hi
  have h2 : (i 2).val < 16 := (i 2).isLt
  by_cases hin : ∃ j, (rectS1 t k r).emb j = i
  · obtain ⟨j, rfl⟩ := hin
    refine (View.write_emb_of_mem (v := locS.access (rectS1 t k r)) (Val := Elt F) _ _ (M := Finset.univ) (Finset.mem_univ j)).trans ?_
    refine (hw j).trans ((congrArg (LS m c) (rectS1_emb t k r j).symm).trans ?_)
    refine (if_pos ?_).symm
    rw [rectS1_emb]
    show 12 * (k.val % 8) + 3 * (4 * t.val + r.val - 4 * t.val) + 1 + k.val / 8 < n + 1
    omega
  · refine (View.write_of_not_mem (v := locS.access (rectS1 t k r)) (Val := Elt F) _ _ Finset.univ ?_).trans ?_
    · intro hm
      obtain ⟨j, -, hj⟩ := Finset.mem_map.mp hm
      exact hin ⟨j, hj⟩
    · unfold mixS
      refine if_congr ?_ rfl rfl
      have hne : ¬ ((i 0).val = 4 * t.val + r.val ∧ (i 2).val = k.val) := fun ⟨ha, hb⟩ => hin ⟨(ix3 (0 : Fin 1) (i 1) (0 : Fin 1) : S1x64x1.Idx), by
        rw [rectS1_emb, eq_ix3 i]
        have e0 : rowOf t r = (i 0 : Fin 16) := Fin.ext ha.symm
        have e2 : k = (i 2 : Fin 16) := Fin.ext hb.symm
        rw [e0, e2]; rfl⟩
      have hk : k.val < 16 := k.isLt
      refine place_ne ((i 2).val % 8) (k.val % 8) ((i 0).val - 4 * t.val) r.val ((i 2).val / 8) (k.val / 8) n (by omega) (by omega) (by omega) (by omega) (by omega) (by omega) hn ?_
      rintro ⟨ha, hb, hc⟩
      exact hne ⟨by omega, by omega⟩

theorem mixS_skip (c : Dev nD) (t : Fin cfg0.N) (n h r : ℕ) (hn : n = 12 * h + 3 * r) (g : Vec F S16x64x16 .f32) : mixS m c t n g = mixS m c t (n + 1) g := by
  funext i
  unfold mixS
  have h2 : (i 2).val < 16 := (i 2).isLt
  refine if_congr ?_ rfl rfl
  omega
theorem mixC_skip (c : Dev nD) (t : Fin cfg0.N) (n h : ℕ) (hn : n = 3 * h + 1 ∨ n = 3 * h + 2) (f : Vec F S16x64x8x128 .f32) : mixC m c t n f = mixC m c t (n + 1) f := by
  funext i
  unfold mixC
  refine if_congr ?_ rfl rfl
  omega

theorem accC_sub (t : Fin cfg0.N) (h : Fin 8) (r : Fin 4) : (locC.access (rectC1 t h r)).set ⊆ segC (4 * t.val) (4 * t.val + 4) := by
  intro i hi
  obtain ⟨j, -, rfl⟩ := Finset.mem_map.mp hi
  refine mem_segC.mpr ?_
  show 4 * t.val ≤ ((rectC1 t h r).emb j 0).val ∧ ((rectC1 t h r).emb j 0).val < 4 * t.val + 4
  rw [rectC1_emb]
  show 4 * t.val ≤ 4 * t.val + r.val ∧ 4 * t.val + r.val < 4 * t.val + 4
  omega
theorem accS_sub (t : Fin cfg0.N) (k : Fin 16) (r : Fin 4) : (locS.access (rectS1 t k r)).set ⊆ segS (4 * t.val) (4 * t.val + 4) := by
  intro i hi
  obtain ⟨j, -, rfl⟩ := Finset.mem_map.mp hi
  refine mem_segS.mpr ?_
  show 4 * t.val ≤ ((rectS1 t k r).emb j 0).val ∧ ((rectS1 t k r).emb j 0).val < 4 * t.val + 4
  rw [rectS1_emb]
  show 4 * t.val ≤ 4 * t.val + r.val ∧ 4 * t.val + r.val < 4 * t.val + 4
  omega

/-! ## The state and its rules -/

/-- The windows the computation reads, and the local buffers' blocks of grid point `t` with `n` stores done. -/
def CP (c : Dev nD) (t : Fin cfg0.N) (a1 : Memref sig .tc .vmem S1x256x1024 .f32) (a2 : Memref sig .tc .vmem S1024x1024 .f32)
    (a3 a4 : Memref sig .tc .vmem S1x1024x8x128 .f32) (f : Vec F S16x64x8x128 .f32) (g : Vec F S16x64x16 .f32) (n : ℕ) : sProp 𝕄 :=
  iprop(owns (c : Thread nD τ) a1 fullShare (xB m c t) ∗ owns (c : Thread nD τ) a2 fullShare (wqB m c t)
    ∗ owns (c : Thread nD τ) a3 fullShare (kB m c t) ∗ owns (c : Thread nD τ) a4 fullShare (vB m c t)
    ∗ ptLC c (segC (4 * t.val) (4 * t.val + 4)) fullShare (mixC m c t n f)
    ∗ ptLS c (segS (4 * t.val) (4 * t.val + 4)) fullShare (mixS m c t n g))

section Rules

variable {c : Dev nD} {t : Fin cfg0.N} {a1 : Memref sig .tc .vmem S1x256x1024 .f32} {a2 : Memref sig .tc .vmem S1024x1024 .f32}
  {a3 a4 : Memref sig .tc .vmem S1x1024x8x128 .f32} {f : Vec F S16x64x8x128 .f32} {g : Vec F S16x64x16 .f32}
  {R : sProp (MT nD τ sig Unit (Elt F) ℕ UU ℕ)} {α : Type} {Q : α → sProp (MT nD τ sig Unit (Elt F) ℕ UU ℕ)}

/-- A load through an owned memref gives the owned contents at the rectangle's places. -/
theorem wp_load_owns {s : Shape} (a : Memref sig .tc .vmem s .f32) (X : s.Idx → Elt F .f32) (r : LoadRect s) {hl : a.view.LoadsAt r}
    {k : (r.shape.Idx → Elt F .f32) → Prog (TpuEff nD τ sig (Elt F) Λ₀ .tc) α}
    (hk : iprop(owns (c : Thread nD τ) a fullShare X ∗ R) ⊢ WP c (k (fun j => X (r.idx j))) Q) :
    iprop(owns (c : Thread nD τ) a fullShare X ∗ R) ⊢ WP c (.op (.load a r hl) k) Q := by
  unfold owns at hk ⊢
  iintro ⟨⟨%f, %hf, Hf⟩, HR⟩
  iapply (wp_load 𝒱₀ (c : Thread nD τ) none Set.univ (m := a) (View.setOn_subset_set a.view r.set)) $$ Hf
  iintro Hf
  rw [show a.view.readAt (Elt F) r f = fun j => X (r.idx j) from funext fun j => by rw [View.readAt_apply, hf]]
  iapply hk
  isplitl [Hf]
  · iexists f; isplitr
    · ipureintro; exact hf
    · iexact Hf
  · iexact HR

/-- A load of head `h`'s keys, and of its values. -/
theorem ldK {n : ℕ} (h : Fin 8) (off : Fin 4 → ℕ) (hin : ∀ a, off a + S1x1024x1x128.size a ≤ S1x1024x8x128.size a) (hoff : off = ![0, 0, h.val, 0])
    {hl : a3.view.LoadsAt (Rect.unit (s := S1x1024x8x128) off S1x1024x1x128.size hin).toLoadRect}
    {k : Vec F S1x1024x1x128 .f32 → Prog (TpuEff nD τ sig (Elt F) Λ₀ .tc) α}
    (hk : iprop(CP m c t a1 a2 a3 a4 f g n ∗ R) ⊢ WP c (k (headB (kB m c t) h)) Q) :
    iprop(CP m c t a1 a2 a3 a4 f g n ∗ R) ⊢ WP c (.op (.load a3 (Rect.unit (s := S1x1024x8x128) off S1x1024x1x128.size hin).toLoadRect hl) k) Q := by
  subst hoff
  unfold CP at hk ⊢
  refine BIBase.Entails.trans ?_ (wp_load_owns (R := iprop((owns (c : Thread nD τ) a1 fullShare (xB m c t) ∗ owns (c : Thread nD τ) a2 fullShare (wqB m c t)
    ∗ owns (c : Thread nD τ) a4 fullShare (vB m c t)
    ∗ ptLC c (segC (4 * t.val) (4 * t.val + 4)) fullShare (mixC m c t n f)
    ∗ ptLS c (segS (4 * t.val) (4 * t.val + 4)) fullShare (mixS m c t n g)) ∗ R)) a3 (kB m c t) _ (BIBase.Entails.trans ?_ hk))
  · iintro ⟨⟨H1, H2, H3, H4, HC, HS⟩, HR⟩
    isplitl [H3]; · iexact H3
    isplitr [HR]
    · isplitl [H1]; · iexact H1
      isplitl [H2]; · iexact H2
      isplitl [H4]; · iexact H4
      isplitl [HC] <;> iassumption
    · iexact HR
  · iintro ⟨H3, ⟨H1, H2, H4, HC, HS⟩, HR⟩
    isplitr [HR]
    · isplitl [H1]; · iexact H1
      isplitl [H2]; · iexact H2
      isplitl [H3]; · iexact H3
      isplitl [H4]; · iexact H4
      isplitl [HC] <;> iassumption
    · iexact HR

theorem ldV {n : ℕ} (h : Fin 8) (off : Fin 4 → ℕ) (hin : ∀ a, off a + S1x1024x1x128.size a ≤ S1x1024x8x128.size a) (hoff : off = ![0, 0, h.val, 0])
    {hl : a4.view.LoadsAt (Rect.unit (s := S1x1024x8x128) off S1x1024x1x128.size hin).toLoadRect}
    {k : Vec F S1x1024x1x128 .f32 → Prog (TpuEff nD τ sig (Elt F) Λ₀ .tc) α}
    (hk : iprop(CP m c t a1 a2 a3 a4 f g n ∗ R) ⊢ WP c (k (headB (vB m c t) h)) Q) :
    iprop(CP m c t a1 a2 a3 a4 f g n ∗ R) ⊢ WP c (.op (.load a4 (Rect.unit (s := S1x1024x8x128) off S1x1024x1x128.size hin).toLoadRect hl) k) Q := by
  subst hoff
  unfold CP at hk ⊢
  refine BIBase.Entails.trans ?_ (wp_load_owns (R := iprop((owns (c : Thread nD τ) a1 fullShare (xB m c t) ∗ owns (c : Thread nD τ) a2 fullShare (wqB m c t)
    ∗ owns (c : Thread nD τ) a3 fullShare (kB m c t)
    ∗ ptLC c (segC (4 * t.val) (4 * t.val + 4)) fullShare (mixC m c t n f)
    ∗ ptLS c (segS (4 * t.val) (4 * t.val + 4)) fullShare (mixS m c t n g)) ∗ R)) a4 (vB m c t) _ (BIBase.Entails.trans ?_ hk))
  · iintro ⟨⟨H1, H2, H3, H4, HC, HS⟩, HR⟩
    isplitl [H4]; · iexact H4
    isplitr [HR]
    · isplitl [H1]; · iexact H1
      isplitl [H2]; · iexact H2
      isplitl [H3]; · iexact H3
      isplitl [HC] <;> iassumption
    · iexact HR
  · iintro ⟨H4, ⟨H1, H2, H3, HC, HS⟩, HR⟩
    isplitr [HR]
    · isplitl [H1]; · iexact H1
      isplitl [H2]; · iexact H2
      isplitl [H3]; · iexact H3
      isplitl [H4]; · iexact H4
      isplitl [HC] <;> iassumption
    · iexact HR

/-- A load of the block about to be stored: the program does not use what it reads. -/
theorem ldC {n : ℕ} (h : Fin 8) (r : Fin 4) (off : Fin 4 → ℕ) (hin : ∀ a, off a + S1x64x1x128.size a ≤ S16x64x8x128.size a) (hoff : off = ![4 * (grid0.coords t 0).val + r.val, 0, h.val, 0])
    {hl : locC.view.LoadsAt (Rect.unit (s := S16x64x8x128) off S1x64x1x128.size hin).toLoadRect}
    {k : Vec F S1x64x1x128 .f32 → Prog (TpuEff nD τ sig (Elt F) Λ₀ .tc) α}
    (hk : ∀ v, iprop(CP m c t a1 a2 a3 a4 f g n ∗ R) ⊢ WP c (k v) Q) :
    iprop(CP m c t a1 a2 a3 a4 f g n ∗ R) ⊢ WP c (.op (.load locC (Rect.unit (s := S16x64x8x128) off S1x64x1x128.size hin).toLoadRect hl) k) Q := by
  rw [co t] at hoff
  subst hoff
  unfold CP at hk ⊢
  iintro ⟨⟨H1, H2, H3, H4, HC, HS⟩, HR⟩
  iapply (wp_load_rect 𝒱₀ (c : Thread nD τ) none Set.univ (m := locC) (r := rectC1 t h r) (accC_sub t h r)) $$ HC
  iintro HC
  iapply (hk _)
  isplitr [HR]
  · isplitl [H1]; · iexact H1
    isplitl [H2]; · iexact H2
    isplitl [H3]; · iexact H3
    isplitl [H4]; · iexact H4
    isplitl [HC] <;> iassumption
  · iexact HR

theorem ldS {n : ℕ} (p : Fin 16) (r : Fin 4) (off : Fin 3 → ℕ) (hin : ∀ a, off a + S1x64x1.size a ≤ S16x64x16.size a) (hoff : off = ![4 * (grid0.coords t 0).val + r.val, 0, p.val])
    {hl : locS.view.LoadsAt (Rect.unit (s := S16x64x16) off S1x64x1.size hin).toLoadRect}
    {k : Vec F S1x64x1 .f32 → Prog (TpuEff nD τ sig (Elt F) Λ₀ .tc) α}
    (hk : ∀ v, iprop(CP m c t a1 a2 a3 a4 f g n ∗ R) ⊢ WP c (k v) Q) :
    iprop(CP m c t a1 a2 a3 a4 f g n ∗ R) ⊢ WP c (.op (.load locS (Rect.unit (s := S16x64x16) off S1x64x1.size hin).toLoadRect hl) k) Q := by
  rw [co t] at hoff
  subst hoff
  unfold CP at hk ⊢
  iintro ⟨⟨H1, H2, H3, H4, HC, HS⟩, HR⟩
  iapply (wp_load_rect 𝒱₀ (c : Thread nD τ) none Set.univ (m := locS) (r := rectS1 t p r) (accS_sub t p r)) $$ HS
  iintro HS
  iapply (hk _)
  isplitr [HR]
  · isplitl [H1]; · iexact H1
    isplitl [H2]; · iexact H2
    isplitl [H3]; · iexact H3
    isplitl [H4]; · iexact H4
    isplitl [HC] <;> iassumption
  · iexact HR

/-- The store of query block `r` of head `h`'s weighted sums. -/
theorem stC {n : ℕ} (h : Fin 8) (r : Fin 4) (hn : n = 12 * h.val + 3 * r.val) (off : Fin 4 → ℕ) (hin : ∀ a, off a + S1x64x1x128.size a ≤ S16x64x8x128.size a)
    (hoff : off = ![4 * (grid0.coords t 0).val + r.val, 0, h.val, 0]) {w : Vec F S1x64x1x128 .f32} (hw : w = wC m c t h r)
    {hx : (locC.access (Rect.unit (s := S16x64x8x128) off S1x64x1x128.size hin)).Stores Finset.univ}
    {hm : (Finset.univ : Finset (Rect.unit (s := S16x64x8x128) off S1x64x1x128.size hin).shape.Idx) = Finset.univ ∨ ∀ a, (Rect.unit (s := S16x64x8x128) off S1x64x1x128.size hin).stride a = 1}
    {k : PUnit → Prog (TpuEff nD τ sig (Elt F) Λ₀ .tc) α}
    (hk : iprop(CP m c t a1 a2 a3 a4 f g (n + 1) ∗ R) ⊢ WP c (k ⟨⟩) Q) :
    iprop(CP m c t a1 a2 a3 a4 f g n ∗ R) ⊢ WP c (.op (.store locC (Rect.unit (s := S16x64x8x128) off S1x64x1x128.size hin) w Finset.univ hx hm) k) Q := by
  rw [co t] at hoff
  subst hoff; subst hw
  unfold CP at hk ⊢
  iintro ⟨⟨H1, H2, H3, H4, HC, HS⟩, HR⟩
  iapply (wp_store 𝒱₀ (c : Thread nD τ) none Set.univ (m := locC) (r := rectC1 t h r) (Mk := Finset.univ) (accC_sub t h r)) $$ HC
  iintro HC
  ihave HC := (Entails.of_eq (pointsTo_congr (storeC_eq m c t h r n hn f))) $$ HC
  rw [mixS_skip m c t n h.val r.val hn g]
  iapply hk
  isplitr [HR]
  · isplitl [H1]; · iexact H1
    isplitl [H2]; · iexact H2
    isplitl [H3]; · iexact H3
    isplitl [H4]; · iexact H4
    isplitl [HC] <;> iassumption
  · iexact HR

/-- The store of a column of maxima or sums. -/
theorem stS {n : ℕ} (p : Fin 16) (r : Fin 4) (hn : n = 12 * (p.val % 8) + 3 * r.val + 1 + p.val / 8) (off : Fin 3 → ℕ) (hin : ∀ a, off a + S1x64x1.size a ≤ S16x64x16.size a)
    (hoff : off = ![4 * (grid0.coords t 0).val + r.val, 0, p.val]) {w : Vec F S1x64x1 .f32} (hw : ∀ j, w j = LS m c (ix3 (rowOf t r) (j 1) p))
    {hx : (locS.access (Rect.unit (s := S16x64x16) off S1x64x1.size hin)).Stores Finset.univ}
    {hm : (Finset.univ : Finset (Rect.unit (s := S16x64x16) off S1x64x1.size hin).shape.Idx) = Finset.univ ∨ ∀ a, (Rect.unit (s := S16x64x16) off S1x64x1.size hin).stride a = 1}
    {k : PUnit → Prog (TpuEff nD τ sig (Elt F) Λ₀ .tc) α}
    (hk : iprop(CP m c t a1 a2 a3 a4 f g (n + 1) ∗ R) ⊢ WP c (k ⟨⟩) Q) :
    iprop(CP m c t a1 a2 a3 a4 f g n ∗ R) ⊢ WP c (.op (.store locS (Rect.unit (s := S16x64x16) off S1x64x1.size hin) w Finset.univ hx hm) k) Q := by
  rw [co t] at hoff
  subst hoff
  have hp : p.val < 16 := p.isLt
  unfold CP at hk ⊢
  iintro ⟨⟨H1, H2, H3, H4, HC, HS⟩, HR⟩
  iapply (wp_store 𝒱₀ (c : Thread nD τ) none Set.univ (m := locS) (r := rectS1 t p r) (Mk := Finset.univ) (accS_sub t p r)) $$ HS
  iintro HS
  ihave HS := (Entails.of_eq (pointsTo_congr (storeS_eq m c t p r n hn w hw g))) $$ HS
  rw [mixC_skip m c t n (4 * (p.val % 8) + r.val) (by omega) f]
  iapply hk
  isplitr [HR]
  · isplitl [H1]; · iexact H1
    isplitl [H2]; · iexact H2
    isplitl [H3]; · iexact H3
    isplitl [H4]; · iexact H4
    isplitl [HC] <;> iassumption
  · iexact HR

/-- The dead load of a block and the store to it, together. -/
theorem stepC {n : ℕ} (h : Fin 8) (r : Fin 4) (hn : n = 12 * h.val + 3 * r.val) {off : Fin 4 → ℕ} {hin hin' : ∀ a, off a + S1x64x1x128.size a ≤ S16x64x8x128.size a}
    (hoff : off = ![4 * (grid0.coords t 0).val + r.val, 0, h.val, 0]) {w : Vec F S1x64x1x128 .f32} (hw : w = wC m c t h r)
    {hl : locC.view.LoadsAt (Rect.unit (s := S16x64x8x128) off S1x64x1x128.size hin').toLoadRect}
    {hx : (locC.access (Rect.unit (s := S16x64x8x128) off S1x64x1x128.size hin)).Stores Finset.univ}
    {hm : (Finset.univ : Finset (Rect.unit (s := S16x64x8x128) off S1x64x1x128.size hin).shape.Idx) = Finset.univ ∨ ∀ a, (Rect.unit (s := S16x64x8x128) off S1x64x1x128.size hin).stride a = 1}
    {k : PUnit → Prog (TpuEff nD τ sig (Elt F) Λ₀ .tc) α}
    (hk : iprop(CP m c t a1 a2 a3 a4 f g (n + 1) ∗ R) ⊢ WP c (k ⟨⟩) Q) :
    iprop(CP m c t a1 a2 a3 a4 f g n ∗ R) ⊢ WP c (.op (.load locC (Rect.unit (s := S16x64x8x128) off S1x64x1x128.size hin').toLoadRect hl) fun _ =>
      .op (.store locC (Rect.unit (s := S16x64x8x128) off S1x64x1x128.size hin) w Finset.univ hx hm) k) Q :=
  ldC m h r off hin' hoff fun _ => stC m h r hn off hin hoff hw hk
theorem stepS {n : ℕ} (p : Fin 16) (r : Fin 4) (hn : n = 12 * (p.val % 8) + 3 * r.val + 1 + p.val / 8) {off : Fin 3 → ℕ} {hin hin' : ∀ a, off a + S1x64x1.size a ≤ S16x64x16.size a}
    (hoff : off = ![4 * (grid0.coords t 0).val + r.val, 0, p.val]) {w : Vec F S1x64x1 .f32} (hw : ∀ j, w j = LS m c (ix3 (rowOf t r) (j 1) p))
    {hl : locS.view.LoadsAt (Rect.unit (s := S16x64x16) off S1x64x1.size hin').toLoadRect}
    {hx : (locS.access (Rect.unit (s := S16x64x16) off S1x64x1.size hin)).Stores Finset.univ}
    {hm : (Finset.univ : Finset (Rect.unit (s := S16x64x16) off S1x64x1.size hin).shape.Idx) = Finset.univ ∨ ∀ a, (Rect.unit (s := S16x64x16) off S1x64x1.size hin).stride a = 1}
    {k : PUnit → Prog (TpuEff nD τ sig (Elt F) Λ₀ .tc) α}
    (hk : iprop(CP m c t a1 a2 a3 a4 f g (n + 1) ∗ R) ⊢ WP c (k ⟨⟩) Q) :
    iprop(CP m c t a1 a2 a3 a4 f g n ∗ R) ⊢ WP c (.op (.load locS (Rect.unit (s := S16x64x16) off S1x64x1.size hin').toLoadRect hl) fun _ =>
      .op (.store locS (Rect.unit (s := S16x64x16) off S1x64x1.size hin) w Finset.univ hx hm) k) Q :=
  ldS m p r off hin' hoff fun _ => stS m p r hn off hin hoff hw hk

end Rules

end Cert.KP
-- ==== Proof.Waits.lean ====
/-
# Waits, and accesses to whole blocks

`wait1` is one wait of this protocol for a copy's landing or departure: the cell closes with it, and what the copy carried
comes back. The other theorems are loads of one block of a buffer, and the stores of a finished block of rows.
-/
module

public import proofs.«01_k».proof.Proof.Compute
public import Idealize.ShloMosaic.Lib.WritesUnit

@[expose] public section

set_option maxRecDepth 16384

noncomputable section

namespace Cert.KP

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {c : Dev nD}
  {R : sProp (MT nD τ sig Unit (Elt F) ℕ UU ℕ)} {α : Type} {Q : α → sProp (MT nD τ sig Unit (Elt F) ℕ UU ℕ)}

/-- A wait for a copy on cell `k` of family `f`, below everything the device owes. -/
theorem wait1 (K : Dev nD × Ck → ℕ) (k : Dev nD) (hkc : k ≠ c) (f : Fin 6) {s s' : Shape} {sm : DmaSem sig} (hs : sm = dS f k)
    {src : Memref sig .tc .vmem s' .f32} {dst : Memref sig .tc .vmem s .f32} {hsrc : src.view.WordExact} {hdst : dst.view.WordExact}
    (hN : dst.view.dmaCredit = amt f.val) (O : CellTallies nD τ sig Unit) (hO : Above (lvl (.dma (dS f k))) O)
    {kk : PUnit → Prog (TpuEff nD τ sig (Elt F) Λ₀ .tc) α}
    (hk : iprop(dmaPay m c f.val k ∗ zer (F := F) c f k ∗ (∃ W, owes (c : Thread nD τ) O W) ∗ R) ⊢ WP c (kk ⟨⟩) Q) :
    iprop((records m K ∗ levAts L lv) ∗ pos (F := F) c f k ∗ crd (F := F) c f k ∗ (∃ W, owes (c : Thread nD τ) O W) ∗ R)
      ⊢ WP c (.op (.waitDma2 sm src dst hsrc hdst) kk) Q := by
  subst hs
  iintro ⟨⟨#Hrec, #Hlev⟩, Hat, Hcr, ⟨%W, HO⟩, HR⟩
  iapply (Rounds.wp_wait_rest_token 𝒱₀ ER (rd m) (c : Thread nD τ) none (κ := K (c, some (f, k)))
    (wpE_waitDma2_eq 𝒱₀ (c : Thread nD τ) none Set.univ) (Set.mem_univ _) () (O := O) (W := W) (R := 0) (m := 0) (T := ∅)
    (by rw [Nat.zero_add, hN]; exact (expect_cel m c f k hkc).symm)) $$ [Hcr HO Hat]
  · isplitr; · iapply (inv_cel m K c f k); iexact Hrec
    isplitl [Hcr]
    · iapply (Entails.of_eq (show crd (F := F) c f k = cred (tallyAt ((c : Thread nD τ), SemLoc.dma (dS f k)) () dst.view.dmaCredit) by unfold crd; rw [hN])); iexact Hcr
    isplitl [HO]; · iexact HO
    isplitr; · iapply (mayWait (F := F) c (.dma (dS f k)) _ (le_refl _) O hO); iexact Hlev
    iexact Hat
  iintro ⟨HO, Hat, -, Hpay⟩
  ihave Hp := (Entails.of_eq (rest_cel m c f k hkc)) $$ Hpay
  imod (Rounds.cell_close ER (rd m) (Set.mem_univ (K (c, some (f, k)))) (fun h => h) (R := 0 + 1) (duties_later m (cel c f k))) $$ [Hat] with Hz
  · isplitr; · iapply (inv_cel m K c f k); iexact Hrec
    iexact Hat
  iapply hk
  isplitl [Hp]; · iexact Hp
  isplitl [Hz]; · iexact Hz
  isplitl [HO]
  · iexists _; iexact HO
  · iexact HR

/-- A device's own cell, which no copy uses, closes as it is. -/
theorem close_own (K : Dev nD × Ck → ℕ) (f : Fin 6) :
    iprop(records m K ∗ pos (F := F) c f c) ⊢ |={Set.univ}=> zer (F := F) c f c := by
  iintro ⟨#Hrec, Hat⟩
  imod (Rounds.cell_close ER (rd m) (Set.mem_univ (K (c, some (f, c)))) (fun h => h) (R := 0) (duties_own m c f)) $$ [Hat] with Hz
  · isplitr; · iapply (inv_cel m K c f c); iexact Hrec
    iexact Hat
  imodintro
  iexact Hz

/-! ## Loads of one block -/

theorem acc_locC (k : Dev nD) : (locC.access (rectC k)).set ⊆ setC k := by
  rw [show (locC.access (rectC k)).set = (rectC k).set from View.set_slice_whole _ _, rectC_set]
theorem acc_rcvC (k : Dev nD) : (rcvC.access (rectC k)).set ⊆ setC k := by
  rw [show (rcvC.access (rectC k)).set = (rectC k).set from View.set_slice_whole _ _, rectC_set]
theorem acc_locS (k : Dev nD) : (locS.access (rectS k)).set ⊆ setS k := by
  rw [show (locS.access (rectS k)).set = (rectS k).set from View.set_slice_whole _ _, rectS_set]
theorem acc_rcvS (k : Dev nD) : (rcvS.access (rectS k)).set ⊆ setS k := by
  rw [show (rcvS.access (rectS k)).set = (rectS k).set from View.set_slice_whole _ _, rectS_set]
theorem acc_gatB (k : Dev nD) : (gatB.access (rectB k)).set ⊆ setB k := by
  rw [show (gatB.access (rectB k)).set = (rectB k).set from View.set_slice_whole _ _, rectB_set]

theorem ldLC (k : Dev nD) (f : Vec F S16x64x8x128 .f32) {off : Fin 4 → ℕ} {hin : ∀ a, off a + S1x64x8x128.size a ≤ S16x64x8x128.size a} (hoff : off = ![k.val, 0, 0, 0])
    {hl : locC.view.LoadsAt (Rect.unit (s := S16x64x8x128) off S1x64x8x128.size hin).toLoadRect} {kk : Vec F S1x64x8x128 .f32 → Prog (TpuEff nD τ sig (Elt F) Λ₀ .tc) α}
    (hk : iprop(ptLC c (setC k) fullShare f ∗ R) ⊢ WP c (kk (blkC f k)) Q) :
    iprop(ptLC c (setC k) fullShare f ∗ R) ⊢ WP c (.op (.load locC (Rect.unit (s := S16x64x8x128) off S1x64x8x128.size hin).toLoadRect hl) kk) Q := by
  subst hoff
  iintro ⟨H, HR⟩
  iapply (wp_load_rect 𝒱₀ (c : Thread nD τ) none Set.univ (m := locC) (r := rectC k) (acc_locC k)) $$ H
  iintro H
  rw [show View.read (Elt F) (locC.access (rectC k)) f = blkC f k from read_locC k f]
  iapply hk
  isplitl [H] <;> iassumption
theorem ldRC (k : Dev nD) (f : Vec F S16x64x8x128 .f32) {off : Fin 4 → ℕ} {hin : ∀ a, off a + S1x64x8x128.size a ≤ S16x64x8x128.size a} (hoff : off = ![k.val, 0, 0, 0])
    {hl : rcvC.view.LoadsAt (Rect.unit (s := S16x64x8x128) off S1x64x8x128.size hin).toLoadRect} {kk : Vec F S1x64x8x128 .f32 → Prog (TpuEff nD τ sig (Elt F) Λ₀ .tc) α}
    (hk : iprop(ptRC c (setC k) fullShare f ∗ R) ⊢ WP c (kk (blkC f k)) Q) :
    iprop(ptRC c (setC k) fullShare f ∗ R) ⊢ WP c (.op (.load rcvC (Rect.unit (s := S16x64x8x128) off S1x64x8x128.size hin).toLoadRect hl) kk) Q := by
  subst hoff
  iintro ⟨H, HR⟩
  iapply (wp_load_rect 𝒱₀ (c : Thread nD τ) none Set.univ (m := rcvC) (r := rectC k) (acc_rcvC k)) $$ H
  iintro H
  rw [show View.read (Elt F) (rcvC.access (rectC k)) f = blkC f k from read_rcvC k f]
  iapply hk
  isplitl [H] <;> iassumption
theorem ldLS (k : Dev nD) (f : Vec F S16x64x16 .f32) {off : Fin 3 → ℕ} {hin : ∀ a, off a + S1x64x16.size a ≤ S16x64x16.size a} (hoff : off = ![k.val, 0, 0])
    {hl : locS.view.LoadsAt (Rect.unit (s := S16x64x16) off S1x64x16.size hin).toLoadRect} {kk : Vec F S1x64x16 .f32 → Prog (TpuEff nD τ sig (Elt F) Λ₀ .tc) α}
    (hk : iprop(ptLS c (setS k) fullShare f ∗ R) ⊢ WP c (kk (blkS f k)) Q) :
    iprop(ptLS c (setS k) fullShare f ∗ R) ⊢ WP c (.op (.load locS (Rect.unit (s := S16x64x16) off S1x64x16.size hin).toLoadRect hl) kk) Q := by
  subst hoff
  iintro ⟨H, HR⟩
  iapply (wp_load_rect 𝒱₀ (c : Thread nD τ) none Set.univ (m := locS) (r := rectS k) (acc_locS k)) $$ H
  iintro H
  rw [show View.read (Elt F) (locS.access (rectS k)) f = blkS f k from read_locS k f]
  iapply hk
  isplitl [H] <;> iassumption
theorem ldRS (k : Dev nD) (f : Vec F S16x64x16 .f32) {off : Fin 3 → ℕ} {hin : ∀ a, off a + S1x64x16.size a ≤ S16x64x16.size a} (hoff : off = ![k.val, 0, 0])
    {hl : rcvS.view.LoadsAt (Rect.unit (s := S16x64x16) off S1x64x16.size hin).toLoadRect} {kk : Vec F S1x64x16 .f32 → Prog (TpuEff nD τ sig (Elt F) Λ₀ .tc) α}
    (hk : iprop(ptRS c (setS k) fullShare f ∗ R) ⊢ WP c (kk (blkS f k)) Q) :
    iprop(ptRS c (setS k) fullShare f ∗ R) ⊢ WP c (.op (.load rcvS (Rect.unit (s := S16x64x16) off S1x64x16.size hin).toLoadRect hl) kk) Q := by
  subst hoff
  iintro ⟨H, HR⟩
  iapply (wp_load_rect 𝒱₀ (c : Thread nD τ) none Set.univ (m := rcvS) (r := rectS k) (acc_rcvS k)) $$ H
  iintro H
  rw [show View.read (Elt F) (rcvS.access (rectS k)) f = blkS f k from read_rcvS k f]
  iapply hk
  isplitl [H] <;> iassumption
theorem ldB (k : Dev nD) (f : Vec F S16x64x1024 .f32) {off : Fin 3 → ℕ} {hin : ∀ a, off a + S1x64x1024.size a ≤ S16x64x1024.size a} (hoff : off = ![k.val, 0, 0])
    {hl : gatB.view.LoadsAt (Rect.unit (s := S16x64x1024) off S1x64x1024.size hin).toLoadRect} {kk : Vec F S1x64x1024 .f32 → Prog (TpuEff nD τ sig (Elt F) Λ₀ .tc) α}
    (hk : iprop(ptB c (setB k) fullShare f ∗ R) ⊢ WP c (kk (blkB f k)) Q) :
    iprop(ptB c (setB k) fullShare f ∗ R) ⊢ WP c (.op (.load gatB (Rect.unit (s := S16x64x1024) off S1x64x1024.size hin).toLoadRect hl) kk) Q := by
  subst hoff
  iintro ⟨H, HR⟩
  iapply (wp_load_rect 𝒱₀ (c : Thread nD τ) none Set.univ (m := gatB) (r := rectB k) (acc_gatB k)) $$ H
  iintro H
  rw [show View.read (Elt F) (gatB.access (rectB k)) f = blkB f k from read_gatB k f]
  iapply hk
  isplitl [H] <;> iassumption

/-! ## Stores of a finished block of rows -/

/-- Device `p`'s finished block, as a store of it has it. -/
def blkO (p : Dev nD) : Vec F S1x64x1024 .f32 := fun j => OV m p (ix2 (j 1) (j 2))

theorem stB {w : Vec F S1x64x1024 .f32} (hw : w = blkO m c) {off : Fin 3 → ℕ} {hin : ∀ a, off a + S1x64x1024.size a ≤ S16x64x1024.size a} (hoff : off = ![c.val, 0, 0])
    {hx} {hm : (Finset.univ : Finset (Rect.unit (s := S16x64x1024) off S1x64x1024.size hin).shape.Idx) = Finset.univ ∨ ∀ a, (Rect.unit (s := S16x64x1024) off S1x64x1024.size hin).stride a = 1}
    {kk : PUnit → Prog (TpuEff nD τ sig (Elt F) Λ₀ .tc) α}
    (hk : iprop(ptB c (setB c) fullShare (BC m) ∗ R) ⊢ WP c (kk ⟨⟩) Q) :
    iprop(exB (F := F) c c ∗ R) ⊢ WP c (.op (.store gatB (Rect.unit (s := S16x64x1024) off S1x64x1024.size hin) w Finset.univ hx hm) kk) Q := by
  subst hoff; subst hw
  unfold exB
  iintro ⟨⟨%f, H⟩, HR⟩
  iapply (wp_store 𝒱₀ (c : Thread nD τ) none Set.univ (m := gatB) (r := rectB c) (w := blkO m c) (Mk := Finset.univ) (S := setB c) (f := f)
    ((View.setOn_subset_set _ _).trans (acc_gatB c))) $$ H
  iintro H
  have h : ∀ i ∈ setB c, (gatB.access (rectB c)).write (Elt F) f (blkO m c) Finset.univ i = BC m i := fun i hi => by
    rw [← rectB_set, ← Rect.map_emb_univ] at hi
    obtain ⟨x, -, rfl⟩ := Finset.mem_map.mp hi
    refine (View.write_emb_of_mem (v := gatB.access (rectB c)) (Val := Elt F) f _ (M := Finset.univ) (Finset.mem_univ x)).trans ?_
    show OV m c (ix2 (x 1) (x 2)) = BC m ((rectB c).emb x)
    rw [rectB_emb]
    rfl
  ihave H := (Entails.of_eq (pointsTo_congr h)) $$ H
  iapply hk
  isplitl [H] <;> iassumption

set_option backward.proofsInPublic true in
/-- The device whose block of rows a row of the output is in. -/
def rowDev (i : S1x1024x1024.Idx) : Dev nD := ⟨(i 1).val / 64, by have h : (i 1).val < 1024 := (i 1).isLt; show _ < 16; omega⟩

/-- The output window with the blocks of the devices in `S` written. -/
def outI (c : Dev nD) (a6 : Memref sig .tc .vmem S1x1024x1024 .f32) (S : Dev nD → Prop) : sProp 𝕄 :=
  iprop(∃ X : Vec F S1x1024x1024 .f32, ⌜∀ i, S (rowDev i) → X i = OUT m i⌝ ∗ owns (c : Thread nD τ) a6 fullShare X)

variable {a6 : Memref sig .tc .vmem S1x1024x1024 .f32}

theorem outI_mono {S S' : Dev nD → Prop} (h : ∀ p, S' p → S p) : outI m c a6 S ⊢ outI m c a6 S' := by
  unfold outI
  iintro ⟨%X, %hX, H⟩
  iexists X
  isplitr
  · ipureintro; exact fun i hi => hX i (h _ hi)
  · iexact H

/-- A load of the output: the program does not use what it reads. -/
theorem ldO {S : Dev nD → Prop} (r : LoadRect S1x1024x1024) {hl : a6.view.LoadsAt r} {kk : (r.shape.Idx → Elt F .f32) → Prog (TpuEff nD τ sig (Elt F) Λ₀ .tc) α}
    (hk : ∀ v, iprop(outI m c a6 S ∗ R) ⊢ WP c (kk v) Q) : iprop(outI m c a6 S ∗ R) ⊢ WP c (.op (.load a6 r hl) kk) Q := by
  unfold outI at hk ⊢
  iintro ⟨⟨%X, %hX, H⟩, HR⟩
  iapply (wp_load_owns (R := R) a6 X r (BIBase.Entails.trans ?_ (hk _)))
  · iintro ⟨H, HR⟩
    isplitl [H]
    · iexists X
      isplitr
      · ipureintro; exact hX
      · iexact H
    · iexact HR
  · isplitl [H] <;> iassumption

/-- The store of device `p`'s block of rows. -/
theorem stO {S : Dev nD → Prop} (p : Dev nD) {w : Vec F S1x64x1024 .f32} (hw : w = blkO m p) {off : Fin 3 → ℕ} {hin : ∀ a, off a + S1x64x1024.size a ≤ S1x1024x1024.size a}
    (hoff : off = ![0, 64 * p.val, 0])
    {hx} {hm : (Finset.univ : Finset (Rect.unit (s := S1x1024x1024) off S1x64x1024.size hin).shape.Idx) = Finset.univ ∨ ∀ a, (Rect.unit (s := S1x1024x1024) off S1x64x1024.size hin).stride a = 1}
    {kk : PUnit → Prog (TpuEff nD τ sig (Elt F) Λ₀ .tc) α}
    (hk : iprop(outI m c a6 (fun q => q = p ∨ S q) ∗ R) ⊢ WP c (kk ⟨⟩) Q) :
    iprop(outI m c a6 S ∗ R) ⊢ WP c (.op (.store a6 (Rect.unit (s := S1x1024x1024) off S1x64x1024.size hin) w Finset.univ hx hm) kk) Q := by
  subst hw
  unfold outI owns at hk
  unfold outI owns
  iintro ⟨⟨%X, %hX, %f, %hf, H⟩, HR⟩
  iapply (wp_store_writes₀ 𝒱₀ (c : Thread nD τ) none Set.univ (m := a6) (r := Rect.unit (s := S1x1024x1024) off S1x64x1024.size hin) (w := blkO m p)
    (S := a6.view.set) (f := f) (View.set_slice_subset a6.view _)) $$ H
  iintro H
  iapply hk
  isplitr [HR]
  · iexists (a6.view.read (Elt F) (a6.view.writes (Elt F) f [⟨Rect.unit (s := S1x1024x1024) off S1x64x1024.size hin, blkO m p⟩]))
    isplitr
    · ipureintro
      intro i hi
      by_cases hp : rowDev i = p
      · have hv : (i 1).val / 64 = p.val := congrArg Fin.val hp
        refine (View.read_writes_cons_unit_of_mem a6.view f hin (blkO m p) [] i
          (ix3 (0 : Fin 1) (⟨(i 1).val % 64, Nat.mod_lt _ (by decide)⟩ : Fin 64) (i 2)) hoff fun a => ?_).trans ?_
        · match a with
          | ⟨0, _⟩ => have h0 : (i 0).val < 1 := (i 0).isLt; show (i 0).val = 0 + 0; omega
          | ⟨1, _⟩ => show (i 1).val = 64 * p.val + (i 1).val % 64; omega
          | ⟨2, _⟩ => show (i 2).val = 0 + (i 2).val; omega
        · subst hp; rfl
      · refine (View.read_writes_cons_unit_of_not_mem a6.view f hin (blkO m p) [] i hoff 1 ?_).trans ?_
        · have hv : (i 1).val / 64 ≠ p.val := fun e => hp (Fin.ext e)
          show (i 1).val < 64 * p.val ∨ 64 * p.val + 64 ≤ (i 1).val
          omega
        · rw [View.writes_nil, hf]
          exact hX i (hi.resolve_left hp)
    · iexists _
      isplitr
      · ipureintro; rfl
      · iexact H
  · iexact HR

end Cert.KP
-- ==== Proof.Handshake.lean ====
/-
# The handshake

At the first grid point every device signals every peer's barrier, handing over its own landing blocks for that peer, and
waits for its fifteen peers' signals, which bring their landing blocks for it.
-/
module

public import proofs.«01_k».proof.Proof.Compute

@[expose] public section

set_option maxRecDepth 16384

noncomputable section

namespace Cert.KP

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {c : Dev nD} {t : Fin cfg0.N} {a1 : Memref sig .tc .vmem S1x256x1024 .f32} {a2 : Memref sig .tc .vmem S1024x1024 .f32}
  {a3 a4 : Memref sig .tc .vmem S1x1024x8x128 .f32} {a5 : Memref sig .tc .vmem S1024x1024 .f32} {a6 : Memref sig .tc .vmem S1x1024x1024 .f32}
  {h1 : a1.IsWhole} {h2 : a2.IsWhole} {h3 : a3.IsWhole} {h4 : a4.IsWhole} {h5 : a5.IsWhole} {h6 : a6.IsWhole}
  {R : sProp (MT nD τ sig Unit (Elt F) ℕ UU ℕ)} {α : Type} {Q : α → sProp (MT nD τ sig Unit (Elt F) ℕ UU ℕ)}

/-- A program that is done. -/
theorem wp_done {P : sProp 𝕄} {a : α} (h : P ⊢ Q a) : P ⊢ WP c (.ret a) Q := by
  unfold WP
  rw [wp_ret]
  exact h.trans fupd_intro

theorem trips1 : k0_t1_loop.trips = 15 := by decide +kernel
def fin1 (k : Fin k0_t1_loop.trips) : Fin 15 := ⟨k.val, lt_of_lt_of_eq k.isLt trips1⟩

/-- After `k` signals: what the rest needs, and the credit still owed. -/
def sigI (K : Dev nD × Ck → ℕ) (c : Dev nD) (k : ℕ) : sProp 𝕄 :=
  iprop(records m K ∗ (∃ W, owes (c : Thread nD τ) ((Obc c 0 + Orec c 0) + Obar c k) W)
    ∗ bigSep (frm 15 k) fun n : Fin 15 => iprop(dutyTok ER (bar (peer c n)) 0 c ∗ barPay (F := F) (peer c n) c))

/-- One signal. -/
theorem sig_step (K : Dev nD × Ck → ℕ) (n : Dev nD) (j : Fin 15) (hn : n = peer c j) {s : Sem sig} (hs : s = barS)
    {kk : PUnit → Prog (TpuEff nD τ sig (Elt F) Λ₀ .tc) α} (hk : sigI m K c (j.val + 1) ⊢ WP c (kk ⟨⟩) Q) :
    sigI m K c j.val ⊢ WP c (.op (.semSignal (n : Thread nD τ) s (1#32).toNat) kk) Q := by
  subst hn; subst hs
  unfold sigI at hk ⊢
  rw [frm_peel _ j, Obar_peel, ← add_assoc]
  iintro ⟨#Hrec, ⟨%W, HO⟩, ⟨Htok, Hpay⟩, Hfrm⟩
  iapply (Rounds.wp_signal 𝒱₀ ER (rd m) (c : Thread nD τ) none (dst := (peer c j : Thread nD τ)) (κ := K (peer c j, none)) (r := 0)
    (d := c) (by rw [duties_bar]; exact Finset.mem_erase.mpr ⟨(peer_ne c j).symm, Finset.mem_univ _⟩)
    ((amount_bar m (peer c j) c).trans (by decide)) () (Obc c 0 + Orec c 0 + Obar c (j.val + 1)) rfl) $$ [HO Htok Hpay]
  · isplitr; · iapply (inv_bar m K (peer c j)); iexact Hrec
    isplitl [HO]; · iexact HO
    isplitl [Htok]; · iexact Htok
    isplitl [Hpay]; · iapply (Entails.of_eq (payload_bar m (peer c j) c).symm); iexact Hpay
    iapply (reached_bar m K (peer c j)); iexact Hrec
  · iintro HO
    iapply hk
    isplitr; · iexact Hrec
    isplitl [HO]
    · iexists W; iexact HO
    · iexact Hfrm

/-- What the signals hand over, before the first. -/
theorem pre_split (K : Dev nD × Ck → ℕ) (c : Dev nD) :
    iprop(preS m K c ∗ ∃ W, owes (c : Thread nD τ) (O₀ c) W) ⊢ iprop(sigI m K c 0
      ∗ records m K ∗ levAts L lv ∗ (atPos ER (bar c) 0 ∅ 0 ∗ cred (tallyAt (bar c) () 15))
      ∗ (∃ f, ptLC (F := F) c (segC 0 16) fullShare f) ∗ (∃ f, ptLS (F := F) c (segS 0 16) fullShare f)
      ∗ (exRC (F := F) c c ∗ exRS (F := F) c c ∗ exB (F := F) c c)
      ∗ (bigSep Finset.univ fun k : Dev nD => sendTok (F := F) c k) ∗ (bigSep Finset.univ fun n : Fin 15 => bcTok (F := F) c (peer c n))
      ∗ rest (F := F) c) := by
  unfold preS sigI O₀ barPay
  rw [frm_zero, bigSep_peers (exRC (F := F) c) c, bigSep_peers (exRS (F := F) c) c, bigSep_peers (exB (F := F) c) c, bigSep_sep', bigSep_sep', bigSep_sep']
  iintro ⟨⟨#Hrec, Hlev, ⟨Hat, Hcr, Htok⟩, HLC, HLS, ⟨HC, HCs⟩, ⟨HS, HSs⟩, ⟨HB, HBs⟩, Hst, Hbt, Hrest⟩, HO⟩
  isplitl [HO Htok HCs HSs HBs]
  · isplitr; · iexact Hrec
    isplitl [HO]; · iexact HO
    isplitl [Htok]; · iexact Htok
    isplitl [HCs]; · iexact HCs
    isplitl [HSs] <;> iassumption
  isplitr; · iexact Hrec
  isplitl [Hlev]; · iexact Hlev
  isplitl [Hat Hcr]; · isplitl [Hat] <;> iassumption
  isplitl [HLC]; · iexact HLC
  isplitl [HLS]; · iexact HLS
  isplitl [HC HS HB]
  · isplitl [HC]; · iexact HC
    isplitl [HS] <;> iassumption
  isplitl [Hst]; · iexact Hst
  isplitl [Hbt] <;> iassumption

/-- The tokens and the places of the copies are all a send needs. -/
theorem sendRes_intro (c : Dev nD) :
    iprop((bigSep Finset.univ fun k : Dev nD => sendTok (F := F) c k) ∗ (bigSep Finset.univ fun n : Fin 15 => exRC (F := F) (peer c n) c)
      ∗ (bigSep Finset.univ fun n : Fin 15 => exRS (F := F) (peer c n) c)) ⊢ bigSep Finset.univ (sendRes (F := F) c) := by
  rw [bigSep_peers (fun k => sendTok (F := F) c k) c, bigSep_peers (sendRes (F := F) c) c, show sendRes (F := F) c c = iprop(emp) from if_pos rfl]
  have h : (bigSep Finset.univ fun n : Fin 15 => sendRes (F := F) c (peer c n))
      = iprop((bigSep Finset.univ fun n : Fin 15 => sendTok (F := F) c (peer c n)) ∗ (bigSep Finset.univ fun n : Fin 15 => exRC (F := F) (peer c n) c)
        ∗ (bigSep Finset.univ fun n : Fin 15 => exRS (F := F) (peer c n) c)) := by
    rw [← bigSep_sep', ← bigSep_sep']
    refine bigSep_congr fun n _ => ?_
    unfold sendRes sendTok
    rw [if_neg (peer_ne c n), if_neg (peer_ne c n)]
  rw [h]
  iintro ⟨⟨-, Ht⟩, HC, HS⟩
  isplitr; · iempintro
  isplitl [Ht]; · iexact Ht
  isplitl [HC] <;> iassumption

/-- The state after the wait, from the peers' landing blocks. -/
theorem mid_intro (K : Dev nD × Ck → ℕ) (c : Dev nD) :
    iprop((bigSep Finset.univ fun n : Fin 15 => barPay (F := F) c (peer c n)) ∗ semVal (bar c) 0
      ∗ records m K ∗ levAts L lv
      ∗ (∃ f, ptLC (F := F) c (segC 0 16) fullShare f) ∗ (∃ f, ptLS (F := F) c (segS 0 16) fullShare f)
      ∗ (exRC (F := F) c c ∗ exRS (F := F) c c ∗ exB (F := F) c c)
      ∗ (bigSep Finset.univ fun k : Dev nD => sendTok (F := F) c k) ∗ (bigSep Finset.univ fun n : Fin 15 => bcTok (F := F) c (peer c n))
      ∗ rest (F := F) c) ⊢ midS m K c 0 := by
  unfold midS midR barPay bcRes
  rw [frm_zero, upto_zero, bigSep_sep', bigSep_sep', bigSep_sep', bigSep_empty]
  iintro ⟨⟨HCs, HSs, HBs⟩, Hbar, Hrec, Hlev, HLC, HLS, Hown, Hst, Hbt, Hrest⟩
  isplitl [HLC]; · iexact HLC
  isplitl [HLS]; · iexact HLS
  isplitl [Hrec]; · iexact Hrec
  isplitl [Hlev]; · iexact Hlev
  isplitl [Hbar]; · iexact Hbar
  isplitl [Hst HCs HSs]
  · iapply (sendRes_intro (F := F) c)
    isplitl [Hst]; · iexact Hst
    isplitl [HCs] <;> iassumption
  isplitr; · iempintro
  isplitl [Hown]; · iexact Hown
  isplitl [Hbt HBs]; · isplitl [Hbt] <;> iassumption
  iexact Hrest

/-- The signals and the wait. -/
theorem handshake (K : Dev nD × Ck → ℕ) (hc : k0_cond1 (grid0.coords t) = 1#1)
    {kk : PUnit → Prog (TpuEff nD τ sig (Elt F) Λ₀ .tc) α}
    (hk : iprop((midS m K c 0 ∗ ∃ W, owes (c : Thread nD τ) (Obc c 0 + Orec c 0) W) ∗ R) ⊢ WP c (kk ⟨⟩) Q) :
    iprop((preS m K c ∗ ∃ W, owes (c : Thread nD τ) (O₀ c) W) ∗ R)
      ⊢ WP c (Prog.bind (Scf.Loop.for k0_t1_loop (k0_t1_ok (grid0.coords t) hc) ⟨⟩
        (k0_t1_body (grid0.coords t) a1 h1 a2 h2 a3 h3 a4 h4 a5 h5 a6 h6 locC (Memref.isWhole_whole _) locS (Memref.isWhole_whole _) rcvC (Memref.isWhole_whole _)
          rcvS (Memref.isWhole_whole _) gatB (Memref.isWhole_whole _) cc0_scratch5 cc0_scratch6 cc0_scratch7 cc0_scratch8 cc0_scratch9 cc0_scratch10 c (SemArray.scalar (sig.barrier 0 rfl)) hc))
        fun _ => .op (.semWait (SemArray.scalar (sig.barrier 0 rfl) : Sems sig S_).sem (15#32).toNat) kk) Q := by
  iintro ⟨H, HR⟩
  ihave H := (pre_split m K c) $$ H
  icases H with ⟨HI, #Hrec, #Hlev, ⟨Hat, Hcr⟩, Hmid⟩
  have hbody : ∀ (k : Fin k0_t1_loop.trips) (acc : Unit), sigI m K c k.val ⊢ WP c (k0_t1_body (F := F) (grid0.coords t) a1 h1 a2 h2 a3 h3 a4 h4 a5 h5 a6 h6 locC (Memref.isWhole_whole _) locS (Memref.isWhole_whole _) rcvC (Memref.isWhole_whole _)
          rcvS (Memref.isWhole_whole _) gatB (Memref.isWhole_whole _) cc0_scratch5 cc0_scratch6 cc0_scratch7 cc0_scratch8 cc0_scratch9 cc0_scratch10 c (SemArray.scalar (sig.barrier 0 rfl)) hc k acc) fun _ => sigI m K c (k.val + 1) := fun k acc => by
    unfold k0_t1_body
    simp only [semSignalWord, Prog.lift, Prog.bind_op, Prog.bind_ret, Prog.pure_eq_ret]
    refine sig_step m K _ (fin1 k) (Fin.ext ((k0_dev1_eq c k).trans (peer_val c (fin1 k)).symm)) rfl ?_
    exact wp_done (BI.Entails.refl _)
  iapply (Scf.wp_for_bind frame (wpE (defs₀ (F := F)) 𝒱₀ (c : Thread nD τ) none) Set.univ _ _ _ _ _ _ (fun k _ => sigI m K c k) hbody) $$ HI
  iintro %acc HI
  ihave HI := (Entails.of_eq (show sigI m K c k0_t1_loop.trips = sigI m K c 15 by rw [trips1])) $$ HI
  unfold sigI
  rw [Obar_end, add_zero]
  icases HI with ⟨-, ⟨%W, HO⟩, -⟩
  iapply (Rounds.wp_wait_rest_token 𝒱₀ ER (rd m) (c : Thread nD τ) none (κ := K (c, none))
    (wpE_semWait_eq 𝒱₀ (c : Thread nD τ) none Set.univ) (Set.mem_univ _) () (O := Obc c 0 + Orec c 0) (W := W) (R := 0) (m := 0) (T := ∅)
    (by rw [expect_bar]; decide)) $$ [Hcr HO Hat]
  · isplitr; · iapply (inv_bar m K c); iexact Hrec
    isplitl [Hcr]; · iexact Hcr
    isplitl [HO]; · iexact HO
    isplitr; · iapply (mayWait (F := F) c (.reg barS) 1 (le_refl _) (Obc c 0 + Orec c 0) (above_add (above_mono (above_Obc c 0) (by decide)) (above_Orec c 0))); iexact Hlev
    iexact Hat
  iintro ⟨HO, Hat, -, Hpay⟩
  ihave Hp := (Entails.of_eq (rest_bar m c)) $$ Hpay
  imod (Rounds.cell_close ER (rd m) (Set.mem_univ (K (c, none))) (fun h => h) (R := 0 + 1) (duties_later m (bar c))) $$ [Hat] with Hz
  · isplitr; · iapply (inv_bar m K c); iexact Hrec
    iexact Hat
  iapply hk
  isplitr [HR]
  · isplitr [HO]
    · iapply (mid_intro m K c)
      isplitl [Hp]; · iexact Hp
      isplitl [Hz]; · iexact Hz
      isplitr; · iexact Hrec
      isplitr; · iexact Hlev
      iexact Hmid
    · iexists _; iexact HO
  · iexact HR

end Cert.KP
-- ==== Proof.Sends.lean ====
/-
# The remote copies

`send1` is one remote copy of this protocol, whatever its blocks: the sender pays the landing credit it owes, hands over the
source block and the place on the target, and gets the credit for the copy's departure. `sndS … n` is the state of a grid
point's copies with the blocks before `n` sent; each of the four conditionals takes it from one block to the next.
-/
module

public import proofs.«01_k».proof.Proof.Compute

@[expose] public section

set_option maxRecDepth 16384

noncomputable section

namespace Cert.KP

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable {R : sProp (MT nD τ sig Unit (Elt F) ℕ UU ℕ)} {α : Type} {Q : α → sProp (MT nD τ sig Unit (Elt F) ℕ UU ℕ)}

/-! ## Slices by their offsets -/

theorem slotC_mk (b : Memref sig .tc .vmem S16x64x8x128 .f32) (k : Dev nD) (off : Fin 4 → ℕ) (hin : ∀ a, off a + S1x64x8x128.size a ≤ S16x64x8x128.size a)
    (hoff : off = ![k.val, 0, 0, 0]) :
    (b.slice (Rect.unit (s := S16x64x8x128) off S1x64x8x128.size hin) (fun _ => rfl)).squeeze S64x8x128 squeezes_S1x64x8x128_S64x8x128 = slotC b k := by
  subst hoff; rfl
theorem slotS_mk (b : Memref sig .tc .vmem S16x64x16 .f32) (k : Dev nD) (off : Fin 3 → ℕ) (hin : ∀ a, off a + S1x64x16.size a ≤ S16x64x16.size a)
    (hoff : off = ![k.val, 0, 0]) :
    (b.slice (Rect.unit (s := S16x64x16) off S1x64x16.size hin) (fun _ => rfl)).squeeze S64x16 squeezes_S1x64x16_S64x16 = slotS b k := by
  subst hoff; rfl
theorem slotB_mk (b : Memref sig .tc .vmem S16x64x1024 .f32) (k : Dev nD) (off : Fin 3 → ℕ) (hin : ∀ a, off a + S1x64x1024.size a ≤ S16x64x1024.size a)
    (hoff : off = ![k.val, 0, 0]) :
    (b.slice (Rect.unit (s := S16x64x1024) off S1x64x1024.size hin) (fun _ => rfl)).squeeze S64x1024 squeezes_S1x64x1024_S64x1024 = slotB b k := by
  subst hoff; rfl
theorem cellS_mk (A : DmaSems sig S16) (k : Dev nD) (off : Fin 1 → ℕ) (hin : ∀ a, off a + S1.size a ≤ S16.size a) (hoff : off = ![k.val]) :
    (A.slice (Rect.unit (s := S16) off S1.size hin)).squeeze S_ squeezes_S1_S_ = cellS A k := by
  subst hoff; rfl

/-! ## One remote copy -/

/-- A remote copy from device `c` to device `k`, with departure cell `fA` and landing cell `fB`. -/
theorem send1 (K : Dev nD × Ck → ℕ) (c k n : Dev nD) (hkc : k ≠ c) (hn : n = k) (fA fB : Fin 6) {s : Shape}
    {src dst : Memref sig .tc .vmem s .f32} {sA sB : DmaSem sig} (hsA : sA = dS fA k) (hsB : sB = dS fB c)
    (hN : dst.view.amount (.dma (dS fB c)) = amt fB.val) (hAB : amt fA.val = amt fB.val)
    {q : PosShare TreeShare} {fs : Buf (Elt F) (src.view.loc (c : Thread nD τ))} {fd : Buf (Elt F) (dst.view.loc (k : Thread nD τ))}
    (hp1 : (src.view.loc (c : Thread nD τ) ↦[src.view.set]{q} fs : sProp 𝕄) ⊢ dmaPay m c fA.val k)
    (hp2 : (dst.view.loc (k : Thread nD τ) ↦[dst.view.set]{fullShare} (dst.view.write (Elt F) fd (src.view.read (Elt F) fs) Finset.univ) : sProp 𝕄)
      ⊢ dmaPay m k fB.val c)
    {hsc : (dst : Memref sig (Dev.tc n : Thread nD τ).2.kind .vmem s .f32).view.ref.isScScratch = false}
    {hsrc : src.view.WordExact} {hdst : (dst : Memref sig .tc .vmem s .f32).view.WordExact}
    {hsem : DmaTarget.Typed .vmem (.dma sB) (.remote (Dev.tc n : Thread nD τ) (dst : Memref sig .tc .vmem s .f32) (.dma sA) hsc)}
    {kk : PUnit → Prog (TpuEff nD τ sig (Elt F) Λ₀ .tc) α} (O : CellTallies nD τ sig Unit)
    (hk : iprop(crd (F := F) c fA k ∗ (∃ W, owes (c : Thread nD τ) O W) ∗ R) ⊢ WP c (kk ⟨⟩) Q) :
    iprop(records m K ∗ (src.view.loc (c : Thread nD τ) ↦[src.view.set]{q} fs) ∗ (dst.view.loc (k : Thread nD τ) ↦[dst.view.set]{fullShare} fd)
        ∗ (∃ W, owes (c : Thread nD τ) (O + tallyAt (cel k fB c) () (amt fB.val)) W) ∗ tok (F := F) c fA k ∗ tok (F := F) k fB c ∗ R)
      ⊢ WP c (.op (.enqueueDma src (.remote (Dev.tc n : Thread nD τ) dst (.dma sA) hsc) (.dma sB) hsrc hdst hsem) kk) Q := by
  subst hn; subst hsA; subst hsB
  iintro ⟨#Hrec, Hs, Hd, ⟨%W, HO⟩, HtA, HtB, HR⟩
  iapply (Rounds.wp_send_pointsTo 𝒱₀ ER (rd m) (c : Thread nD τ) none (κ₁ := K (c, some (fA, n))) (κ₂ := K (n, some (fB, c)))
    (r₁ := 0) (r₂ := 0) (d₁ := 0) (d₂ := 0) (fd := fd)
    (by rw [duties_cel m c fA n hkc]; exact Finset.mem_singleton_self _) (by rw [duties_cel m n fB c hkc.symm]; exact Finset.mem_singleton_self _)
    () () (amt fB.val) hN ((amount_cel m c fA n 0).trans hAB) (amount_cel m n fB c 0) O rfl (W := W)
    (by rw [payload_cel]; exact hp1) (by rw [payload_cel]; exact hp2)) $$ [Hs Hd HO HtA HtB]
  · isplitr; · iapply (inv_cel m K c fA n); iexact Hrec
    isplitr; · iapply (inv_cel m K n fB c); iexact Hrec
    isplitl [Hs]; · iexact Hs
    isplitl [Hd]; · iexact Hd
    isplitl [HO]; · iexact HO
    isplitl [HtA]; · iexact HtA
    isplitr; · iapply (reached_cel m K c fA n); iexact Hrec
    isplitl [HtB]; · iexact HtB
    iapply (reached_cel m K n fB c); iexact Hrec
  · iintro ⟨Hc, HO⟩
    iapply hk
    isplitl [Hc]
    · iapply (Entails.of_eq (show cred (tallyAt (cel c fA n) () (amt fB.val)) = crd (F := F) c fA n by unfold crd; rw [hAB])) $$ Hc
    isplitl [HO]
    · iexists W; iexact HO
    · iexact HR

/-! ## The copies of partial results -/

/-- A grid point's local blocks up to `b`, with the blocks before `n` sent. -/
def sndS (K : Dev nD × Ck → ℕ) (c : Dev nD) (b n : ℕ) : sProp 𝕄 :=
  iprop(ptLC c (segC n b) fullShare (LC m c) ∗ ptLS c (segS n b) fullShare (LS m c) ∗ midR m K c n
    ∗ ∃ W, owes (c : Thread nD τ) (Obc c 0 + Orec c n) W)

theorem segC_peel (k : Dev nD) (b : ℕ) (h : k.val < b) : segC k.val b = setC k ∪ segC (k.val + 1) b := by
  ext i; rw [Finset.mem_union, mem_segC, mem_segC, mem_setC]; omega
theorem segS_peel (k : Dev nD) (b : ℕ) (h : k.val < b) : segS k.val b = setS k ∪ segS (k.val + 1) b := by
  ext i; rw [Finset.mem_union, mem_segS, mem_segS, mem_setS]; omega
theorem segC_disj (k : Dev nD) (b : ℕ) : Disjoint (setC k) (segC (k.val + 1) b) :=
  Finset.disjoint_left.mpr fun i hi hi' => by have := mem_setC.mp hi; have := mem_segC.mp hi'; omega
theorem segS_disj (k : Dev nD) (b : ℕ) : Disjoint (setS k) (segS (k.val + 1) b) :=
  Finset.disjoint_left.mpr fun i hi hi' => by have := mem_setS.mp hi; have := mem_segS.mp hi'; omega

/-- The block of the sender's own queries is not sent: it stays. -/
theorem own_step (K : Dev nD × Ck → ℕ) (c : Dev nD) (b n : ℕ) (hn : c.val = n) (hb : n < b) : sndS m K c b n ⊢ sndS m K c b (n + 1) := by
  subst hn
  unfold sndS midR
  rw [frm_peel (sendRes (F := F) c) c, upto_push (sent m c) c, Orec_peel c c, segC_peel c b hb, segS_peel c b hb]
  unfold Orec1 sent
  rw [if_pos rfl, if_pos rfl, add_zero]
  iintro ⟨HC, HS, ⟨Hrec, Hlev, Hbar, ⟨-, Hfrm⟩, Hup, Hown, Hbc, Hrest⟩, HO⟩
  ihave HC := (pointsTo_union (segC_disj c b)).1 $$ HC
  ihave HS := (pointsTo_union (segS_disj c b)).1 $$ HS
  icases HC with ⟨HC1, HC2⟩
  icases HS with ⟨HS1, HS2⟩
  isplitl [HC2]; · iexact HC2
  isplitl [HS2]; · iexact HS2
  isplitr [HO]
  · isplitl [Hrec]; · iexact Hrec
    isplitl [Hlev]; · iexact Hlev
    isplitl [Hbar]; · iexact Hbar
    isplitl [Hfrm]; · iexact Hfrm
    isplitl [HC1 HS1 Hup]
    · isplitl [HC1 HS1]
      · isplitl [HC1] <;> iassumption
      · iexact Hup
    isplitl [Hown]; · iexact Hown
    isplitl [Hbc] <;> iassumption
  · iexact HO

theorem payC1 (c k : Dev nD) : (((slotC locC k).view.loc (c : Thread nD τ)) ↦[(slotC locC k).view.set]{fullShare} (LC m c) : sProp 𝕄) ⊢ dmaPay m c 0 k := by
  rw [slot_locC]; exact BI.Entails.refl _
theorem payS1 (c k : Dev nD) : (((slotS locS k).view.loc (c : Thread nD τ)) ↦[(slotS locS k).view.set]{fullShare} (LS m c) : sProp 𝕄) ⊢ dmaPay m c 2 k := by
  rw [slot_locS]; exact BI.Entails.refl _
theorem payC2 (c k : Dev nD) (fd : Vec F S16x64x8x128 .f32) :
    (((slotC rcvC c).view.loc (k : Thread nD τ)) ↦[(slotC rcvC c).view.set]{fullShare}
      ((slotC rcvC c).view.write (Elt F) fd ((slotC locC k).view.read (Elt F) (LC m c)) Finset.univ) : sProp 𝕄) ⊢ dmaPay m k 1 c := by
  have h : ∀ i ∈ setC c, (slotC rcvC c).view.write (Elt F) fd ((slotC locC k).view.read (Elt F) (LC m c)) Finset.univ i = RC m k i := fun i hi => by
    rw [copyC k c (LC m c) fd i hi]
    have hc : (i 0 : Fin 16) = c := Fin.ext (mem_setC.mp hi)
    unfold RC
    rw [hc]
  rw [slot_rcvC]
  show _ ⊢ ptRC k (setC c) fullShare (RC m k)
  exact Entails.of_eq (pointsTo_congr h)
theorem payS2 (c k : Dev nD) (fd : Vec F S16x64x16 .f32) :
    (((slotS rcvS c).view.loc (k : Thread nD τ)) ↦[(slotS rcvS c).view.set]{fullShare}
      ((slotS rcvS c).view.write (Elt F) fd ((slotS locS k).view.read (Elt F) (LS m c)) Finset.univ) : sProp 𝕄) ⊢ dmaPay m k 3 c := by
  have h : ∀ i ∈ setS c, (slotS rcvS c).view.write (Elt F) fd ((slotS locS k).view.read (Elt F) (LS m c)) Finset.univ i = RS m k i := fun i hi => by
    rw [copyS k c (LS m c) fd i hi]
    have hc : (i 0 : Fin 16) = c := Fin.ext (mem_setS.mp hi)
    unfold RS
    rw [hc]
  rw [slot_rcvS]
  show _ ⊢ ptRS k (setS c) fullShare (RS m k)
  exact Entails.of_eq (pointsTo_congr h)

theorem toC1 (c k : Dev nD) (f : Vec F S16x64x8x128 .f32) :
    (ptLC c (setC k) fullShare f : sProp 𝕄) ⊢ ((slotC locC k).view.loc (c : Thread nD τ)) ↦[(slotC locC k).view.set]{fullShare} f := by
  rw [slot_locC]
theorem toS1 (c k : Dev nD) (f : Vec F S16x64x16 .f32) :
    (ptLS c (setS k) fullShare f : sProp 𝕄) ⊢ ((slotS locS k).view.loc (c : Thread nD τ)) ↦[(slotS locS k).view.set]{fullShare} f := by
  rw [slot_locS]
theorem toC2 (c k : Dev nD) (f : Vec F S16x64x8x128 .f32) :
    (ptRC k (setC c) fullShare f : sProp 𝕄) ⊢ ((slotC rcvC c).view.loc (k : Thread nD τ)) ↦[(slotC rcvC c).view.set]{fullShare} f := by
  rw [slot_rcvC]
theorem toS2 (c k : Dev nD) (f : Vec F S16x64x16 .f32) :
    (ptRS k (setS c) fullShare f : sProp 𝕄) ⊢ ((slotS rcvS c).view.loc (k : Thread nD τ)) ↦[(slotS rcvS c).view.set]{fullShare} f := by
  rw [slot_rcvS]

/-- The copy of block `k`'s weighted sums. -/
theorem sendC (K : Dev nD × Ck → ℕ) (c k n : Dev nD) (hkc : k ≠ c) (hn : n = k) {src dst : Memref sig .tc .vmem S64x8x128 .f32}
    (hs : src = slotC locC k) (hd : dst = slotC rcvC c) {sA sB : DmaSem sig} (hA : sA = dS 0 k) (hB : sB = dS 1 c)
    {hsc : (dst : Memref sig (Dev.tc n : Thread nD τ).2.kind .vmem S64x8x128 .f32).view.ref.isScScratch = false}
    {hsrc : src.view.WordExact} {hdst : (dst : Memref sig .tc .vmem S64x8x128 .f32).view.WordExact}
    {hsem : DmaTarget.Typed .vmem (.dma sB) (.remote (Dev.tc n : Thread nD τ) (dst : Memref sig .tc .vmem S64x8x128 .f32) (.dma sA) hsc)}
    {kk : PUnit → Prog (TpuEff nD τ sig (Elt F) Λ₀ .tc) α} (O : CellTallies nD τ sig Unit)
    (hk : iprop(crd (F := F) c 0 k ∗ (∃ W, owes (c : Thread nD τ) O W) ∗ R) ⊢ WP c (kk ⟨⟩) Q) :
    iprop(records m K ∗ ptLC c (setC k) fullShare (LC m c) ∗ exRC (F := F) k c
        ∗ (∃ W, owes (c : Thread nD τ) (O + tallyAt (cel k 1 c) () (amt 1)) W) ∗ tok (F := F) c 0 k ∗ tok (F := F) k 1 c ∗ R)
      ⊢ WP c (.op (.enqueueDma src (.remote (Dev.tc n : Thread nD τ) dst (.dma sA) hsc) (.dma sB) hsrc hdst hsem) kk) Q := by
  subst hs; subst hd
  unfold exRC
  iintro ⟨Hrec, Hs, ⟨%fd, Hd⟩, HO, HtA, HtB, HR⟩
  iapply (send1 m K c k n hkc hn 0 1 (src := slotC locC k) (dst := slotC rcvC c) hA hB rfl rfl (payC1 m c k) (payC2 m c k fd) O hk)
  isplitl [Hrec]; · iexact Hrec
  isplitl [Hs]; · iapply (toC1 c k (LC m c)); iexact Hs
  isplitl [Hd]; · iapply (toC2 c k fd); iexact Hd
  isplitl [HO]; · iexact HO
  isplitl [HtA]; · iexact HtA
  isplitl [HtB] <;> iassumption

/-- The copy of block `k`'s maxima and row sums. -/
theorem sendS (K : Dev nD × Ck → ℕ) (c k n : Dev nD) (hkc : k ≠ c) (hn : n = k) {src dst : Memref sig .tc .vmem S64x16 .f32}
    (hs : src = slotS locS k) (hd : dst = slotS rcvS c) {sA sB : DmaSem sig} (hA : sA = dS 2 k) (hB : sB = dS 3 c)
    {hsc : (dst : Memref sig (Dev.tc n : Thread nD τ).2.kind .vmem S64x16 .f32).view.ref.isScScratch = false}
    {hsrc : src.view.WordExact} {hdst : (dst : Memref sig .tc .vmem S64x16 .f32).view.WordExact}
    {hsem : DmaTarget.Typed .vmem (.dma sB) (.remote (Dev.tc n : Thread nD τ) (dst : Memref sig .tc .vmem S64x16 .f32) (.dma sA) hsc)}
    {kk : PUnit → Prog (TpuEff nD τ sig (Elt F) Λ₀ .tc) α} (O : CellTallies nD τ sig Unit)
    (hk : iprop(crd (F := F) c 2 k ∗ (∃ W, owes (c : Thread nD τ) O W) ∗ R) ⊢ WP c (kk ⟨⟩) Q) :
    iprop(records m K ∗ ptLS c (setS k) fullShare (LS m c) ∗ exRS (F := F) k c
        ∗ (∃ W, owes (c : Thread nD τ) (O + tallyAt (cel k 3 c) () (amt 3)) W) ∗ tok (F := F) c 2 k ∗ tok (F := F) k 3 c ∗ R)
      ⊢ WP c (.op (.enqueueDma src (.remote (Dev.tc n : Thread nD τ) dst (.dma sA) hsc) (.dma sB) hsrc hdst hsem) kk) Q := by
  subst hs; subst hd
  unfold exRS
  iintro ⟨Hrec, Hs, ⟨%fd, Hd⟩, HO, HtA, HtB, HR⟩
  iapply (send1 m K c k n hkc hn 2 3 (src := slotS locS k) (dst := slotS rcvS c) hA hB rfl rfl (payS1 m c k) (payS2 m c k fd) O hk)
  isplitl [Hrec]; · iexact Hrec
  isplitl [Hs]; · iapply (toS1 c k (LS m c)); iexact Hs
  isplitl [Hd]; · iapply (toS2 c k fd); iexact Hd
  isplitl [HO]; · iexact HO
  isplitl [HtA]; · iexact HtA
  isplitl [HtB] <;> iassumption

/-- What the copies of block `k` take out of the state, and what they put back. -/
theorem pair_take (K : Dev nD × Ck → ℕ) (c k : Dev nD) (b : ℕ) (hb : k.val < b) (hkc : k ≠ c) :
    sndS m K c b k.val ⊢ iprop(((records m K ∗ ptLC c (setC k) fullShare (LC m c) ∗ exRC (F := F) k c
        ∗ (∃ W, owes (c : Thread nD τ) (Obc c 0 + Orec c (k.val + 1) + tallyAt (cel k 3 c) () (amt 3) + tallyAt (cel k 1 c) () (amt 1)) W)
        ∗ tok (F := F) c 0 k ∗ tok (F := F) k 1 c)
      ∗ ptLS c (setS k) fullShare (LS m c) ∗ exRS (F := F) k c ∗ tok (F := F) c 2 k ∗ tok (F := F) k 3 c)
      ∗ (crd (F := F) c 0 k ∗ crd (F := F) c 2 k ∗ (∃ W, owes (c : Thread nD τ) (Obc c 0 + Orec c (k.val + 1)) W) -∗ sndS m K c b (k.val + 1))) := by
  unfold sndS midR
  rw [frm_peel (sendRes (F := F) c) k, upto_push (sent m c) k, Orec_peel c k, segC_peel k b hb, segS_peel k b hb, show Orec1 c k = tallyAt (cel k 3 c) () (amt 3) + tallyAt (cel k 1 c) () (amt 1) from if_neg hkc,
    show sendRes (F := F) c k = iprop((tok (F := F) c 0 k ∗ tok (F := F) k 1 c ∗ tok (F := F) c 2 k ∗ tok (F := F) k 3 c) ∗ exRC (F := F) k c ∗ exRS (F := F) k c) from if_neg hkc,
    show sent m c k = iprop(crd (F := F) c 0 k ∗ crd (F := F) c 2 k) from if_neg hkc]
  have ha : Obc c 0 + (Orec c (k.val + 1) + (tallyAt (cel k 3 c) () (amt 3) + tallyAt (cel k 1 c) () (amt 1)))
      = Obc c 0 + Orec c (k.val + 1) + tallyAt (cel k 3 c) () (amt 3) + tallyAt (cel k 1 c) () (amt 1) := by rw [← add_assoc, ← add_assoc]
  rw [ha]
  iintro ⟨HC, HS, ⟨#Hrec, Hlev, Hbar, ⟨⟨⟨Ht0, Ht1, Ht2, Ht3⟩, HdC, HdS⟩, Hfrm⟩, Hup, Hown, Hbc, Hrest⟩, HO⟩
  ihave HC := (pointsTo_union (segC_disj k b)).1 $$ HC
  ihave HS := (pointsTo_union (segS_disj k b)).1 $$ HS
  icases HC with ⟨HC1, HC2⟩
  icases HS with ⟨HS1, HS2⟩
  isplitl [HC1 HS1 HdC HdS HO Ht0 Ht1 Ht2 Ht3]
  · isplitr [HS1 HdS Ht2 Ht3]
    · isplitr; · iexact Hrec
      isplitl [HC1]; · iexact HC1
      isplitl [HdC]; · iexact HdC
      isplitl [HO]; · iexact HO
      isplitl [Ht0] <;> iassumption
    · isplitl [HS1]; · iexact HS1
      isplitl [HdS]; · iexact HdS
      isplitl [Ht2] <;> iassumption
  · iintro ⟨Hc0, Hc2, HO⟩
    isplitl [HC2]; · iexact HC2
    isplitl [HS2]; · iexact HS2
    isplitr [HO]
    · isplitr; · iexact Hrec
      isplitl [Hlev]; · iexact Hlev
      isplitl [Hbar]; · iexact Hbar
      isplitl [Hfrm]; · iexact Hfrm
      isplitl [Hc0 Hc2 Hup]
      · isplitl [Hc0 Hc2]
        · isplitl [Hc0] <;> iassumption
        · iexact Hup
      isplitl [Hown]; · iexact Hown
      isplitl [Hbc] <;> iassumption
    · iexact HO

/-- The two copies of block `k` to device `k`. -/
theorem pair_step (K : Dev nD × Ck → ℕ) (c k n₁ n₂ : Dev nD) (b n : ℕ) (hkn : k.val = n) (hb : n < b) (hkc : k ≠ c) (hn₁ : n₁ = k) (hn₂ : n₂ = k)
    {src₁ dst₁ : Memref sig .tc .vmem S64x8x128 .f32} {src₂ dst₂ : Memref sig .tc .vmem S64x16 .f32}
    (hs₁ : src₁ = slotC locC k) (hd₁ : dst₁ = slotC rcvC c) (hs₂ : src₂ = slotS locS k) (hd₂ : dst₂ = slotS rcvS c)
    {sA₁ sB₁ sA₂ sB₂ : DmaSem sig} (hA₁ : sA₁ = dS 0 k) (hB₁ : sB₁ = dS 1 c) (hA₂ : sA₂ = dS 2 k) (hB₂ : sB₂ = dS 3 c)
    {hsc₁ : (dst₁ : Memref sig (Dev.tc n₁ : Thread nD τ).2.kind .vmem S64x8x128 .f32).view.ref.isScScratch = false}
    {hsrc₁ : src₁.view.WordExact} {hdst₁ : (dst₁ : Memref sig .tc .vmem S64x8x128 .f32).view.WordExact}
    {hsem₁ : DmaTarget.Typed .vmem (.dma sB₁) (.remote (Dev.tc n₁ : Thread nD τ) (dst₁ : Memref sig .tc .vmem S64x8x128 .f32) (.dma sA₁) hsc₁)}
    {hsc₂ : (dst₂ : Memref sig (Dev.tc n₂ : Thread nD τ).2.kind .vmem S64x16 .f32).view.ref.isScScratch = false}
    {hsrc₂ : src₂.view.WordExact} {hdst₂ : (dst₂ : Memref sig .tc .vmem S64x16 .f32).view.WordExact}
    {hsem₂ : DmaTarget.Typed .vmem (.dma sB₂) (.remote (Dev.tc n₂ : Thread nD τ) (dst₂ : Memref sig .tc .vmem S64x16 .f32) (.dma sA₂) hsc₂)}
    {kk : PUnit → Prog (TpuEff nD τ sig (Elt F) Λ₀ .tc) α}
    (hk : iprop(sndS m K c b (n + 1) ∗ R) ⊢ WP c (kk ⟨⟩) Q) :
    iprop(sndS m K c b n ∗ R)
      ⊢ WP c (.op (.enqueueDma src₁ (.remote (Dev.tc n₁ : Thread nD τ) dst₁ (.dma sA₁) hsc₁) (.dma sB₁) hsrc₁ hdst₁ hsem₁) fun _ =>
          .op (.enqueueDma src₂ (.remote (Dev.tc n₂ : Thread nD τ) dst₂ (.dma sA₂) hsc₂) (.dma sB₂) hsrc₂ hdst₂ hsem₂) kk) Q := by
  subst hkn
  have h₂ : iprop(crd (F := F) c 0 k ∗ (∃ W, owes (c : Thread nD τ) (Obc c 0 + Orec c (k.val + 1) + tallyAt (cel k 3 c) () (amt 3)) W)
      ∗ records m K ∗ ptLS c (setS k) fullShare (LS m c) ∗ exRS (F := F) k c ∗ tok (F := F) c 2 k ∗ tok (F := F) k 3 c
      ∗ (crd (F := F) c 0 k ∗ crd (F := F) c 2 k ∗ (∃ W, owes (c : Thread nD τ) (Obc c 0 + Orec c (k.val + 1)) W) -∗ sndS m K c b (k.val + 1)) ∗ R)
      ⊢ WP c (.op (.enqueueDma src₂ (.remote (Dev.tc n₂ : Thread nD τ) dst₂ (.dma sA₂) hsc₂) (.dma sB₂) hsrc₂ hdst₂ hsem₂) kk) Q := by
    refine BIBase.Entails.trans ?_ (sendS m K c k n₂ hkc hn₂ hs₂ hd₂ hA₂ hB₂ (Obc c 0 + Orec c (k.val + 1))
      (R := iprop(crd (F := F) c 0 k ∗ (crd (F := F) c 0 k ∗ crd (F := F) c 2 k ∗ (∃ W, owes (c : Thread nD τ) (Obc c 0 + Orec c (k.val + 1)) W) -∗ sndS m K c b (k.val + 1)) ∗ R))
      (BIBase.Entails.trans ?_ hk))
    · iintro ⟨Hc0, HO, Hrec, HS, HdS, Ht2, Ht3, Hback, HR⟩
      isplitl [Hrec]; · iexact Hrec
      isplitl [HS]; · iexact HS
      isplitl [HdS]; · iexact HdS
      isplitl [HO]; · iexact HO
      isplitl [Ht2]; · iexact Ht2
      isplitl [Ht3]; · iexact Ht3
      isplitl [Hc0]; · iexact Hc0
      isplitl [Hback] <;> iassumption
    · iintro ⟨Hc2, HO, Hc0, Hback, HR⟩
      isplitr [HR]
      · iapply Hback
        isplitl [Hc0]; · iexact Hc0
        isplitl [Hc2] <;> iassumption
      · iexact HR
  refine BIBase.Entails.trans ?_ (sendC m K c k n₁ hkc hn₁ hs₁ hd₁ hA₁ hB₁ (Obc c 0 + Orec c (k.val + 1) + tallyAt (cel k 3 c) () (amt 3))
    (R := iprop(records m K ∗ ptLS c (setS k) fullShare (LS m c) ∗ exRS (F := F) k c ∗ tok (F := F) c 2 k ∗ tok (F := F) k 3 c
      ∗ (crd (F := F) c 0 k ∗ crd (F := F) c 2 k ∗ (∃ W, owes (c : Thread nD τ) (Obc c 0 + Orec c (k.val + 1)) W) -∗ sndS m K c b (k.val + 1)) ∗ R)) h₂)
  iintro ⟨H, HR⟩
  ihave H := (pair_take m K c k b hb hkc) $$ H
  icases H with ⟨⟨⟨#Hrec, HC, HdC, HO, Ht0, Ht1⟩, HS, HdS, Ht2, Ht3⟩, Hback⟩
  isplitr; · iexact Hrec
  isplitl [HC]; · iexact HC
  isplitl [HdC]; · iexact HdC
  isplitl [HO]; · iexact HO
  isplitl [Ht0]; · iexact Ht0
  isplitl [Ht1]; · iexact Ht1
  isplitr; · iexact Hrec
  isplitl [HS]; · iexact HS
  isplitl [HdS]; · iexact HdS
  isplitl [Ht2]; · iexact Ht2
  isplitl [Ht3]; · iexact Ht3
  isplitl [Hback] <;> iassumption

/-- A conditional copy: block `n` is sent unless it is the device's own. -/
theorem cond_step (K : Dev nD × Ck → ℕ) (c k : Dev nD) (b : ℕ) (hb : k.val < b) (P : Prop) [Decidable P] (hP : P ↔ k.val ≠ c.val)
    {A : P → Prog (TpuEff nD τ sig (Elt F) Λ₀ .tc) α} {B : ¬P → Prog (TpuEff nD τ sig (Elt F) Λ₀ .tc) α}
    (hA : ∀ h, k ≠ c → (iprop(sndS m K c b k.val ∗ R) ⊢ WP c (A h) Q)) (hB : ∀ h, (iprop(sndS m K c b (k.val + 1) ∗ R) ⊢ WP c (B h) Q)) :
    iprop(sndS m K c b k.val ∗ R) ⊢ WP c (dite P A B) Q := by
  by_cases h : P
  · rw [dif_pos h]
    exact hA h fun e => hP.mp h (congrArg Fin.val e)
  · rw [dif_neg h]
    refine BIBase.Entails.trans ?_ (hB h)
    have e : c.val = k.val := Eq.symm (by_contra fun hne => h (hP.mpr hne))
    exact sep_mono_left (own_step m K c b k.val e hb)

/-- Each conditional asks whether the block is another device's. -/
theorem cond2_iff (i : grid0.Coords) (c : Dev nD) : k0_cond2 i c = 1#1 ↔ 4 * (i 0).val + 0 ≠ c.val := by revert i c; decide +kernel
theorem cond3_iff (i : grid0.Coords) (c : Dev nD) : k0_cond3 i c = 1#1 ↔ 4 * (i 0).val + 1 ≠ c.val := by revert i c; decide +kernel
theorem cond4_iff (i : grid0.Coords) (c : Dev nD) : k0_cond4 i c = 1#1 ↔ 4 * (i 0).val + 2 ≠ c.val := by revert i c; decide +kernel
theorem cond5_iff (i : grid0.Coords) (c : Dev nD) : k0_cond5 i c = 1#1 ↔ 4 * (i 0).val + 3 ≠ c.val := by revert i c; decide +kernel
theorem cond1_iff (i : grid0.Coords) : k0_cond1 i = 1#1 ↔ (i 0).val = 0 := by revert i; decide +kernel
theorem cond6_iff (i : grid0.Coords) : k0_cond6 i = 1#1 ↔ (i 0).val = 3 := by revert i; decide +kernel

end Cert.KP
-- ==== Proof.Steps.lean ====
/-
# The counted loops of the last grid point

Each loop's invariant says what is left for the trips to come and what the trips done have brought; one theorem takes one
trip, with the operations of the trip taken at any slices that are the right blocks.
-/
module

public import proofs.«01_k».proof.Proof.Waits
public import proofs.«01_k».proof.Proof.Handshake
public import proofs.«01_k».proof.Proof.Sends

@[expose] public section

set_option maxRecDepth 16384

noncomputable section

namespace Cert.KP

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable {c : Dev nD} {R : sProp (MT nD τ sig Unit (Elt F) ℕ UU ℕ)} {α : Type} {Q : α → sProp (MT nD τ sig Unit (Elt F) ℕ UU ℕ)}

theorem lvl_cel (f : Fin 6) (k : Dev nD) : lvl (.dma (dS f k)) = if f.val = 1 ∨ f.val = 3 then 2 else if f.val = 5 then 3 else 0 := lv_cel k f k ()

/-! ## What each landing hands over -/

theorem pay0 (c p : Dev nD) : dmaPay m c (0 : Fin 6).val p ⊢ ptLC c (setC p) fullShare (LC m c) := BI.Entails.refl _
theorem pay1 (c p : Dev nD) : dmaPay m c (1 : Fin 6).val p ⊢ ptRC c (setC p) fullShare (RC m c) := BI.Entails.refl _
theorem pay2 (c p : Dev nD) : dmaPay m c (2 : Fin 6).val p ⊢ ptLS c (setS p) fullShare (LS m c) := BI.Entails.refl _
theorem pay3 (c p : Dev nD) : dmaPay m c (3 : Fin 6).val p ⊢ ptRS c (setS p) fullShare (RS m c) := BI.Entails.refl _
theorem pay4 (c p : Dev nD) : dmaPay m c (4 : Fin 6).val p ⊢ ptB c (setB c) (shareTok fullShare 16 p) (BC m) := BI.Entails.refl _
theorem pay5 (c p : Dev nD) : dmaPay m c (5 : Fin 6).val p ⊢ ptB c (setB p) fullShare (BC m) := BI.Entails.refl _

/-! ## Receiving one device's partial results -/

theorem recv_step (K : Dev nD × Ck → ℕ) (p : Dev nD) (hp : p ≠ c) {s1 s2 : DmaSem sig} (hs1 : s1 = dS 1 p) (hs2 : s2 = dS 3 p)
    {src1 dst1 : Memref sig .tc .vmem S64x8x128 .f32} {src2 dst2 : Memref sig .tc .vmem S64x16 .f32} (hd1 : dst1 = slotC rcvC p) (hd2 : dst2 = slotS rcvS p)
    {w1 : src1.view.WordExact} {w2 : dst1.view.WordExact} {w3 : src2.view.WordExact} {w4 : dst2.view.WordExact}
    {o4 : Fin 4 → ℕ} {i4 : ∀ a, o4 a + S1x64x8x128.size a ≤ S16x64x8x128.size a} (ho4 : o4 = ![p.val, 0, 0, 0])
    {l4 : rcvC.view.LoadsAt (Rect.unit (s := S16x64x8x128) o4 S1x64x8x128.size i4).toLoadRect}
    {o3 : Fin 3 → ℕ} {i3 : ∀ a, o3 a + S1x64x16.size a ≤ S16x64x16.size a} (ho3 : o3 = ![p.val, 0, 0])
    {l3 : rcvS.view.LoadsAt (Rect.unit (s := S16x64x16) o3 S1x64x16.size i3).toLoadRect}
    {kk : Vec F S1x64x8x128 .f32 → Vec F S1x64x16 .f32 → Prog (TpuEff nD τ sig (Elt F) Λ₀ .tc) α}
    (hk : iprop(recvDone (F := F) c p ∗ (∃ W, owes (c : Thread nD τ) (Obc c 0) W) ∗ R) ⊢ WP c (kk (blkC (RC m c) p) (blkS (RS m c) p)) Q) :
    iprop((records m K ∗ levAts L lv) ∗ recvRes (F := F) c p ∗ (∃ W, owes (c : Thread nD τ) (Obc c 0) W) ∗ R)
      ⊢ WP c (.op (.waitDma2 s1 src1 dst1 w1 w2) fun _ => .op (.waitDma2 s2 src2 dst2 w3 w4) fun _ =>
          .op (.load rcvC (Rect.unit (s := S16x64x8x128) o4 S1x64x8x128.size i4).toLoadRect l4) fun v =>
          .op (.load rcvS (Rect.unit (s := S16x64x16) o3 S1x64x16.size i3).toLoadRect l3) fun w => kk v w) Q := by
  subst hd1; subst hd2
  have hS : iprop(ptRS c (setS p) fullShare (RS m c) ∗ ptRC c (setC p) fullShare (RC m c) ∗ zer (F := F) c 1 p ∗ zer (F := F) c 3 p ∗ (∃ W, owes (c : Thread nD τ) (Obc c 0) W) ∗ R)
      ⊢ WP c (.op (.load rcvS (Rect.unit (s := S16x64x16) o3 S1x64x16.size i3).toLoadRect l3) fun w => kk (blkC (RC m c) p) w) Q := by
    refine ldRS p (RS m c) ho3 (BIBase.Entails.trans ?_ hk)
    unfold recvDone exRC exRS
    iintro ⟨HS, HC, Hz1, Hz3, HO, HR⟩
    isplitl [HS HC Hz1 Hz3]
    · isplitl [HC Hz1]
      · isplitl [HC]; · iexists (RC m c); iexact HC
        iexact Hz1
      · isplitl [HS]; · iexists (RS m c); iexact HS
        iexact Hz3
    isplitl [HO] <;> iassumption
  have hC : iprop(ptRC c (setC p) fullShare (RC m c) ∗ ptRS c (setS p) fullShare (RS m c) ∗ zer (F := F) c 1 p ∗ zer (F := F) c 3 p ∗ (∃ W, owes (c : Thread nD τ) (Obc c 0) W) ∗ R)
      ⊢ WP c (.op (.load rcvC (Rect.unit (s := S16x64x8x128) o4 S1x64x8x128.size i4).toLoadRect l4) fun v =>
          .op (.load rcvS (Rect.unit (s := S16x64x16) o3 S1x64x16.size i3).toLoadRect l3) fun w => kk v w) Q := by
    refine ldRC p (RC m c) ho4 (BIBase.Entails.trans ?_ hS)
    iintro ⟨HC, HS, HR⟩
    isplitl [HS]; · iexact HS
    isplitl [HC] <;> iassumption
  refine BIBase.Entails.trans ?_ (wait1 m K p hp 1 hs1 (dst := slotC rcvC p) (credit_rcvC p) (Obc c 0) (by rw [lvl_cel]; exact above_Obc c 0)
    (R := iprop((records m K ∗ levAts L lv) ∗ (pos (F := F) c 3 p ∗ crd (F := F) c 3 p) ∗ R)) (BIBase.Entails.trans ?_
    (wait1 m K p hp 3 hs2 (dst := slotS rcvS p) (credit_rcvS p) (Obc c 0) (by rw [lvl_cel]; exact above_Obc c 0)
    (R := iprop(ptRC c (setC p) fullShare (RC m c) ∗ zer (F := F) c 1 p ∗ R)) (BIBase.Entails.trans ?_ hC))))
  · unfold recvRes
    iintro ⟨#Hrl, ⟨⟨Hp1, Hc1⟩, Hp3, Hc3⟩, HO, HR⟩
    isplitr; · iexact Hrl
    isplitl [Hp1]; · iexact Hp1
    isplitl [Hc1]; · iexact Hc1
    isplitl [HO]; · iexact HO
    isplitr; · iexact Hrl
    isplitl [Hp3 Hc3]
    · isplitl [Hp3] <;> iassumption
    · iexact HR
  · iintro ⟨HC, Hz, HO, #Hrl, ⟨Hp3, Hc3⟩, HR⟩
    isplitr; · iexact Hrl
    isplitl [Hp3]; · iexact Hp3
    isplitl [Hc3]; · iexact Hc3
    isplitl [HO]; · iexact HO
    isplitl [HC]; · iapply (pay1 m c p); iexact HC
    isplitl [Hz] <;> iassumption
  · iintro ⟨HS, Hz3, HO, HC, Hz1, HR⟩
    isplitl [HC]; · iexact HC
    isplitl [HS]; · iapply (pay3 m c p); iexact HS
    isplitl [Hz1]; · iexact Hz1
    isplitl [Hz3]; · iexact Hz3
    isplitl [HO] <;> iassumption

/-! ## Sending the finished block to one device -/

theorem payB1 (c k : Dev nD) : (((slotB gatB c).view.loc (c : Thread nD τ)) ↦[(slotB gatB c).view.set]{shareTok fullShare 16 k} (BC m) : sProp 𝕄) ⊢ dmaPay m c 4 k := by
  rw [slot_gatB]; exact BI.Entails.refl _
theorem toB (c d : Dev nD) (q : PosShare TreeShare) (f : Vec F S16x64x1024 .f32) :
    (ptB d (setB c) q f : sProp 𝕄) ⊢ ((slotB gatB c).view.loc (d : Thread nD τ)) ↦[(slotB gatB c).view.set]{q} f := by
  rw [slot_gatB]
theorem payB2 (c k : Dev nD) (fd : Vec F S16x64x1024 .f32) :
    (((slotB gatB c).view.loc (k : Thread nD τ)) ↦[(slotB gatB c).view.set]{fullShare}
      ((slotB gatB c).view.write (Elt F) fd ((slotB gatB c).view.read (Elt F) (BC m)) Finset.univ) : sProp 𝕄) ⊢ dmaPay m k 5 c := by
  have h : ∀ i ∈ setB c, (slotB gatB c).view.write (Elt F) fd ((slotB gatB c).view.read (Elt F) (BC m)) Finset.univ i = BC m i := fun i hi => by
    rw [copyB c c (BC m) fd i hi]
    have hc : (i 0 : Fin 16) = c := Fin.ext (mem_setB.mp hi)
    exact congrArg (fun k => OV m k (ix2 (i 1) (i 2))) hc.symm
  rw [slot_gatB]
  show _ ⊢ ptB k (setB c) fullShare (BC m)
  exact Entails.of_eq (pointsTo_congr h)

theorem bc_step (K : Dev nD × Ck → ℕ) (j : Fin 15) (n : Dev nD) (hn : n = peer c j)
    {src dst : Memref sig .tc .vmem S64x1024 .f32} (hs : src = slotB gatB c) (hd : dst = slotB gatB c)
    {sA sB : DmaSem sig} (hA : sA = dS 4 (peer c j)) (hB : sB = dS 5 c)
    {hsc : (dst : Memref sig (Dev.tc n : Thread nD τ).2.kind .vmem S64x1024 .f32).view.ref.isScScratch = false}
    {hsrc : src.view.WordExact} {hdst : (dst : Memref sig .tc .vmem S64x1024 .f32).view.WordExact}
    {hsem : DmaTarget.Typed .vmem (.dma sB) (.remote (Dev.tc n : Thread nD τ) (dst : Memref sig .tc .vmem S64x1024 .f32) (.dma sA) hsc)}
    {kk : PUnit → Prog (TpuEff nD τ sig (Elt F) Λ₀ .tc) α}
    (hk : iprop(crd (F := F) c 4 (peer c j) ∗ (∃ W, owes (c : Thread nD τ) (Obc c (j.val + 1)) W) ∗ R) ⊢ WP c (kk ⟨⟩) Q) :
    iprop(records m K ∗ (bcRes (F := F) c (peer c j) ∗ ptB c (setB c) (shareTok fullShare 16 (peer c j)) (BC m))
        ∗ (∃ W, owes (c : Thread nD τ) (Obc c j.val) W) ∗ R)
      ⊢ WP c (.op (.enqueueDma src (.remote (Dev.tc n : Thread nD τ) dst (.dma sA) hsc) (.dma sB) hsrc hdst hsem) kk) Q := by
  subst hs; subst hd
  rw [Obc_peel]
  unfold bcRes bcTok exB
  iintro ⟨Hrec, ⟨⟨⟨HtA, HtB⟩, ⟨%fd, Hd⟩⟩, Hs⟩, HO, HR⟩
  iapply (send1 m K c (peer c j) n (peer_ne c j) hn 4 5 (src := slotB gatB c) (dst := slotB gatB c) hA hB rfl rfl (payB1 m c (peer c j)) (payB2 m c (peer c j) fd) (Obc c (j.val + 1)) hk)
  isplitl [Hrec]; · iexact Hrec
  isplitl [Hs]; · iapply (toB c c _ (BC m)); iexact Hs
  isplitl [Hd]; · iapply (toB c (peer c j) _ fd); iexact Hd
  isplitl [HO]; · iexact HO
  isplitl [HtA]; · iexact HtA
  isplitl [HtB] <;> iassumption

/-! ## Receiving one finished block and storing it -/

theorem sc_blkB (p : Dev nD) : k0_pay1 (blkB (BC m) p) = blkO m p := by
  show shapeCast S1x64x1024 (shapeCast S64x1024 (blkB (BC m) p) shapeCasts_S1x64x1024_S64x1024) shapeCasts_S64x1024_S1x64x1024 = _
  rw [shapeCast_shapeCast]
  rfl

theorem gat_step (K : Dev nD × Ck → ℕ) (p : Dev nD) (hp : p ≠ c) {s1 : DmaSem sig} (hs1 : s1 = dS 5 p)
    {src dst : Memref sig .tc .vmem S64x1024 .f32} (hd : dst = slotB gatB p) {w1 : src.view.WordExact} {w2 : dst.view.WordExact}
    {o : Fin 3 → ℕ} {i3 : ∀ a, o a + S1x64x1024.size a ≤ S16x64x1024.size a} (ho : o = ![p.val, 0, 0])
    {l : gatB.view.LoadsAt (Rect.unit (s := S16x64x1024) o S1x64x1024.size i3).toLoadRect}
    {a6 : Memref sig .tc .vmem S1x1024x1024 .f32} {S : Dev nD → Prop} {r : LoadRect S1x1024x1024} {hl : a6.view.LoadsAt r}
    {o' : Fin 3 → ℕ} {i' : ∀ a, o' a + S1x64x1024.size a ≤ S1x1024x1024.size a} (ho' : o' = ![0, 64 * p.val, 0])
    {hx} {hm : (Finset.univ : Finset (Rect.unit (s := S1x1024x1024) o' S1x64x1024.size i').shape.Idx) = Finset.univ ∨ ∀ a, (Rect.unit (s := S1x1024x1024) o' S1x64x1024.size i').stride a = 1}
    {kk : PUnit → Prog (TpuEff nD τ sig (Elt F) Λ₀ .tc) α}
    (hk : iprop(gatDone (F := F) c p ∗ outI m c a6 (fun q => q = p ∨ S q) ∗ (∃ W, owes (c : Thread nD τ) 0 W) ∗ R) ⊢ WP c (kk ⟨⟩) Q) :
    iprop((records m K ∗ levAts L lv) ∗ gatRes (F := F) c p ∗ outI m c a6 S ∗ (∃ W, owes (c : Thread nD τ) 0 W) ∗ R)
      ⊢ WP c (.op (.waitDma2 s1 src dst w1 w2) fun _ =>
          .op (.load gatB (Rect.unit (s := S16x64x1024) o S1x64x1024.size i3).toLoadRect l) fun v =>
          .op (.load a6 r hl) fun _ =>
          .op (.store a6 (Rect.unit (s := S1x1024x1024) o' S1x64x1024.size i') (k0_pay1 v) Finset.univ hx hm) kk) Q := by
  subst hd
  have h3 : iprop(outI m c a6 S ∗ ptB c (setB p) fullShare (BC m) ∗ zer (F := F) c 5 p ∗ (∃ W, owes (c : Thread nD τ) 0 W) ∗ R)
      ⊢ WP c (.op (.load a6 r hl) fun _ =>
          .op (.store a6 (Rect.unit (s := S1x1024x1024) o' S1x64x1024.size i') (k0_pay1 (blkB (BC m) p)) Finset.univ hx hm) kk) Q := by
    refine ldO m r fun _ => stO m p (sc_blkB m p) ho' (BIBase.Entails.trans ?_ hk)
    unfold gatDone exB
    iintro ⟨Hout, HB, Hz, HO, HR⟩
    isplitl [HB Hz]
    · isplitl [HB]; · iexists (BC m); iexact HB
      iexact Hz
    isplitl [Hout]; · iexact Hout
    isplitl [HO] <;> iassumption
  have h2 : iprop(ptB c (setB p) fullShare (BC m) ∗ outI m c a6 S ∗ zer (F := F) c 5 p ∗ (∃ W, owes (c : Thread nD τ) 0 W) ∗ R)
      ⊢ WP c (.op (.load gatB (Rect.unit (s := S16x64x1024) o S1x64x1024.size i3).toLoadRect l) fun v =>
          .op (.load a6 r hl) fun _ =>
          .op (.store a6 (Rect.unit (s := S1x1024x1024) o' S1x64x1024.size i') (k0_pay1 v) Finset.univ hx hm) kk) Q := by
    refine ldB p (BC m) ho (BIBase.Entails.trans ?_ h3)
    iintro ⟨HB, Hout, HR⟩
    isplitl [Hout]; · iexact Hout
    isplitl [HB] <;> iassumption
  refine BIBase.Entails.trans ?_ (wait1 m K p hp 5 hs1 (dst := slotB gatB p) (credit_gatB p) 0 (above_zero _)
    (R := iprop(outI m c a6 S ∗ R)) (BIBase.Entails.trans ?_ h2))
  · unfold gatRes
    iintro ⟨Hrl, ⟨Hp, Hc⟩, Hout, HO, HR⟩
    isplitl [Hrl]; · iexact Hrl
    isplitl [Hp]; · iexact Hp
    isplitl [Hc]; · iexact Hc
    isplitl [HO]; · iexact HO
    isplitl [Hout] <;> iassumption
  · iintro ⟨HB, Hz, HO, Hout, HR⟩
    isplitl [HB]; · iapply (pay5 m c p); iexact HB
    isplitl [Hout]; · iexact Hout
    isplitl [Hz]; · iexact Hz
    isplitl [HO] <;> iassumption

/-! ## Waiting for the departures to one device -/

/-- The positions and credits of those waits. -/
def drainRes (c p : Dev nD) : sProp 𝕄 := iprop(drainPos (F := F) c p ∗ (crd (F := F) c 0 p ∗ crd (F := F) c 2 p) ∗ crd (F := F) c 4 p)

theorem drain_step (K : Dev nD × Ck → ℕ) (p : Dev nD) (hp : p ≠ c) {s1 s2 s3 : DmaSem sig} (hs1 : s1 = dS 0 p) (hs2 : s2 = dS 2 p) (hs3 : s3 = dS 4 p)
    {src1 dst1 : Memref sig .tc .vmem S64x8x128 .f32} {src2 dst2 : Memref sig .tc .vmem S64x16 .f32} {src3 dst3 : Memref sig .tc .vmem S64x1024 .f32}
    (hd1 : dst1 = slotC locC p) (hd2 : dst2 = slotS locS p) (hd3 : dst3 = slotB gatB c)
    {w1 : src1.view.WordExact} {w2 : dst1.view.WordExact} {w3 : src2.view.WordExact} {w4 : dst2.view.WordExact} {w5 : src3.view.WordExact} {w6 : dst3.view.WordExact}
    {kk : PUnit → Prog (TpuEff nD τ sig (Elt F) Λ₀ .tc) α}
    (hk : iprop(drainDone m c p ∗ (∃ W, owes (c : Thread nD τ) 0 W) ∗ R) ⊢ WP c (kk ⟨⟩) Q) :
    iprop((records m K ∗ levAts L lv) ∗ drainRes (F := F) c p ∗ (∃ W, owes (c : Thread nD τ) 0 W) ∗ R)
      ⊢ WP c (.op (.waitDma2 s1 src1 dst1 w1 w2) fun _ => .op (.waitDma2 s2 src2 dst2 w3 w4) fun _ => .op (.waitDma2 s3 src3 dst3 w5 w6) kk) Q := by
  subst hd1; subst hd2; subst hd3
  refine BIBase.Entails.trans ?_ (wait1 m K p hp 0 hs1 (dst := slotC locC p) (credit_locC p) 0 (above_zero _)
    (R := iprop((records m K ∗ levAts L lv) ∗ (pos (F := F) c 2 p ∗ crd (F := F) c 2 p) ∗ (pos (F := F) c 4 p ∗ crd (F := F) c 4 p) ∗ R)) (BIBase.Entails.trans ?_
    (wait1 m K p hp 2 hs2 (dst := slotS locS p) rfl 0 (above_zero _)
    (R := iprop((records m K ∗ levAts L lv) ∗ (ptLC c (setC p) fullShare (LC m c) ∗ zer (F := F) c 0 p) ∗ (pos (F := F) c 4 p ∗ crd (F := F) c 4 p) ∗ R)) (BIBase.Entails.trans ?_
    (wait1 m K p hp 4 hs3 (dst := slotB gatB c) (credit_gatB c) 0 (above_zero _)
    (R := iprop((ptLC c (setC p) fullShare (LC m c) ∗ zer (F := F) c 0 p) ∗ (ptLS c (setS p) fullShare (LS m c) ∗ zer (F := F) c 2 p) ∗ R)) (BIBase.Entails.trans ?_ hk))))))
  · unfold drainRes drainPos
    iintro ⟨#Hrl, ⟨⟨Hp0, Hp2, Hp4⟩, ⟨Hc0, Hc2⟩, Hc4⟩, HO, HR⟩
    isplitr; · iexact Hrl
    isplitl [Hp0]; · iexact Hp0
    isplitl [Hc0]; · iexact Hc0
    isplitl [HO]; · iexact HO
    isplitr; · iexact Hrl
    isplitl [Hp2 Hc2]
    · isplitl [Hp2] <;> iassumption
    isplitl [Hp4 Hc4]
    · isplitl [Hp4] <;> iassumption
    · iexact HR
  · iintro ⟨Hd, Hz, HO, #Hrl, ⟨Hp2, Hc2⟩, H4, HR⟩
    isplitr; · iexact Hrl
    isplitl [Hp2]; · iexact Hp2
    isplitl [Hc2]; · iexact Hc2
    isplitl [HO]; · iexact HO
    isplitr; · iexact Hrl
    isplitl [Hd Hz]
    · isplitl [Hd]; · iapply (pay0 m c p); iexact Hd
      iexact Hz
    isplitl [H4] <;> iassumption
  · iintro ⟨Hd2, Hz2, HO, #Hrl, H0, ⟨Hp4, Hc4⟩, HR⟩
    isplitr; · iexact Hrl
    isplitl [Hp4]; · iexact Hp4
    isplitl [Hc4]; · iexact Hc4
    isplitl [HO]; · iexact HO
    isplitl [H0]; · iexact H0
    isplitl [Hd2 Hz2]
    · isplitl [Hd2]; · iapply (pay2 m c p); iexact Hd2
      iexact Hz2
    · iexact HR
  · unfold drainDone
    iintro ⟨Hd4, Hz4, HO, H0, H2, HR⟩
    isplitl [Hd4 Hz4 H0 H2]
    · isplitl [H0]; · iexact H0
      isplitl [H2]; · iexact H2
      isplitl [Hd4]; · iapply (pay4 m c p); iexact Hd4
      iexact Hz4
    isplitl [HO] <;> iassumption

end Cert.KP
-- ==== Proof.Loops.lean ====
/-
# The counted loops of the last grid point

Each loop's invariant says what is left for the trips to come and what the trips done have brought; a theorem takes one trip,
and one takes the program through the loop.
-/
module

public import proofs.«01_k».proof.Proof.Steps

@[expose] public section

set_option maxRecDepth 16384

noncomputable section

namespace Cert.KP

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable {c : Dev nD} {t : Fin cfg0.N} {a1 : Memref sig .tc .vmem S1x256x1024 .f32} {a2 : Memref sig .tc .vmem S1024x1024 .f32}
  {a3 a4 : Memref sig .tc .vmem S1x1024x8x128 .f32} {a5 : Memref sig .tc .vmem S1024x1024 .f32} {a6 : Memref sig .tc .vmem S1x1024x1024 .f32}
  {h1 : a1.IsWhole} {h2 : a2.IsWhole} {h3 : a3.IsWhole} {h4 : a4.IsWhole} {h5 : a5.IsWhole} {h6 : a6.IsWhole}
  {R : sProp (MT nD τ sig Unit (Elt F) ℕ UU ℕ)} {α : Type} {Q : α → sProp (MT nD τ sig Unit (Elt F) ℕ UU ℕ)}

theorem trips2 : k0_t2_loop.trips = 15 := by decide +kernel
theorem trips3 : k0_t3_loop.trips = 15 := by decide +kernel
theorem trips4 : k0_t4_loop.trips = 15 := by decide +kernel
theorem trips5 : k0_t5_loop.trips = 15 := by decide +kernel

/-- Trip `j`'s peer, in the closed form the offsets have. -/
theorem off1 (c : Dev nD) (j : Fin 15) : (![j.val + (if j.val ≥ c.val then 1 else 0)] : Fin 1 → ℕ) = ![(peer c j).val] := congrArg (fun n => ![n]) (peer_val c j).symm
theorem off3 (c : Dev nD) (j : Fin 15) : (![j.val + (if j.val ≥ c.val then 1 else 0), 0, 0] : Fin 3 → ℕ) = ![(peer c j).val, 0, 0] :=
  congrArg (fun n => ![n, 0, 0]) (peer_val c j).symm
theorem off4 (c : Dev nD) (j : Fin 15) : (![j.val + (if j.val ≥ c.val then 1 else 0), 0, 0, 0] : Fin 4 → ℕ) = ![(peer c j).val, 0, 0, 0] :=
  congrArg (fun n => ![n, 0, 0, 0]) (peer_val c j).symm
theorem offO (c : Dev nD) (j : Fin 15) : (![0, 64 * j.val + 64 * (if j.val ≥ c.val then 1 else 0), 0] : Fin 3 → ℕ) = ![0, 64 * (peer c j).val, 0] :=
  congrArg (fun n => ![0, n, 0]) (by rw [peer_val]; exact (Nat.mul_add 64 _ _).symm)

/-! ## Receiving and combining -/

/-- After `k` trips: the running pair, and what is left to receive. -/
def recvI (K : Dev nD × Ck → ℕ) (c : Dev nD) (k : ℕ) (a : FVec F S64x8x128 .f32 × FVec F S64x16 .f32) : sProp 𝕄 :=
  iprop(⌜a = comb m c k⌝ ∗ (records m K ∗ levAts L lv) ∗ (∃ W, owes (c : Thread nD τ) (Obc c 0) W)
    ∗ (bigSep (frm 15 k) fun j : Fin 15 => recvRes (F := F) c (peer c j)) ∗ bigSep (upto 15 k) fun j : Fin 15 => recvDone (F := F) c (peer c j))

theorem comb_succ (c : Dev nD) (j : Fin 15) :
    comb m c (j.val + 1) = combStep (comb m c j.val) (blkC (RC m c) (peer c j)) (blkS (RS m c) (peer c j)) :=
  dif_pos j.isLt

theorem t2_trip (K : Dev nD × Ck → ℕ) (v2 : BitVec 32) (hc : k0_cond6 (grid0.coords t) = 1#1) (k : Fin k0_t2_loop.trips) (a : FVec F S64x8x128 .f32 × FVec F S64x16 .f32) :
    recvI m K c k.val a ⊢ WP c (k0_t2_body (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c v2 hc k a) fun a' => recvI m K c (k.val + 1) a' := by
  obtain ⟨x, y⟩ := a
  unfold k0_t2_body
  rw [k0_part1_eq_skeleton]; unfold k0_part1_skel
  simp only [Prog.lift, Prog.bind_op, Prog.bind_ret, Prog.pure_eq_ret]
  obtain ⟨j, hj⟩ : ∃ j : Fin 15, j.val = k.val := ⟨⟨k.val, lt_of_lt_of_eq k.isLt trips2⟩, rfl⟩
  have e1 := off1 c j; rw [hj] at e1
  have e3 := off3 c j; rw [hj] at e3
  have e4 := off4 c j; rw [hj] at e4
  refine BIBase.Entails.trans ?_ (recv_step m K (peer c j) (peer_ne c j)
    ((congrArg SemArray.sem (cellS_mk cc0_scratch6 (peer c j) _ _ ((k0_off51_eq c k).trans e1))).trans (sem_6 _))
    ((congrArg SemArray.sem (cellS_mk cc0_scratch8 (peer c j) _ _ ((k0_off51_eq c k).trans e1))).trans (sem_8 _))
    (slotC_mk rcvC (peer c j) _ _ ((k0_off52_eq c k).trans e4)) (slotS_mk rcvS (peer c j) _ _ ((k0_off53_eq c k).trans e3))
    ((k0_off54_eq c k).trans e4) ((k0_off55_eq c k).trans e3)
    (R := iprop(⌜(x, y) = comb m c j.val⌝ ∗ (records m K ∗ levAts L lv)
      ∗ (bigSep (frm 15 (j.val + 1)) fun j : Fin 15 => recvRes (F := F) c (peer c j)) ∗ bigSep (upto 15 j.val) fun j : Fin 15 => recvDone (F := F) c (peer c j)))
    (wp_done ?_))
  · unfold recvI
    rw [← hj, frm_peel _ j]
    iintro ⟨%ha, #Hrl, HO, ⟨Hj, Hf⟩, Hu⟩
    isplitr; · iexact Hrl
    isplitl [Hj]; · iexact Hj
    isplitl [HO]; · iexact HO
    isplitr; · ipureintro; exact ha
    isplitr; · iexact Hrl
    isplitl [Hf] <;> iassumption
  · unfold recvI
    rw [← hj, upto_push _ j, comb_succ]
    iintro ⟨Hj, HO, %ha, #Hrl, Hf, Hu⟩
    isplitr; · ipureintro; rw [← ha]; rfl
    isplitr; · iexact Hrl
    isplitl [HO]; · iexact HO
    isplitl [Hf]; · iexact Hf
    isplitl [Hj] <;> iassumption

/-! ## Sending the finished block -/

/-- After `k` trips: the copies left, and the credits of those made. -/
def bcI (K : Dev nD × Ck → ℕ) (c : Dev nD) (k : ℕ) : sProp 𝕄 :=
  iprop(records m K ∗ (∃ W, owes (c : Thread nD τ) (Obc c k) W)
    ∗ (bigSep (frm 15 k) fun j : Fin 15 => iprop(bcRes (F := F) c (peer c j) ∗ ptB c (setB c) (shareTok fullShare 16 (peer c j)) (BC m)))
    ∗ bigSep (upto 15 k) fun j : Fin 15 => crd (F := F) c 4 (peer c j))

theorem t3_trip (K : Dev nD × Ck → ℕ) (v2 : BitVec 32) (hc : k0_cond6 (grid0.coords t) = 1#1) (v816 : FVec F S64x8x128 .f32) (v835 : FVec F S64x1024 .f32)
    (v837 : FVec F S64x128 .f32) (v839 : FVec F S128x1024 .f32) (cst : FVec F S64x1024 .f32) (k : Fin k0_t3_loop.trips) (a : Unit) :
    bcI m K c k.val ⊢ WP c (k0_t3_body (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c v2 hc v816 v835 v837 v839 cst k a) fun _ => bcI m K c (k.val + 1) := by
  unfold k0_t3_body
  simp only [Prog.lift, Prog.bind_op, Prog.bind_ret, Prog.pure_eq_ret]
  obtain ⟨j, hj⟩ : ∃ j : Fin 15, j.val = k.val := ⟨⟨k.val, lt_of_lt_of_eq k.isLt trips3⟩, rfl⟩
  have e1 := off1 c j; rw [hj] at e1
  have e0 := peer_val c j; rw [hj] at e0
  refine BIBase.Entails.trans ?_ (bc_step m K j _ (Fin.ext ((k0_dev10_eq c k).trans e0.symm))
    (slotB_mk gatB c _ _ (k0_off60_eq c)) (slotB_mk gatB c _ _ (k0_off60_eq c))
    ((congrArg SemArray.sem (cellS_mk cc0_scratch9 (peer c j) _ _ ((k0_off58_eq c k).trans e1))).trans (sem_9 _))
    ((congrArg SemArray.sem (cellS_mk cc0_scratch10 c _ _ (k0_off59_eq c))).trans (sem_10 _))
    (R := iprop(records m K
      ∗ (bigSep (frm 15 (j.val + 1)) fun j : Fin 15 => iprop(bcRes (F := F) c (peer c j) ∗ ptB c (setB c) (shareTok fullShare 16 (peer c j)) (BC m)))
      ∗ bigSep (upto 15 j.val) fun j : Fin 15 => crd (F := F) c 4 (peer c j)))
    (wp_done ?_))
  · unfold bcI
    rw [← hj, frm_peel _ j]
    iintro ⟨#Hrec, HO, ⟨Hj, Hf⟩, Hu⟩
    isplitr; · iexact Hrec
    isplitl [Hj]; · iexact Hj
    isplitl [HO]; · iexact HO
    isplitr; · iexact Hrec
    isplitl [Hf] <;> iassumption
  · unfold bcI
    rw [← hj, upto_push _ j]
    iintro ⟨Hj, HO, Hrec, Hf, Hu⟩
    isplitl [Hrec]; · iexact Hrec
    isplitl [HO]; · iexact HO
    isplitl [Hf]; · iexact Hf
    isplitl [Hj] <;> iassumption

/-! ## Receiving the finished blocks -/

/-- After `k` trips: the device's own rows and those of its first `k` peers are written. -/
def gatI (K : Dev nD × Ck → ℕ) (c : Dev nD) (a6 : Memref sig .tc .vmem S1x1024x1024 .f32) (k : ℕ) : sProp 𝕄 :=
  iprop((records m K ∗ levAts L lv) ∗ (∃ W, owes (c : Thread nD τ) 0 W) ∗ outI m c a6 (fun q => q = c ∨ ∃ j : Fin 15, j.val < k ∧ q = peer c j)
    ∗ (bigSep (frm 15 k) fun j : Fin 15 => gatRes (F := F) c (peer c j)) ∗ bigSep (upto 15 k) fun j : Fin 15 => gatDone (F := F) c (peer c j))

theorem t4_trip (K : Dev nD × Ck → ℕ) (hc : k0_cond6 (grid0.coords t) = 1#1) (k : Fin k0_t4_loop.trips) (a : Unit) :
    gatI m K c a6 k.val ⊢ WP c (k0_t4_body (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c hc k a) fun _ => gatI m K c a6 (k.val + 1) := by
  unfold k0_t4_body
  simp only [Prog.lift, Prog.bind_op, Prog.bind_ret, Prog.pure_eq_ret]
  obtain ⟨j, hj⟩ : ∃ j : Fin 15, j.val = k.val := ⟨⟨k.val, lt_of_lt_of_eq k.isLt trips4⟩, rfl⟩
  have e1 := off1 c j; rw [hj] at e1
  have e3 := off3 c j; rw [hj] at e3
  have eo := offO c j; rw [hj] at eo
  refine BIBase.Entails.trans ?_ (gat_step m K (peer c j) (peer_ne c j)
    ((congrArg SemArray.sem (cellS_mk cc0_scratch10 (peer c j) _ _ ((k0_off61_eq c k).trans e1))).trans (sem_10 _))
    (slotB_mk gatB (peer c j) _ _ ((k0_off62_eq c k).trans e3)) ((k0_off63_eq c k).trans e3) ((k0_off64_eq c k).trans eo)
    (S := fun q => q = c ∨ ∃ i : Fin 15, i.val < j.val ∧ q = peer c i)
    (R := iprop((records m K ∗ levAts L lv)
      ∗ (bigSep (frm 15 (j.val + 1)) fun j : Fin 15 => gatRes (F := F) c (peer c j)) ∗ bigSep (upto 15 j.val) fun j : Fin 15 => gatDone (F := F) c (peer c j)))
    (wp_done ?_))
  · unfold gatI
    rw [← hj, frm_peel _ j]
    iintro ⟨#Hrl, HO, Hout, ⟨Hj, Hf⟩, Hu⟩
    isplitr; · iexact Hrl
    isplitl [Hj]; · iexact Hj
    isplitl [Hout]; · iexact Hout
    isplitl [HO]; · iexact HO
    isplitr; · iexact Hrl
    isplitl [Hf] <;> iassumption
  · unfold gatI
    rw [← hj, upto_push _ j]
    iintro ⟨Hj, Hout, HO, Hrl, Hf, Hu⟩
    isplitl [Hrl]; · iexact Hrl
    isplitl [HO]; · iexact HO
    isplitl [Hout]
    · iapply (outI_mono m (fun p hp => ?_)) $$ Hout
      rcases hp with h | ⟨i, hi, h⟩
      · exact Or.inr (Or.inl h)
      · by_cases hij : i = j
        · exact Or.inl (hij ▸ h)
        · exact Or.inr (Or.inr ⟨i, by have : i.val ≠ j.val := fun e => hij (Fin.ext e); omega, h⟩)
    isplitl [Hf]; · iexact Hf
    isplitl [Hj] <;> iassumption

/-! ## Waiting for the departures -/

/-- After `k` trips: the waits left, and what those done gave back. -/
def drainI (K : Dev nD × Ck → ℕ) (c : Dev nD) (k : ℕ) : sProp 𝕄 :=
  iprop((records m K ∗ levAts L lv) ∗ (∃ W, owes (c : Thread nD τ) 0 W)
    ∗ (bigSep (frm 15 k) fun j : Fin 15 => drainRes (F := F) c (peer c j)) ∗ bigSep (upto 15 k) fun j : Fin 15 => drainDone m c (peer c j))

theorem t5_trip (K : Dev nD × Ck → ℕ) (hc : k0_cond6 (grid0.coords t) = 1#1) (k : Fin k0_t5_loop.trips) (a : Unit) :
    drainI m K c k.val ⊢ WP c (k0_t5_body (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c hc k a) fun _ => drainI m K c (k.val + 1) := by
  unfold k0_t5_body
  simp only [Prog.lift, Prog.bind_op, Prog.bind_ret, Prog.pure_eq_ret]
  obtain ⟨j, hj⟩ : ∃ j : Fin 15, j.val = k.val := ⟨⟨k.val, lt_of_lt_of_eq k.isLt trips5⟩, rfl⟩
  have e1 := off1 c j; rw [hj] at e1
  have e3 := off3 c j; rw [hj] at e3
  have e4 := off4 c j; rw [hj] at e4
  refine BIBase.Entails.trans ?_ (drain_step m K (peer c j) (peer_ne c j)
    ((congrArg SemArray.sem (cellS_mk cc0_scratch5 (peer c j) _ _ ((k0_off65_eq c k).trans e1))).trans (sem_5 _))
    ((congrArg SemArray.sem (cellS_mk cc0_scratch7 (peer c j) _ _ ((k0_off65_eq c k).trans e1))).trans (sem_7 _))
    ((congrArg SemArray.sem (cellS_mk cc0_scratch9 (peer c j) _ _ ((k0_off65_eq c k).trans e1))).trans (sem_9 _))
    (slotC_mk locC (peer c j) _ _ ((k0_off66_eq c k).trans e4)) (slotS_mk locS (peer c j) _ _ ((k0_off67_eq c k).trans e3)) (slotB_mk gatB c _ _ (k0_off68_eq c))
    (R := iprop((records m K ∗ levAts L lv)
      ∗ (bigSep (frm 15 (j.val + 1)) fun j : Fin 15 => drainRes (F := F) c (peer c j)) ∗ bigSep (upto 15 j.val) fun j : Fin 15 => drainDone m c (peer c j)))
    (wp_done ?_))
  · unfold drainI
    rw [← hj, frm_peel _ j]
    iintro ⟨#Hrl, HO, ⟨Hj, Hf⟩, Hu⟩
    isplitr; · iexact Hrl
    isplitl [Hj]; · iexact Hj
    isplitl [HO]; · iexact HO
    isplitr; · iexact Hrl
    isplitl [Hf] <;> iassumption
  · unfold drainI
    rw [← hj, upto_push _ j]
    iintro ⟨Hj, HO, Hrl, Hf, Hu⟩
    isplitl [Hrl]; · iexact Hrl
    isplitl [HO]; · iexact HO
    isplitl [Hf]; · iexact Hf
    isplitl [Hj] <;> iassumption

end Cert.KP
-- ==== Proof.Tail.lean ====
/-
# The last grid point, after its sends

The combination, the finished block, its copies to the other devices, the other devices' blocks, the waits on the
departures; at the end every counter is zero and every buffer whole again.
-/
module

public import proofs.«01_k».proof.Proof.Loops
public import Idealize.ShloMosaic.Lib.ValueLayout

@[expose] public section

set_option maxRecDepth 16384

noncomputable section

namespace Cert.KP

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable {c : Dev nD} {t : Fin cfg0.N} {a1 : Memref sig .tc .vmem S1x256x1024 .f32} {a2 : Memref sig .tc .vmem S1024x1024 .f32}
  {a3 a4 : Memref sig .tc .vmem S1x1024x8x128 .f32} {a5 : Memref sig .tc .vmem S1024x1024 .f32} {a6 : Memref sig .tc .vmem S1x1024x1024 .f32}
  {h1 : a1.IsWhole} {h2 : a2.IsWhole} {h3 : a3.IsWhole} {h4 : a4.IsWhole} {h5 : a5.IsWhole} {h6 : a6.IsWhole}
  {R : sProp (MT nD τ sig Unit (Elt F) ℕ UU ℕ)} {α : Type} {Q : α → sProp (MT nD τ sig Unit (Elt F) ℕ UU ℕ)}
  {Q' : PUnit → sProp (MT nD τ sig Unit (Elt F) ℕ UU ℕ)}

/-- A loop at the head of a program, by an invariant. -/
theorem for_cps {A : Type} (l : Scf.Loop 32) (ok : l.OK) (init : A) (body : Fin l.trips → A → Prog (TpuEff nD τ sig (Elt F) Λ₀ .tc) A)
    (I : ℕ → A → sProp 𝕄) (n : ℕ) (hn : l.trips = n) (hbody : ∀ k a, I k.val a ⊢ WP c (body k a) (I (k.val + 1)))
    {kk : A → Prog (TpuEff nD τ sig (Elt F) Λ₀ .tc) α} (hk : ∀ a, iprop(I n a ∗ R) ⊢ WP c (kk a) Q) :
    iprop(I 0 init ∗ R) ⊢ WP c (Prog.bind (Scf.Loop.for l ok init body) kk) Q := by
  subst hn
  iintro ⟨HI, HR⟩
  iapply (Scf.wp_for_bind frame (wpE (defs₀ (F := F)) 𝒱₀ (c : Thread nD τ) none) Set.univ _ _ _ ok init body I hbody) $$ HI
  iintro %a HI
  iapply (hk a)
  isplitl [HI] <;> iassumption

/-- A load of the device's own gathering block, at whatever it holds: the program does not use what it reads. -/
theorem wp_load_exB {off : Fin 3 → ℕ} {hin : ∀ a, off a + S1x64x1024.size a ≤ S16x64x1024.size a} (hoff : off = ![c.val, 0, 0])
    {hl : gatB.view.LoadsAt (Rect.unit (s := S16x64x1024) off S1x64x1024.size hin).toLoadRect} {kk : Vec F S1x64x1024 .f32 → Prog (TpuEff nD τ sig (Elt F) Λ₀ .tc) α}
    (hk : ∀ v, iprop(exB (F := F) c c ∗ R) ⊢ WP c (kk v) Q) :
    iprop(exB (F := F) c c ∗ R) ⊢ WP c (.op (.load gatB (Rect.unit (s := S16x64x1024) off S1x64x1024.size hin).toLoadRect hl) kk) Q := by
  have hx : ∀ f : Vec F S16x64x1024 .f32, iprop(ptB c (setB c) fullShare f ∗ R) ⊢ iprop(exB (F := F) c c ∗ R) := fun f => by
    unfold exB
    iintro ⟨H, HR⟩
    isplitl [H]; · iexists f; iexact H
    iexact HR
  conv_lhs => unfold exB
  iintro ⟨⟨%f, H⟩, HR⟩
  iapply (ldB c f hoff (BIBase.Entails.trans (hx f) (hk _)))
  isplitl [H] <;> iassumption

/-- Four loads of one window. -/
theorem load4 (W : Vec F S1024x1024 .f32) {r₁ r₂ r₃ r₄ : LoadRect S1024x1024} {l₁ : a5.view.LoadsAt r₁} {l₂ : a5.view.LoadsAt r₂} {l₃ : a5.view.LoadsAt r₃} {l₄ : a5.view.LoadsAt r₄}
    {kk : (r₁.shape.Idx → Elt F .f32) → (r₂.shape.Idx → Elt F .f32) → (r₃.shape.Idx → Elt F .f32) → (r₄.shape.Idx → Elt F .f32) → Prog (TpuEff nD τ sig (Elt F) Λ₀ .tc) α}
    (hk : iprop(owns (c : Thread nD τ) a5 fullShare W ∗ R) ⊢ WP c (kk (fun j => W (r₁.idx j)) (fun j => W (r₂.idx j)) (fun j => W (r₃.idx j)) (fun j => W (r₄.idx j))) Q) :
    iprop(owns (c : Thread nD τ) a5 fullShare W ∗ R)
      ⊢ WP c (.op (.load a5 r₁ l₁) fun v₁ => .op (.load a5 r₂ l₂) fun v₂ => .op (.load a5 r₃ l₃) fun v₃ => .op (.load a5 r₄ l₄) fun v₄ => kk v₁ v₂ v₃ v₄) Q :=
  wp_load_owns a5 W _ (wp_load_owns a5 W _ (wp_load_owns a5 W _ (wp_load_owns a5 W _ hk)))

/-! ## The combination -/

/-- The device's own block of partial results. -/
def ownBlk (c : Dev nD) : sProp 𝕄 := iprop(ptLC c (setC c) fullShare (LC m c) ∗ ptLS c (setS c) fullShare (LS m c))

/-- What the projection of the last three steps' heads has read. -/
theorem combine (K : Dev nD × Ck → ℕ) (v2 : BitVec 32) (hc : k0_cond6 (grid0.coords t) = 1#1) (W : Vec F S1024x1024 .f32)
    {k : _ → Prog (TpuEff nD τ sig (Elt F) Λ₀ .tc) α}
    (hk : iprop(((records m K ∗ levAts L lv) ∗ (∃ W, owes (c : Thread nD τ) (Obc c 0) W) ∗ (bigSep Finset.univ fun j : Fin 15 => recvDone (F := F) c (peer c j))
        ∗ ownBlk m c ∗ owns (c : Thread nD τ) a5 fullShare W) ∗ R)
      ⊢ WP c (k ⟨k0_pay16 (comb m c 15).1 (comb m c 15).2, k0_pay17 (comb m c 15).1 (comb m c 15).2 (woH W 0) (woH W 1) (woH W 2),
        k0_pay18 (comb m c 15).1 (comb m c 15).2, k0_pay19 (woH W 3), constant S64x1024 .f32 0x00000000#32⟩) Q) :
    iprop(((records m K ∗ levAts L lv) ∗ (∃ W, owes (c : Thread nD τ) (Obc c 0) W) ∗ (bigSep Finset.univ fun j : Fin 15 => recvRes (F := F) c (peer c j))
        ∗ ownBlk m c ∗ owns (c : Thread nD τ) a5 fullShare W) ∗ R)
      ⊢ WP c (Prog.bind (k0_part2 (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c v2 hc) k) Q := by
  rw [k0_part2_eq_skeleton]
  change _ ⊢ WP c (k0_part2_skel _ _ _ _ _ _ _ _ _ _ _ _ _ _ _ _ _ _ _ _ _ _ _ _ _ _ _ _ _ _ _ _ >>= k) Q
  unfold k0_part2_skel
  simp only [Prog.lift, Prog.bind_op, Prog.bind_ret, Prog.pure_eq_ret, Prog.bind_assoc]
  refine BIBase.Entails.trans ?_ (ldLC c (LC m c) (k0_off49_eq c) (R := iprop(ptLS c (setS c) fullShare (LS m c)
    ∗ ((records m K ∗ levAts L lv) ∗ (∃ W, owes (c : Thread nD τ) (Obc c 0) W) ∗ (bigSep Finset.univ fun j : Fin 15 => recvRes (F := F) c (peer c j)))
    ∗ owns (c : Thread nD τ) a5 fullShare W ∗ R)) (BIBase.Entails.trans ?_
    (ldLS c (LS m c) (k0_off50_eq c) (R := iprop(ptLC c (setC c) fullShare (LC m c)
    ∗ ((records m K ∗ levAts L lv) ∗ (∃ W, owes (c : Thread nD τ) (Obc c 0) W) ∗ (bigSep Finset.univ fun j : Fin 15 => recvRes (F := F) c (peer c j)))
    ∗ owns (c : Thread nD τ) a5 fullShare W ∗ R)) (BIBase.Entails.trans ?_
    (for_cps _ _ _ _ (fun k a => recvI m K c k a) 15 trips2 (by intro k a; exact t2_trip m K v2 hc k a)
    (R := iprop(ownBlk m c ∗ owns (c : Thread nD τ) a5 fullShare W ∗ R)) (fun a => ?_))))))
  · unfold ownBlk
    iintro ⟨⟨Hrl, HO, Hr, ⟨HC, HS⟩, H5⟩, HR⟩
    isplitl [HC]; · iexact HC
    isplitl [HS]; · iexact HS
    isplitl [Hrl HO Hr]
    · isplitl [Hrl]; · iexact Hrl
      isplitl [HO] <;> iassumption
    isplitl [H5] <;> iassumption
  · iintro ⟨HC, HS, HR⟩
    isplitl [HS]; · iexact HS
    isplitl [HC] <;> iassumption
  · unfold recvI ownBlk
    rw [frm_zero, upto_zero, bigSep_empty]
    iintro ⟨HS, HC, ⟨Hrl, HO, Hr⟩, H5, HR⟩
    isplitl [Hrl HO Hr]
    · isplitr; · ipureintro; rfl
      isplitl [Hrl]; · iexact Hrl
      isplitl [HO]; · iexact HO
      isplitl [Hr]; · iexact Hr
      iempintro
    isplitl [HC HS]
    · isplitl [HC] <;> iassumption
    isplitl [H5] <;> iassumption
  · obtain ⟨x, y⟩ := a
    unfold recvI
    rw [frm_end, upto_end, bigSep_empty]
    iintro ⟨⟨%ha, Hrl, HO, -, Hd⟩, Hown, H5, HR⟩
    obtain ⟨hx, hy⟩ : x = (comb m c 15).1 ∧ y = (comb m c 15).2 := ⟨congrArg Prod.fst ha, congrArg Prod.snd ha⟩
    subst hx; subst hy
    have h : iprop(owns (c : Thread nD τ) a5 fullShare W ∗ ((records m K ∗ levAts L lv) ∗ (∃ W, owes (c : Thread nD τ) (Obc c 0) W)
        ∗ (bigSep Finset.univ fun j : Fin 15 => recvDone (F := F) c (peer c j)) ∗ ownBlk m c) ∗ R)
        ⊢ iprop(((records m K ∗ levAts L lv) ∗ (∃ W, owes (c : Thread nD τ) (Obc c 0) W) ∗ (bigSep Finset.univ fun j : Fin 15 => recvDone (F := F) c (peer c j))
        ∗ ownBlk m c ∗ owns (c : Thread nD τ) a5 fullShare W) ∗ R) := by
      iintro ⟨H5, ⟨Hrl, HO, Hd, Hown⟩, HR⟩
      isplitr [HR]
      · isplitl [Hrl]; · iexact Hrl
        isplitl [HO]; · iexact HO
        isplitl [Hd]; · iexact Hd
        isplitl [Hown] <;> iassumption
      · iexact HR
    iapply (load4 W (BIBase.Entails.trans h hk))
    · isplitl [H5]; · iexact H5
      isplitr [HR]
      · isplitl [Hrl]; · iexact Hrl
        isplitl [HO]; · iexact HO
        isplitl [Hd] <;> iassumption
      · iexact HR

/-! ## The finished block and its copies -/

/-- The shares of the finished block that no copy reads. -/
def keepB (c : Dev nD) : sProp 𝕄 := iprop(ptB c (setB c) (shareDrop fullShare 16) (BC m) ∗ ptB c (setB c) (shareTok fullShare 16 c) (BC m))

theorem finish (K : Dev nD × Ck → ℕ) (v2 : BitVec 32) (hc : k0_cond6 (grid0.coords t) = 1#1)
    {k : _ → Prog (TpuEff nD τ sig (Elt F) Λ₀ .tc) α}
    (hk : iprop((records m K ∗ (∃ W, owes (c : Thread nD τ) 0 W) ∗ (bigSep Finset.univ fun j : Fin 15 => crd (F := F) c 4 (peer c j))
        ∗ keepB m c ∗ outI m c a6 (fun q => q = c) ∗ owns (c : Thread nD τ) a5 fullShare (woB m c (pt 3))) ∗ R) ⊢ WP c (k ⟨⟩) Q) :
    iprop((records m K ∗ (∃ W, owes (c : Thread nD τ) (Obc c 0) W) ∗ (bigSep Finset.univ fun j : Fin 15 => bcRes (F := F) c (peer c j))
        ∗ exB (F := F) c c ∗ outI m c a6 (fun _ => False) ∗ owns (c : Thread nD τ) a5 fullShare (woB m c (pt 3))) ∗ R)
      ⊢ WP c (Prog.bind (k0_part3 (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c v2 hc
        (k0_pay16 (comb m c 15).1 (comb m c 15).2) (k0_pay17 (comb m c 15).1 (comb m c 15).2 (woH (woB m c (pt 3)) 0) (woH (woB m c (pt 3)) 1) (woH (woB m c (pt 3)) 2))
        (k0_pay18 (comb m c 15).1 (comb m c 15).2) (k0_pay19 (woH (woB m c (pt 3)) 3)) (constant S64x1024 .f32 0x00000000#32)) k) Q := by
  rw [k0_part3_eq_skeleton]
  change _ ⊢ WP c (k0_part3_skel _ _ _ _ _ _ _ _ _ _ _ _ _ _ _ _ _ _ _ _ _ _ _ _ _ _ _ _ _ _ _ _ _ _ _ _ _ >>= k) Q
  unfold k0_part3_skel
  simp only [Prog.lift, Prog.bind_op, Prog.bind_ret, Prog.pure_eq_ret, Prog.bind_assoc]
  refine BIBase.Entails.trans ?_ (load4 (woB m c (pt 3)) (R := iprop((records m K ∗ (∃ W, owes (c : Thread nD τ) (Obc c 0) W) ∗ (bigSep Finset.univ fun j : Fin 15 => bcRes (F := F) c (peer c j))
        ∗ exB (F := F) c c ∗ outI m c a6 (fun _ => False)) ∗ R))
    (BIBase.Entails.trans ?_ (ldO m _ (S := fun _ => False) (R := iprop(exB (F := F) c c ∗ owns (c : Thread nD τ) a5 fullShare (woB m c (pt 3))
      ∗ (records m K ∗ (∃ W, owes (c : Thread nD τ) (Obc c 0) W) ∗ (bigSep Finset.univ fun j : Fin 15 => bcRes (F := F) c (peer c j))) ∗ R))
      fun _ => stO m c ?_ (k0_off56_eq c) (BIBase.Entails.trans ?_
    (wp_load_exB (k0_off57_eq c) (R := iprop(outI m c a6 (fun q => q = c) ∗ owns (c : Thread nD τ) a5 fullShare (woB m c (pt 3))
      ∗ (records m K ∗ (∃ W, owes (c : Thread nD τ) (Obc c 0) W) ∗ (bigSep Finset.univ fun j : Fin 15 => bcRes (F := F) c (peer c j))) ∗ R))
      fun _ => stB m ?_ (k0_off57_eq c) (BIBase.Entails.trans ?_
    (for_cps _ _ _ _ (fun k _ => bcI m K c k) 15 trips3 (by intro k a; exact t3_trip m K v2 hc _ _ _ _ _ k a)
      (R := iprop(keepB m c ∗ outI m c a6 (fun q => q = c) ∗ owns (c : Thread nD τ) a5 fullShare (woB m c (pt 3)) ∗ R)) (fun _ => BIBase.Entails.trans ?_ hk))))))))
  · iintro ⟨⟨Hrec, HO, Hbc, HB, Hout, H5⟩, HR⟩
    isplitl [H5]; · iexact H5
    isplitr [HR]
    · isplitl [Hrec]; · iexact Hrec
      isplitl [HO]; · iexact HO
      isplitl [Hbc]; · iexact Hbc
      isplitl [HB] <;> iassumption
    · iexact HR
  · iintro ⟨H5, ⟨Hrec, HO, Hbc, HB, Hout⟩, HR⟩
    isplitl [Hout]; · iexact Hout
    isplitl [HB]; · iexact HB
    isplitl [H5]; · iexact H5
    isplitr [HR]
    · isplitl [Hrec]; · iexact Hrec
      isplitl [HO] <;> iassumption
    · iexact HR
  · funext j
    exact (shapeCast_ab_1ab_apply (OV m c) shapeCasts_S64x1024_S1x64x1024 _ _ _)
  · iintro ⟨Hout, HB, HR⟩
    isplitl [HB]; · iexact HB
    isplitl [Hout]
    · iapply (outI_mono m (fun p hp => Or.inl hp)) $$ Hout
    · iexact HR
  · funext j
    exact (shapeCast_ab_1ab_apply (OV m c) shapeCasts_S64x1024_S1x64x1024 _ _ _)
  · unfold bcI keepB
    rw [frm_zero, upto_zero, bigSep_empty, bigSep_sep']
    iintro ⟨HB, Hout, H5, ⟨Hrec, HO, Hbc⟩, HR⟩
    ihave HB := (Transfers.pointsTo_toks_split fullShare 16) $$ HB
    icases HB with ⟨Hdrop, Htoks⟩
    ihave Htoks := (Entails.of_eq (bigSep_peers (fun k : Dev nD => ptB c (setB c) (shareTok fullShare 16 k) (BC m)) c)) $$ Htoks
    icases Htoks with ⟨Hown, Htoks⟩
    isplitl [Hrec HO Hbc Htoks]
    · isplitl [Hrec]; · iexact Hrec
      isplitl [HO]; · iexact HO
      isplitl [Hbc Htoks]
      · isplitl [Hbc] <;> iassumption
      · iempintro
    isplitl [Hdrop Hown]
    · isplitl [Hdrop] <;> iassumption
    isplitl [Hout]; · iexact Hout
    isplitl [H5] <;> iassumption
  · unfold bcI
    rw [frm_end, upto_end, bigSep_empty, Obc_end]
    iintro ⟨⟨Hrec, HO, -, Hc⟩, Hkeep, Hout, H5, HR⟩
    isplitr [HR]
    · isplitl [Hrec]; · iexact Hrec
      isplitl [HO]; · iexact HO
      isplitl [Hc]; · iexact Hc
      isplitl [Hkeep]; · iexact Hkeep
      isplitl [Hout] <;> iassumption
    · iexact HR

/-! ## The end -/

theorem six (Φ : Fin 6 → sProp 𝕄) : bigSep Finset.univ Φ = iprop(Φ 0 ∗ Φ 1 ∗ Φ 2 ∗ Φ 3 ∗ Φ 4 ∗ Φ 5) := by
  rw [← frm_zero, show (0 : ℕ) = (0 : Fin 6).val from rfl, frm_peel Φ 0, show (0 : Fin 6).val + 1 = (1 : Fin 6).val from rfl, frm_peel Φ 1,
    show (1 : Fin 6).val + 1 = (2 : Fin 6).val from rfl, frm_peel Φ 2, show (2 : Fin 6).val + 1 = (3 : Fin 6).val from rfl, frm_peel Φ 3,
    show (3 : Fin 6).val + 1 = (4 : Fin 6).val from rfl, frm_peel Φ 4, show (4 : Fin 6).val + 1 = 5 from rfl, show frm 6 5 = {5} from by ext k; fin_cases k <;> simp [mem_frm], bigSep_singleton]

/-- Buffers in sixteen blocks, each at some contents, are whole. -/
theorem whole0 (c : Dev nD) : (bigSep Finset.univ fun k : Dev nD => ptLC c (setC k) fullShare (LC m c)) ⊢ (iprop(∃ f, ((c : Thread nD τ).loc cc0_scratch0) ↦{fullShare} f) : sProp 𝕄) := by
  unfold ptLC
  iintro H
  iexists (LC m c)
  iapply (Entails.of_eq (Ring.pointsTo_blocks setC (fun a b h => setC_disj a b h) setC_cover (LC m c)).symm)
  iexact H
theorem whole1 (c : Dev nD) : (bigSep Finset.univ fun k : Dev nD => ptLS c (setS k) fullShare (LS m c)) ⊢ (iprop(∃ f, ((c : Thread nD τ).loc cc0_scratch1) ↦{fullShare} f) : sProp 𝕄) := by
  unfold ptLS
  iintro H
  iexists (LS m c)
  iapply (Entails.of_eq (Ring.pointsTo_blocks setS (fun a b h => setS_disj a b h) setS_cover (LS m c)).symm)
  iexact H
theorem whole2 (c : Dev nD) (f₀ : Buf (Elt F) ((c : Thread nD τ).loc cc0_scratch2)) : (bigSep Finset.univ fun k : Dev nD => exRC (F := F) c k) ⊢ (iprop(∃ f, ((c : Thread nD τ).loc cc0_scratch2) ↦{fullShare} f) : sProp 𝕄) := by
  unfold exRC ptRC
  exact Ring.pointsTo_blocks_join_exists setC (fun a b h => setC_disj a b h) setC_cover (ℓ := (c : Thread nD τ).loc cc0_scratch2) f₀
theorem whole3 (c : Dev nD) (f₀ : Buf (Elt F) ((c : Thread nD τ).loc cc0_scratch3)) : (bigSep Finset.univ fun k : Dev nD => exRS (F := F) c k) ⊢ (iprop(∃ f, ((c : Thread nD τ).loc cc0_scratch3) ↦{fullShare} f) : sProp 𝕄) := by
  unfold exRS ptRS
  exact Ring.pointsTo_blocks_join_exists setS (fun a b h => setS_disj a b h) setS_cover (ℓ := (c : Thread nD τ).loc cc0_scratch3) f₀
theorem whole4 (c : Dev nD) (f₀ : Buf (Elt F) ((c : Thread nD τ).loc cc0_scratch4)) : (bigSep Finset.univ fun k : Dev nD => exB (F := F) c k) ⊢ (iprop(∃ f, ((c : Thread nD τ).loc cc0_scratch4) ↦{fullShare} f) : sProp 𝕄) := by
  unfold exB ptB
  exact Ring.pointsTo_blocks_join_exists setB (fun a b h => setB_disj a b h) setB_cover (ℓ := (c : Thread nD τ).loc cc0_scratch4) f₀

/-- Everything after the last wait. -/
def doneS (K : Dev nD × Ck → ℕ) (c : Dev nD) : sProp 𝕄 :=
  iprop(records m K ∗ semVal (bar c) 0 ∗ ownBlk m c ∗ (exRC (F := F) c c ∗ exRS (F := F) c c) ∗ keepB m c
    ∗ (bigSep Finset.univ fun j : Fin 15 => recvDone (F := F) c (peer c j)) ∗ (bigSep Finset.univ fun j : Fin 15 => gatDone (F := F) c (peer c j))
    ∗ (bigSep Finset.univ fun j : Fin 15 => drainDone m c (peer c j)) ∗ (bigSep Finset.univ fun f : Fin 6 => pos (F := F) c f c))

theorem close_end (K : Dev nD × Ck → ℕ) (c : Dev nD) : doneS m K c ⊢ |={Set.univ}=> endS (F := F) c := by
  unfold doneS ownBlk keepB recvDone gatDone drainDone endS
  rw [six, bigSep_sep', bigSep_sep', bigSep_sep', bigSep_sep', bigSep_sep', bigSep_sep', bigSep_sep', bigSep_sep', bigSep_sep']
  iintro ⟨#Hrec, Hbar, ⟨HC, HS⟩, ⟨HRC, HRS⟩, ⟨Hdrop, Htok⟩, ⟨⟨HRCs, Hz1⟩, HRSs, Hz3⟩, ⟨HBs, Hz5⟩, ⟨⟨HCs, Hz0⟩, ⟨HSs, Hz2⟩, Htoks, Hz4⟩, Hp0, Hp1, Hp2, Hp3, Hp4, Hp5⟩
  imod (close_own m K 0) $$ [Hp0] with Hq0
  · isplitr; · iexact Hrec
    iexact Hp0
  imod (close_own m K 1) $$ [Hp1] with Hq1
  · isplitr; · iexact Hrec
    iexact Hp1
  imod (close_own m K 2) $$ [Hp2] with Hq2
  · isplitr; · iexact Hrec
    iexact Hp2
  imod (close_own m K 3) $$ [Hp3] with Hq3
  · isplitr; · iexact Hrec
    iexact Hp3
  imod (close_own m K 4) $$ [Hp4] with Hq4
  · isplitr; · iexact Hrec
    iexact Hp4
  imod (close_own m K 5) $$ [Hp5] with Hq5
  · isplitr; · iexact Hrec
    iexact Hp5
  imodintro
  isplitl [Hbar]; · iexact Hbar
  isplitl [Hq0 Hq1 Hq2 Hq3 Hq4 Hq5 Hz0 Hz1 Hz2 Hz3 Hz4 Hz5]
  · rw [bigSep_univ_prod, six, bigSep_peers (fun k : Dev nD => zer (F := F) c 0 k) c, bigSep_peers (fun k : Dev nD => zer (F := F) c 1 k) c, bigSep_peers (fun k : Dev nD => zer (F := F) c 2 k) c,
      bigSep_peers (fun k : Dev nD => zer (F := F) c 3 k) c, bigSep_peers (fun k : Dev nD => zer (F := F) c 4 k) c, bigSep_peers (fun k : Dev nD => zer (F := F) c 5 k) c]
    isplitl [Hq0 Hz0]; · isplitl [Hq0] <;> iassumption
    isplitl [Hq1 Hz1]; · isplitl [Hq1] <;> iassumption
    isplitl [Hq2 Hz2]; · isplitl [Hq2] <;> iassumption
    isplitl [Hq3 Hz3]; · isplitl [Hq3] <;> iassumption
    isplitl [Hq4 Hz4]; · isplitl [Hq4] <;> iassumption
    isplitl [Hq5] <;> iassumption
  isplitl [HC HCs]
  · iapply (whole0 m c); rw [bigSep_peers _ c]; isplitl [HC] <;> iassumption
  isplitl [HS HSs]
  · iapply (whole1 m c); rw [bigSep_peers _ c]; isplitl [HS] <;> iassumption
  isplitl [HRC HRCs]
  · iapply (whole2 c (m _)); rw [bigSep_peers _ c]; isplitl [HRC] <;> iassumption
  isplitl [HRS HRSs]
  · iapply (whole3 c (m _)); rw [bigSep_peers _ c]; isplitl [HRS] <;> iassumption
  · iapply (whole4 c (m _)); rw [bigSep_peers _ c]
    isplitr [HBs]
    · unfold exB; iexists (BC m)
      iapply (Transfers.pointsTo_toks_join fullShare 16)
      isplitl [Hdrop]; · iexact Hdrop
      rw [bigSep_peers _ c]; isplitl [Htok] <;> iassumption
    · iexact HBs

/-- From the end of the sends to the end of the body. -/
theorem tail (K : Dev nD × Ck → ℕ) (v2 : BitVec 32) (hc : k0_cond6 (grid0.coords t) = 1#1)
    (hk : iprop((endS (F := F) c ∗ (∃ W, owes (c : Thread nD τ) 0 W) ∗ outI m c a6 (fun _ => True) ∗ owns (c : Thread nD τ) a5 fullShare (woB m c (pt 3))) ∗ R) ⊢ Q' ⟨⟩) :
    iprop((sndS m K c 16 16 ∗ outI m c a6 (fun _ => False) ∗ owns (c : Thread nD τ) a5 fullShare (woB m c (pt 3))) ∗ R)
      ⊢ WP c (Prog.bind (k0_part2 (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c v2 hc) fun x => Prog.bind (k0_part3 (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c v2 hc
        x.1 x.2.1 x.2.2.1 x.2.2.2.1 x.2.2.2.2) fun _ =>
        Prog.bind (Scf.Loop.for k0_t4_loop (k0_t4_ok (grid0.coords t) hc) ⟨⟩ (k0_t4_body (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c hc)) fun _ =>
        Prog.bind (Scf.Loop.for k0_t5_loop (k0_t5_ok (grid0.coords t) hc) ⟨⟩ (k0_t5_body (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c hc)) fun _ => .ret ⟨⟩) Q' := by
  have e0 : outI m c a6 (fun q => q = c) ⊢ outI m c a6 (fun q => q = c ∨ ∃ j : Fin 15, j.val < 0 ∧ q = peer c j) :=
    outI_mono m fun p hp => by
      rcases hp with h | ⟨j, hj, _⟩
      · exact h
      · exact absurd hj (Nat.not_lt_zero _)
  have e1 : outI m c a6 (fun q => q = c ∨ ∃ j : Fin 15, j.val < 15 ∧ q = peer c j) ⊢ outI m c a6 (fun _ => True) :=
    outI_mono m fun p _ => by
      by_cases hp : p = c
      · exact Or.inl hp
      · obtain ⟨j, hj⟩ := Fin.exists_succAbove_eq hp
        exact Or.inr ⟨j, j.isLt, hj.symm⟩
  have hdr : ∀ a : Unit, iprop(drainI m K c 15 ∗ ((bigSep Finset.univ fun j : Fin 15 => recvDone (F := F) c (peer c j)) ∗ ownBlk m c
        ∗ (bigSep Finset.univ fun j : Fin 15 => gatDone (F := F) c (peer c j)) ∗ keepB m c ∗ (exRC (F := F) c c ∗ exRS (F := F) c c) ∗ semVal (bar c) 0
        ∗ (bigSep Finset.univ fun f : Fin 6 => pos (F := F) c f c)) ∗ outI m c a6 (fun _ => True) ∗ owns (c : Thread nD τ) a5 fullShare (woB m c (pt 3)) ∗ R)
      ⊢ WP c (.ret ⟨⟩) Q' := fun a => by
    unfold drainI
    rw [frm_end, upto_end, bigSep_empty]
    iintro ⟨⟨⟨Hrec, Hlev⟩, HO, -, Hdd⟩, ⟨Hrd, Hown, Hgd, Hkeep, Hex, Hbar, Hpos⟩, Hout, H5, HR⟩
    ihave H := (close_end m K c) $$ [Hrec Hdd Hrd Hown Hgd Hkeep Hex Hbar Hpos]
    · unfold doneS
      isplitl [Hrec]; · iexact Hrec
      isplitl [Hbar]; · iexact Hbar
      isplitl [Hown]; · iexact Hown
      isplitl [Hex]; · iexact Hex
      isplitl [Hkeep]; · iexact Hkeep
      isplitl [Hrd]; · iexact Hrd
      isplitl [Hgd]; · iexact Hgd
      isplitl [Hdd] <;> iassumption
    imod H with Hend
    iapply (wp_done hk)
    isplitr [HR]
    · isplitl [Hend]; · iexact Hend
      isplitl [HO]; · iexact HO
      isplitl [Hout] <;> iassumption
    · iexact HR
  have hga : iprop((records m K ∗ (∃ W, owes (c : Thread nD τ) 0 W) ∗ (bigSep Finset.univ fun j : Fin 15 => crd (F := F) c 4 (peer c j))
        ∗ keepB m c ∗ outI m c a6 (fun q => q = c) ∗ owns (c : Thread nD τ) a5 fullShare (woB m c (pt 3))) ∗
        ((bigSep Finset.univ fun j : Fin 15 => recvDone (F := F) c (peer c j)) ∗ ownBlk m c ∗ (exRC (F := F) c c ∗ exRS (F := F) c c) ∗ semVal (bar c) 0
        ∗ levAts L lv ∗ (bigSep Finset.univ fun j : Fin 15 => crd (F := F) c 0 (peer c j) ) ∗ (bigSep Finset.univ fun j : Fin 15 => crd (F := F) c 2 (peer c j))
        ∗ (bigSep Finset.univ fun n : Fin 15 => gatRes (F := F) c (peer c n)) ∗ (bigSep Finset.univ fun n : Fin 15 => drainPos (F := F) c (peer c n))
        ∗ (bigSep Finset.univ fun f : Fin 6 => pos (F := F) c f c)) ∗ R)
      ⊢ WP c (Prog.bind (Scf.Loop.for k0_t4_loop (k0_t4_ok (grid0.coords t) hc) ⟨⟩ (k0_t4_body (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c hc)) fun _ =>
        Prog.bind (Scf.Loop.for k0_t5_loop (k0_t5_ok (grid0.coords t) hc) ⟨⟩ (k0_t5_body (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c hc)) fun _ => .ret ⟨⟩) Q' := by
    refine BIBase.Entails.trans ?_ (for_cps (R := iprop(
        (bigSep Finset.univ fun j : Fin 15 => drainRes (F := F) c (peer c j)) ∗ ((bigSep Finset.univ fun j : Fin 15 => recvDone (F := F) c (peer c j)) ∗ ownBlk m c
        ∗ keepB m c ∗ (exRC (F := F) c c ∗ exRS (F := F) c c) ∗ semVal (bar c) 0
        ∗ (bigSep Finset.univ fun f : Fin 6 => pos (F := F) c f c)) ∗ owns (c : Thread nD τ) a5 fullShare (woB m c (pt 3)) ∗ R))
      (A := Unit) k0_t4_loop _ ⟨⟩ _ (fun n _ => gatI m K c a6 n) 15 trips4 (by intro k a; exact t4_trip m K hc k a) (fun a =>
        BIBase.Entails.trans ?_ (for_cps (A := Unit) k0_t5_loop _ ⟨⟩ _ (fun n _ => drainI m K c n) 15 trips5 (by intro k a; exact t5_trip m K hc k a) hdr)))
    · unfold gatI drainRes
      rw [frm_zero, upto_zero, bigSep_empty, bigSep_sep', bigSep_sep', bigSep_sep']
      iintro ⟨⟨Hrec, HO, Hc4, Hkeep, Hout, H5⟩, ⟨Hrd, Hown, Hex, Hbar, Hlev, Hc0, Hc2, Hg, Hdp, Hpos⟩, HR⟩
      isplitl [Hrec Hlev HO Hout Hg]
      · isplitl [Hrec Hlev]; · isplitl [Hrec] <;> iassumption
        isplitl [HO]; · iexact HO
        isplitl [Hout]; · iapply e0 $$ Hout
        isplitl [Hg]; · iexact Hg
        iempintro
      isplitl [Hc4 Hc0 Hc2 Hdp]
      · isplitl [Hdp]; · iexact Hdp
        isplitl [Hc0 Hc2]; · isplitl [Hc0] <;> iassumption
        iexact Hc4
      isplitl [Hrd Hown Hkeep Hex Hbar Hpos]
      · isplitl [Hrd]; · iexact Hrd
        isplitl [Hown]; · iexact Hown
        isplitl [Hkeep]; · iexact Hkeep
        isplitl [Hex]; · iexact Hex
        isplitl [Hbar] <;> iassumption
      isplitl [H5] <;> iassumption
    · unfold gatI drainI
      rw [frm_end, upto_end, bigSep_empty, frm_zero, upto_zero, bigSep_empty]
      iintro ⟨⟨Hrl, HO, Hout, -, Hg⟩, Hd, ⟨Hrd, Hown, Hkeep, Hex, Hbar, Hpos⟩, H5, HR⟩
      isplitl [Hrl HO Hd]
      · isplitl [Hrl]; · iexact Hrl
        isplitl [HO]; · iexact HO
        isplitl [Hd]; · iexact Hd
        iempintro
      isplitl [Hg Hrd Hown Hkeep Hex Hbar Hpos]
      · isplitl [Hrd]; · iexact Hrd
        isplitl [Hown]; · iexact Hown
        isplitl [Hg]; · iexact Hg
        isplitl [Hkeep]; · iexact Hkeep
        isplitl [Hex]; · iexact Hex
        isplitl [Hbar] <;> iassumption
      isplitl [Hout]
      · iapply e1 $$ Hout
      isplitl [H5] <;> iassumption
  refine BIBase.Entails.trans ?_ (combine (R := iprop((bigSep Finset.univ fun j : Fin 15 => bcRes (F := F) c (peer c j)) ∗ exB (F := F) c c ∗ outI m c a6 (fun _ => False)
      ∗ (exRC (F := F) c c ∗ exRS (F := F) c c) ∗ semVal (bar c) 0
      ∗ (bigSep Finset.univ fun j : Fin 15 => crd (F := F) c 0 (peer c j) ) ∗ (bigSep Finset.univ fun j : Fin 15 => crd (F := F) c 2 (peer c j))
      ∗ (bigSep Finset.univ fun n : Fin 15 => gatRes (F := F) c (peer c n)) ∗ (bigSep Finset.univ fun n : Fin 15 => drainPos (F := F) c (peer c n))
      ∗ (bigSep Finset.univ fun f : Fin 6 => pos (F := F) c f c) ∗ R)) m K v2 hc (woB m c (pt 3)) (BIBase.Entails.trans ?_ (finish m K v2 hc hga)))
  · have hs : bigSep Finset.univ (sent m c) = iprop(ownBlk m c ∗ (bigSep Finset.univ fun j : Fin 15 => crd (F := F) c 0 (peer c j)) ∗ (bigSep Finset.univ fun j : Fin 15 => crd (F := F) c 2 (peer c j))) := by
      rw [bigSep_peers _ c, ← bigSep_sep']
      unfold sent
      rw [if_pos rfl]
      exact congrArg _ (bigSep_congr fun j _ => if_neg (peer_ne c j))
    unfold sndS midR rest
    rw [show upto nD 16 = Finset.univ from upto_end, show frm nD 16 = ∅ from frm_end, bigSep_empty, Orec_end, add_zero, hs]
    iintro ⟨⟨⟨-, -, ⟨Hrec, Hlev, Hbar, -, ⟨Hown, Hc0, Hc2⟩, ⟨Hx, Hy, Hz⟩, Hbc, Hrr, Hg, Hdp, Hpos⟩, HO⟩, Hout, H5⟩, HR⟩
    isplitl [Hrec Hlev HO Hrr Hown H5]
    · isplitl [Hrec Hlev]; · isplitl [Hrec] <;> iassumption
      isplitl [HO]; · iexact HO
      isplitl [Hrr]; · iexact Hrr
      isplitl [Hown] <;> iassumption
    isplitl [Hbc]; · iexact Hbc
    isplitl [Hz]; · iexact Hz
    isplitl [Hout]; · iexact Hout
    isplitl [Hx Hy]; · isplitl [Hx] <;> iassumption
    isplitl [Hbar]; · iexact Hbar
    isplitl [Hc0]; · iexact Hc0
    isplitl [Hc2]; · iexact Hc2
    isplitl [Hg]; · iexact Hg
    isplitl [Hdp]; · iexact Hdp
    isplitl [Hpos] <;> iassumption
  · iintro ⟨⟨⟨Hrec, Hlev⟩, HO, Hrd, Hown, H5⟩, Hbc, Hz, Hout, Hex, Hbar, Hc0, Hc2, Hg, Hdp, Hpos, HR⟩
    isplitl [Hrec HO Hbc Hz Hout H5]
    · isplitl [Hrec]; · iexact Hrec
      isplitl [HO]; · iexact HO
      isplitl [Hbc]; · iexact Hbc
      isplitl [Hz]; · iexact Hz
      isplitl [Hout] <;> iassumption
    isplitr [HR]
    · isplitl [Hrd]; · iexact Hrd
      isplitl [Hown]; · iexact Hown
      isplitl [Hex]; · iexact Hex
      isplitl [Hbar]; · iexact Hbar
      isplitl [Hlev]; · iexact Hlev
      isplitl [Hc0]; · iexact Hc0
      isplitl [Hc2]; · iexact Hc2
      isplitl [Hg]; · iexact Hg
      isplitl [Hdp] <;> iassumption
    iexact HR

end Cert.KP
-- ==== Proof.Heads.lean ====
/-
# The parts of the body that compute and store the heads

Each theorem takes the program through one printed part: the windows and the local buffers with so many stores done before
it, and after it that many more, with the values it hands on.
-/
module

public import proofs.«01_k».proof.Proof.Compute

@[expose] public section

set_option maxRecDepth 16384

noncomputable section

namespace Cert.KP

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable {c : Dev nD} {t : Fin cfg0.N} {a1 : Memref sig .tc .vmem S1x256x1024 .f32} {a2 : Memref sig .tc .vmem S1024x1024 .f32}
  {a3 a4 : Memref sig .tc .vmem S1x1024x8x128 .f32} {a5 : Memref sig .tc .vmem S1024x1024 .f32} {a6 : Memref sig .tc .vmem S1x1024x1024 .f32}
  {h1 : a1.IsWhole} {h2 : a2.IsWhole} {h3 : a3.IsWhole} {h4 : a4.IsWhole} {h5 : a5.IsWhole} {h6 : a6.IsWhole}
  {f : Vec F S16x64x8x128 .f32} {g : Vec F S16x64x16 .f32}
  {R : sProp (MT nD τ sig Unit (Elt F) ℕ UU ℕ)} {α : Type} {Q : α → sProp (MT nD τ sig Unit (Elt F) ℕ UU ℕ)}

/-- The mask, and head 0's values. -/
theorem part6 (v : BitVec 32)
    {k : _ → Prog (TpuEff nD τ sig (Elt F) Λ₀ .tc) α}
    (hk : iprop(CP m c t a1 a2 a3 a4 f g 1 ∗ R) ⊢ WP c (k ⟨maskV c t, mV m c t 0, lV m c t 0, cV m c t 0, Scalar.addi (Scalar.muli v 4#32) 0#32, (extractStridedSlice S64x1 ![0, 0] (mV m c t 0) (slices_st 0))⟩) Q) :
    iprop(CP m c t a1 a2 a3 a4 f g 0 ∗ R) ⊢ WP c (Prog.bind (k0_part6 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (qV m c t) (k0_pay30 (devW c) (k0_pay25 (grid0.coords t)) (k0_pay26 (grid0.coords t)) (k0_pay27 (grid0.coords t))) (Scalar.select (Scalar.cmpi .eq 3#32 0#32) 1#32 3#32) (k0_pay31 (devW c) (k0_pay25 (grid0.coords t)) (k0_pay26 (grid0.coords t)) (k0_pay27 (grid0.coords t))) (k0_pay32 (devW c) (k0_pay25 (grid0.coords t)) (k0_pay26 (grid0.coords t)) (k0_pay27 (grid0.coords t))) (k0_pay33 (devW c) (k0_pay25 (grid0.coords t)) (k0_pay26 (grid0.coords t)) (k0_pay27 (grid0.coords t))) k0_pay34) k) Q := by
  rw [k0_part6_eq_skeleton]; unfold k0_part6_skel
  simp only [Prog.lift, Prog.bind_op, Prog.bind_ret, Prog.pure_eq_ret]
  refine ldK m 0 _ _ rfl ?_
  refine ldV m 0 _ _ rfl ?_
  refine stepC m 0 0 rfl (k0_off1_eq _ 0) rfl ?_
  refine ldS m 0 0 _ _ (k0_off2_eq _ 0) fun _ => ?_
  exact hk

/-- Head 0's stores. -/
theorem part7 (v v' : BitVec 32)
    {k : _ → Prog (TpuEff nD τ sig (Elt F) Λ₀ .tc) α}
    (hk : iprop(CP m c t a1 a2 a3 a4 f g 8 ∗ R) ⊢ WP c (k (Scalar.addi (Scalar.muli v 4#32) 2#32)) Q) :
    iprop(CP m c t a1 a2 a3 a4 f g 1 ∗ R) ⊢ WP c (Prog.bind (k0_part7 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (mV m c t 0) (lV m c t 0) (cV m c t 0) v' (extractStridedSlice S64x1 ![0, 0] (mV m c t 0) (slices_st 0))) k) Q := by
  rw [k0_part7_eq_skeleton]; unfold k0_part7_skel
  simp only [Prog.lift, Prog.bind_op, Prog.bind_ret, Prog.pure_eq_ret]
  refine stS m 0 0 rfl _ _ (k0_off2_eq _ 0) (wM_at m c t 0 0) ?_
  refine stepS m 8 0 rfl (k0_off3_eq _ 0) (wL_at m c t 0 0) ?_
  refine stepC m 0 1 rfl (k0_off1_eq _ 1) rfl ?_
  refine stepS m 0 1 rfl (k0_off2_eq _ 1) (wM_at m c t 0 1) ?_
  refine stepS m 8 1 rfl (k0_off3_eq _ 1) (wL_at m c t 0 1) ?_
  refine stepC m 0 2 rfl (k0_off1_eq _ 2) rfl ?_
  refine stepS m 0 2 rfl (k0_off2_eq _ 2) (wM_at m c t 0 2) ?_
  exact hk

/-- Head 0's last stores; head 1's scores. -/
theorem part8 (v v' : BitVec 32)
    {k : _ → Prog (TpuEff nD τ sig (Elt F) Λ₀ .tc) α}
    (hk : iprop(CP m c t a1 a2 a3 a4 f g 12 ∗ R) ⊢ WP c (k ⟨shapeCast S1024x128 (headB (vB m c t) 1) shapeCasts_S1x1024x1x128_S1024x128, sV m c t 1, rowMax (sV m c t 1)⟩) Q) :
    iprop(CP m c t a1 a2 a3 a4 f g 8 ∗ R) ⊢ WP c (Prog.bind (k0_part8 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (qV m c t) (maskV c t) (mV m c t 0) (lV m c t 0) (cV m c t 0) v') k) Q := by
  rw [k0_part8_eq_skeleton]; unfold k0_part8_skel
  simp only [Prog.lift, Prog.bind_op, Prog.bind_ret, Prog.pure_eq_ret]
  refine stepS m 8 2 rfl (k0_off3_eq _ 2) (wL_at m c t 0 2) ?_
  refine stepC m 0 3 rfl (k0_off1_eq _ 3) rfl ?_
  refine stepS m 0 3 rfl (k0_off2_eq _ 3) (wM_at m c t 0 3) ?_
  refine stepS m 8 3 rfl (k0_off3_eq _ 3) (wL_at m c t 0 3) ?_
  refine ldK m 1 _ _ rfl ?_
  refine ldV m 1 _ _ rfl ?_
  exact hk

/-- Head 1's values and first stores. -/
theorem part9 (v : BitVec 32)
    {k : _ → Prog (TpuEff nD τ sig (Elt F) Λ₀ .tc) α}
    (hk : iprop(CP m c t a1 a2 a3 a4 f g 17 ∗ R) ⊢ WP c (k ⟨mV m c t 1, lV m c t 1, cV m c t 1, Scalar.addi (Scalar.muli v 4#32) 1#32, (extractStridedSlice S64x1 ![64, 0] (lV m c t 1) (slices_st 1))⟩) Q) :
    iprop(CP m c t a1 a2 a3 a4 f g 12 ∗ R) ⊢ WP c (Prog.bind (k0_part9 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (shapeCast S1024x128 (headB (vB m c t) 1) shapeCasts_S1x1024x1x128_S1024x128) (sV m c t 1) (rowMax (sV m c t 1))) k) Q := by
  rw [k0_part9_eq_skeleton]; unfold k0_part9_skel
  simp only [Prog.lift, Prog.bind_op, Prog.bind_ret, Prog.pure_eq_ret]
  refine stepC m 1 0 rfl (k0_off4_eq _ 0) rfl ?_
  refine stepS m 1 0 rfl (k0_off5_eq _ 0) (wM_at m c t 1 0) ?_
  refine stepS m 9 0 rfl (k0_off6_eq _ 0) (wL_at m c t 1 0) ?_
  refine stepC m 1 1 rfl (k0_off4_eq _ 1) rfl ?_
  refine stepS m 1 1 rfl (k0_off5_eq _ 1) (wM_at m c t 1 1) ?_
  exact hk

/-- Head 1's stores. -/
theorem part10 (v v' : BitVec 32)
    {k : _ → Prog (TpuEff nD τ sig (Elt F) Λ₀ .tc) α}
    (hk : iprop(CP m c t a1 a2 a3 a4 f g 23 ∗ R) ⊢ WP c (k (extractStridedSlice S64x1 ![192, 0] (lV m c t 1) (slices_st 3))) Q) :
    iprop(CP m c t a1 a2 a3 a4 f g 17 ∗ R) ⊢ WP c (Prog.bind (k0_part10 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (mV m c t 1) (lV m c t 1) (cV m c t 1) v' (extractStridedSlice S64x1 ![64, 0] (lV m c t 1) (slices_st 1))) k) Q := by
  rw [k0_part10_eq_skeleton]; unfold k0_part10_skel
  simp only [Prog.lift, Prog.bind_op, Prog.bind_ret, Prog.pure_eq_ret]
  refine stepS m 9 1 rfl (k0_off6_eq _ 1) (wL_at m c t 1 1) ?_
  refine stepC m 1 2 rfl (k0_off4_eq _ 2) rfl ?_
  refine stepS m 1 2 rfl (k0_off5_eq _ 2) (wM_at m c t 1 2) ?_
  refine stepS m 9 2 rfl (k0_off6_eq _ 2) (wL_at m c t 1 2) ?_
  refine stepC m 1 3 rfl (k0_off4_eq _ 3) rfl ?_
  refine stepS m 1 3 rfl (k0_off5_eq _ 3) (wM_at m c t 1 3) ?_
  exact hk

/-- Head 1's last store; head 2's values. -/
theorem part11 (v : BitVec 32)
    {k : _ → Prog (TpuEff nD τ sig (Elt F) Λ₀ .tc) α}
    (hk : iprop(CP m c t a1 a2 a3 a4 f g 26 ∗ R) ⊢ WP c (k ⟨mV m c t 2, lV m c t 2, cV m c t 2, (extractStridedSlice S64x1 ![0, 0] (lV m c t 2) (slices_st 0))⟩) Q) :
    iprop(CP m c t a1 a2 a3 a4 f g 23 ∗ R) ⊢ WP c (Prog.bind (k0_part11 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (qV m c t) (maskV c t) (extractStridedSlice S64x1 ![192, 0] (lV m c t 1) (slices_st 3))) k) Q := by
  rw [k0_part11_eq_skeleton]; unfold k0_part11_skel
  simp only [Prog.lift, Prog.bind_op, Prog.bind_ret, Prog.pure_eq_ret]
  refine stepS m 9 3 rfl (k0_off6_eq _ 3) (wL_at m c t 1 3) ?_
  refine ldK m 2 _ _ rfl ?_
  refine ldV m 2 _ _ rfl ?_
  refine stepC m 2 0 rfl (k0_off7_eq _ 0) rfl ?_
  refine stepS m 2 0 rfl (k0_off8_eq _ 0) (wM_at m c t 2 0) ?_
  exact hk

/-- Head 2's stores. -/
theorem part12 (v : BitVec 32)
    {k : _ → Prog (TpuEff nD τ sig (Elt F) Λ₀ .tc) α}
    (hk : iprop(CP m c t a1 a2 a3 a4 f g 32 ∗ R) ⊢ WP c (k (extractStridedSlice S64x1 ![128, 0] (lV m c t 2) (slices_st 2))) Q) :
    iprop(CP m c t a1 a2 a3 a4 f g 26 ∗ R) ⊢ WP c (Prog.bind (k0_part12 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (mV m c t 2) (lV m c t 2) (cV m c t 2) (extractStridedSlice S64x1 ![0, 0] (lV m c t 2) (slices_st 0))) k) Q := by
  rw [k0_part12_eq_skeleton]; unfold k0_part12_skel
  simp only [Prog.lift, Prog.bind_op, Prog.bind_ret, Prog.pure_eq_ret]
  refine stepS m 10 0 rfl (k0_off9_eq _ 0) (wL_at m c t 2 0) ?_
  refine stepC m 2 1 rfl (k0_off7_eq _ 1) rfl ?_
  refine stepS m 2 1 rfl (k0_off8_eq _ 1) (wM_at m c t 2 1) ?_
  refine stepS m 10 1 rfl (k0_off9_eq _ 1) (wL_at m c t 2 1) ?_
  refine stepC m 2 2 rfl (k0_off7_eq _ 2) rfl ?_
  refine stepS m 2 2 rfl (k0_off8_eq _ 2) (wM_at m c t 2 2) ?_
  exact hk

/-- Head 2's last stores; head 3's weights. -/
theorem part13 (v : BitVec 32)
    {k : _ → Prog (TpuEff nD τ sig (Elt F) Λ₀ .tc) α}
    (hk : iprop(CP m c t a1 a2 a3 a4 f g 36 ∗ R) ⊢ WP c (k ⟨shapeCast S1024x128 (headB (vB m c t) 3) shapeCasts_S1x1024x1x128_S1024x128, mV m c t 3, wV m c t 3⟩) Q) :
    iprop(CP m c t a1 a2 a3 a4 f g 32 ∗ R) ⊢ WP c (Prog.bind (k0_part13 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (qV m c t) (maskV c t) (mV m c t 2) (lV m c t 2) (cV m c t 2) (extractStridedSlice S64x1 ![128, 0] (lV m c t 2) (slices_st 2))) k) Q := by
  rw [k0_part13_eq_skeleton]; unfold k0_part13_skel
  simp only [Prog.lift, Prog.bind_op, Prog.bind_ret, Prog.pure_eq_ret]
  refine stepS m 10 2 rfl (k0_off9_eq _ 2) (wL_at m c t 2 2) ?_
  refine stepC m 2 3 rfl (k0_off7_eq _ 3) rfl ?_
  refine stepS m 2 3 rfl (k0_off8_eq _ 3) (wM_at m c t 2 3) ?_
  refine stepS m 10 3 rfl (k0_off9_eq _ 3) (wL_at m c t 2 3) ?_
  refine ldK m 3 _ _ rfl ?_
  refine ldV m 3 _ _ rfl ?_
  exact hk

/-- Head 3's values and first stores; the last value handed on is not used. -/
theorem part14 (v : BitVec 32)
    {k : _ → Prog (TpuEff nD τ sig (Elt F) Λ₀ .tc) α}
    (hk : ∀ u, iprop(CP m c t a1 a2 a3 a4 f g 41 ∗ R) ⊢ WP c (k ⟨lV m c t 3, cV m c t 3, (extractStridedSlice S64x1 ![64, 0] (lV m c t 3) (slices_st 1)), u⟩) Q) :
    iprop(CP m c t a1 a2 a3 a4 f g 36 ∗ R) ⊢ WP c (Prog.bind (k0_part14 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (shapeCast S1024x128 (headB (vB m c t) 3) shapeCasts_S1x1024x1x128_S1024x128) (mV m c t 3) (wV m c t 3)) k) Q := by
  rw [k0_part14_eq_skeleton]; unfold k0_part14_skel
  simp only [Prog.lift, Prog.bind_op, Prog.bind_ret, Prog.pure_eq_ret]
  refine stepC m 3 0 rfl (k0_off10_eq _ 0) rfl ?_
  refine stepS m 3 0 rfl (k0_off11_eq _ 0) (wM_at m c t 3 0) ?_
  refine stepS m 11 0 rfl (k0_off12_eq _ 0) (wL_at m c t 3 0) ?_
  refine stepC m 3 1 rfl (k0_off10_eq _ 1) rfl ?_
  refine stepS m 3 1 rfl (k0_off11_eq _ 1) (wM_at m c t 3 1) ?_
  refine ldS m 11 1 _ _ (k0_off12_eq _ 1) fun _ => ?_
  exact hk _

/-- Head 3's stores. -/
theorem part15 (v : BitVec 32) (u : Vec F S1x64x1 .f32)
    {k : _ → Prog (TpuEff nD τ sig (Elt F) Λ₀ .tc) α}
    (hk : iprop(CP m c t a1 a2 a3 a4 f g 47 ∗ R) ⊢ WP c (k (wL m c t 3 3)) Q) :
    iprop(CP m c t a1 a2 a3 a4 f g 41 ∗ R) ⊢ WP c (Prog.bind (k0_part15 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (mV m c t 3) (lV m c t 3) (cV m c t 3) (extractStridedSlice S64x1 ![64, 0] (lV m c t 3) (slices_st 1)) u) k) Q := by
  rw [k0_part15_eq_skeleton]; unfold k0_part15_skel
  simp only [Prog.lift, Prog.bind_op, Prog.bind_ret, Prog.pure_eq_ret]
  refine stS m 11 1 rfl _ _ (k0_off12_eq _ 1) (wL_at m c t 3 1) ?_
  refine stepC m 3 2 rfl (k0_off10_eq _ 2) rfl ?_
  refine stepS m 3 2 rfl (k0_off11_eq _ 2) (wM_at m c t 3 2) ?_
  refine stepS m 11 2 rfl (k0_off12_eq _ 2) (wL_at m c t 3 2) ?_
  refine stepC m 3 3 rfl (k0_off10_eq _ 3) rfl ?_
  refine stepS m 3 3 rfl (k0_off11_eq _ 3) (wM_at m c t 3 3) ?_
  refine ldS m 11 3 _ _ (k0_off12_eq _ 3) fun _ => ?_
  exact hk

/-- Head 3's last store; head 4's values. -/
theorem part16 (v : BitVec 32)
    {k : _ → Prog (TpuEff nD τ sig (Elt F) Λ₀ .tc) α}
    (hk : iprop(CP m c t a1 a2 a3 a4 f g 50 ∗ R) ⊢ WP c (k ⟨mV m c t 4, lV m c t 4, cV m c t 4, (extractStridedSlice S64x1 ![0, 0] (lV m c t 4) (slices_st 0))⟩) Q) :
    iprop(CP m c t a1 a2 a3 a4 f g 47 ∗ R) ⊢ WP c (Prog.bind (k0_part16 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (qV m c t) (maskV c t) (wL m c t 3 3)) k) Q := by
  rw [k0_part16_eq_skeleton]; unfold k0_part16_skel
  simp only [Prog.lift, Prog.bind_op, Prog.bind_ret, Prog.pure_eq_ret]
  refine stS m 11 3 rfl _ _ (k0_off12_eq _ 3) (wL_at m c t 3 3) ?_
  refine ldK m 4 _ _ rfl ?_
  refine ldV m 4 _ _ rfl ?_
  refine stepC m 4 0 rfl (k0_off13_eq _ 0) rfl ?_
  refine stepS m 4 0 rfl (k0_off14_eq _ 0) (wM_at m c t 4 0) ?_
  refine ldS m 12 0 _ _ (k0_off15_eq _ 0) fun _ => ?_
  exact hk

/-- Head 4's stores. -/
theorem part17 (v : BitVec 32)
    {k : _ → Prog (TpuEff nD τ sig (Elt F) Λ₀ .tc) α}
    (hk : iprop(CP m c t a1 a2 a3 a4 f g 57 ∗ R) ⊢ WP c (k ⟨⟩) Q) :
    iprop(CP m c t a1 a2 a3 a4 f g 50 ∗ R) ⊢ WP c (Prog.bind (k0_part17 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (mV m c t 4) (lV m c t 4) (cV m c t 4) (extractStridedSlice S64x1 ![0, 0] (lV m c t 4) (slices_st 0))) k) Q := by
  rw [k0_part17_eq_skeleton]; unfold k0_part17_skel
  simp only [Prog.lift, Prog.bind_op, Prog.bind_ret, Prog.pure_eq_ret]
  refine stS m 12 0 rfl _ _ (k0_off15_eq _ 0) (wL_at m c t 4 0) ?_
  refine stepC m 4 1 rfl (k0_off13_eq _ 1) rfl ?_
  refine stepS m 4 1 rfl (k0_off14_eq _ 1) (wM_at m c t 4 1) ?_
  refine stepS m 12 1 rfl (k0_off15_eq _ 1) (wL_at m c t 4 1) ?_
  refine stepC m 4 2 rfl (k0_off13_eq _ 2) rfl ?_
  refine stepS m 4 2 rfl (k0_off14_eq _ 2) (wM_at m c t 4 2) ?_
  refine stepS m 12 2 rfl (k0_off15_eq _ 2) (wL_at m c t 4 2) ?_
  exact hk

/-- Head 4's last stores; head 5's weights. -/
theorem part18 (v : BitVec 32)
    {k : _ → Prog (TpuEff nD τ sig (Elt F) Λ₀ .tc) α}
    (hk : iprop(CP m c t a1 a2 a3 a4 f g 60 ∗ R) ⊢ WP c (k ⟨shapeCast S1024x128 (headB (vB m c t) 5) shapeCasts_S1x1024x1x128_S1024x128, mV m c t 5, wV m c t 5, lV m c t 5, constant S256x128 .f32 0x00000000#32⟩) Q) :
    iprop(CP m c t a1 a2 a3 a4 f g 57 ∗ R) ⊢ WP c (Prog.bind (k0_part18 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (qV m c t) (maskV c t) (mV m c t 4) (lV m c t 4) (cV m c t 4)) k) Q := by
  rw [k0_part18_eq_skeleton]; unfold k0_part18_skel
  simp only [Prog.lift, Prog.bind_op, Prog.bind_ret, Prog.pure_eq_ret]
  refine stepC m 4 3 rfl (k0_off13_eq _ 3) rfl ?_
  refine stepS m 4 3 rfl (k0_off14_eq _ 3) (wM_at m c t 4 3) ?_
  refine stepS m 12 3 rfl (k0_off15_eq _ 3) (wL_at m c t 4 3) ?_
  refine ldK m 5 _ _ rfl ?_
  refine ldV m 5 _ _ rfl ?_
  exact hk

/-- Head 5's first stores. -/
theorem part19 (v : BitVec 32)
    {k : _ → Prog (TpuEff nD τ sig (Elt F) Λ₀ .tc) α}
    (hk : iprop(CP m c t a1 a2 a3 a4 f g 66 ∗ R) ⊢ WP c (k ⟨cV m c t 5, 4#32⟩) Q) :
    iprop(CP m c t a1 a2 a3 a4 f g 60 ∗ R) ⊢ WP c (Prog.bind (k0_part19 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (shapeCast S1024x128 (headB (vB m c t) 5) shapeCasts_S1x1024x1x128_S1024x128) (mV m c t 5) (wV m c t 5) (lV m c t 5) (constant S256x128 .f32 0x00000000#32)) k) Q := by
  rw [k0_part19_eq_skeleton]; unfold k0_part19_skel
  simp only [Prog.lift, Prog.bind_op, Prog.bind_ret, Prog.pure_eq_ret]
  refine stepC m 5 0 rfl (k0_off16_eq _ 0) rfl ?_
  refine stepS m 5 0 rfl (k0_off17_eq _ 0) (wM_at m c t 5 0) ?_
  refine stepS m 13 0 rfl (k0_off18_eq _ 0) (wL_at m c t 5 0) ?_
  refine stepC m 5 1 rfl (k0_off16_eq _ 1) rfl ?_
  refine stepS m 5 1 rfl (k0_off17_eq _ 1) (wM_at m c t 5 1) ?_
  refine stepS m 13 1 rfl (k0_off18_eq _ 1) (wL_at m c t 5 1) ?_
  exact hk

/-- Head 5's last stores. -/
theorem part20 (v v' : BitVec 32)
    {k : _ → Prog (TpuEff nD τ sig (Elt F) Λ₀ .tc) α}
    (hk : iprop(CP m c t a1 a2 a3 a4 f g 72 ∗ R) ⊢ WP c (k (extractStridedSlice S256x128 ![0, 768] (qV m c t) (slices_head 6))) Q) :
    iprop(CP m c t a1 a2 a3 a4 f g 66 ∗ R) ⊢ WP c (Prog.bind (k0_part20 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (qV m c t) (mV m c t 5) (lV m c t 5) (cV m c t 5) v') k) Q := by
  rw [k0_part20_eq_skeleton]; unfold k0_part20_skel
  simp only [Prog.lift, Prog.bind_op, Prog.bind_ret, Prog.pure_eq_ret]
  refine stepC m 5 2 rfl (k0_off16_eq _ 2) rfl ?_
  refine stepS m 5 2 rfl (k0_off17_eq _ 2) (wM_at m c t 5 2) ?_
  refine stepS m 13 2 rfl (k0_off18_eq _ 2) (wL_at m c t 5 2) ?_
  refine stepC m 5 3 rfl (k0_off16_eq _ 3) rfl ?_
  refine stepS m 5 3 rfl (k0_off17_eq _ 3) (wM_at m c t 5 3) ?_
  refine stepS m 13 3 rfl (k0_off18_eq _ 3) (wL_at m c t 5 3) ?_
  exact hk

/-- Head 6's values and first stores. -/
theorem part21 (v : BitVec 32)
    {k : _ → Prog (TpuEff nD τ sig (Elt F) Λ₀ .tc) α}
    (hk : iprop(CP m c t a1 a2 a3 a4 f g 75 ∗ R) ⊢ WP c (k ⟨mV m c t 6, lV m c t 6, cV m c t 6, Scalar.muli v 4#32⟩) Q) :
    iprop(CP m c t a1 a2 a3 a4 f g 72 ∗ R) ⊢ WP c (Prog.bind (k0_part21 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (maskV c t) (extractStridedSlice S256x128 ![0, 768] (qV m c t) (slices_head 6))) k) Q := by
  rw [k0_part21_eq_skeleton]; unfold k0_part21_skel
  simp only [Prog.lift, Prog.bind_op, Prog.bind_ret, Prog.pure_eq_ret]
  refine ldK m 6 _ _ rfl ?_
  refine ldV m 6 _ _ rfl ?_
  refine stepC m 6 0 rfl (k0_off19_eq _ 0) rfl ?_
  refine stepS m 6 0 rfl (k0_off20_eq _ 0) (wM_at m c t 6 0) ?_
  refine stepS m 14 0 rfl (k0_off21_eq _ 0) (wL_at m c t 6 0) ?_
  exact hk

/-- Head 6's stores. -/
theorem part22 (v v' : BitVec 32)
    {k : _ → Prog (TpuEff nD τ sig (Elt F) Λ₀ .tc) α}
    (hk : iprop(CP m c t a1 a2 a3 a4 f g 81 ∗ R) ⊢ WP c (k (Scalar.addi (Scalar.muli v 4#32) 3#32)) Q) :
    iprop(CP m c t a1 a2 a3 a4 f g 75 ∗ R) ⊢ WP c (Prog.bind (k0_part22 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (mV m c t 6) (lV m c t 6) (cV m c t 6) v') k) Q := by
  rw [k0_part22_eq_skeleton]; unfold k0_part22_skel
  simp only [Prog.lift, Prog.bind_op, Prog.bind_ret, Prog.pure_eq_ret]
  refine stepC m 6 1 rfl (k0_off19_eq _ 1) rfl ?_
  refine stepS m 6 1 rfl (k0_off20_eq _ 1) (wM_at m c t 6 1) ?_
  refine stepS m 14 1 rfl (k0_off21_eq _ 1) (wL_at m c t 6 1) ?_
  refine stepC m 6 2 rfl (k0_off19_eq _ 2) rfl ?_
  refine stepS m 6 2 rfl (k0_off20_eq _ 2) (wM_at m c t 6 2) ?_
  refine stepS m 14 2 rfl (k0_off21_eq _ 2) (wL_at m c t 6 2) ?_
  exact hk

/-- Head 6's last stores; head 7's values. -/
theorem part23 (v v' : BitVec 32)
    {k : _ → Prog (TpuEff nD τ sig (Elt F) Λ₀ .tc) α}
    (hk : iprop(CP m c t a1 a2 a3 a4 f g 84 ∗ R) ⊢ WP c (k ⟨mV m c t 7, lV m c t 7, cV m c t 7, Scalar.muli v 4#32, 0#32⟩) Q) :
    iprop(CP m c t a1 a2 a3 a4 f g 81 ∗ R) ⊢ WP c (Prog.bind (k0_part23 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (qV m c t) (maskV c t) (mV m c t 6) (lV m c t 6) (cV m c t 6) v') k) Q := by
  rw [k0_part23_eq_skeleton]; unfold k0_part23_skel
  simp only [Prog.lift, Prog.bind_op, Prog.bind_ret, Prog.pure_eq_ret]
  refine stepC m 6 3 rfl (k0_off19_eq _ 3) rfl ?_
  refine stepS m 6 3 rfl (k0_off20_eq _ 3) (wM_at m c t 6 3) ?_
  refine stepS m 14 3 rfl (k0_off21_eq _ 3) (wL_at m c t 6 3) ?_
  refine ldK m 7 _ _ rfl ?_
  refine ldV m 7 _ _ rfl ?_
  exact hk

/-- Head 7's first stores. -/
theorem part24 (v v' v'' : BitVec 32)
    {k : _ → Prog (TpuEff nD τ sig (Elt F) Λ₀ .tc) α}
    (hk : iprop(CP m c t a1 a2 a3 a4 f g 90 ∗ R) ⊢ WP c (k ⟨Scalar.addi (Scalar.muli v 4#32) 2#32, (extractStridedSlice S64x128 ![128, 0] (cV m c t 7) (slices_ctx 2))⟩) Q) :
    iprop(CP m c t a1 a2 a3 a4 f g 84 ∗ R) ⊢ WP c (Prog.bind (k0_part24 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v (mV m c t 7) (lV m c t 7) (cV m c t 7) v' v'') k) Q := by
  rw [k0_part24_eq_skeleton]; unfold k0_part24_skel
  simp only [Prog.lift, Prog.bind_op, Prog.bind_ret, Prog.pure_eq_ret]
  refine stepC m 7 0 rfl (k0_off22_eq _ 0) rfl ?_
  refine stepS m 7 0 rfl (k0_off23_eq _ 0) (wM_at m c t 7 0) ?_
  refine stepS m 15 0 rfl (k0_off24_eq _ 0) (wL_at m c t 7 0) ?_
  refine stepC m 7 1 rfl (k0_off22_eq _ 1) rfl ?_
  refine stepS m 7 1 rfl (k0_off23_eq _ 1) (wM_at m c t 7 1) ?_
  refine stepS m 15 1 rfl (k0_off24_eq _ 1) (wL_at m c t 7 1) ?_
  exact hk

/-- Head 7's last stores. -/
theorem part25 (v v' v'' : BitVec 32)
    {k : _ → Prog (TpuEff nD τ sig (Elt F) Λ₀ .tc) α}
    (hk : iprop(CP m c t a1 a2 a3 a4 f g 96 ∗ R) ⊢ WP c (k ⟨Scalar.addi (Scalar.muli v 4#32) 0#32, Scalar.extui (Scalar.cmpi .ne (Scalar.addi (Scalar.muli v 4#32) 0#32) v'), 0#32⟩) Q) :
    iprop(CP m c t a1 a2 a3 a4 f g 90 ∗ R) ⊢ WP c (Prog.bind (k0_part25 (grid0.coords t) a1 h1 a2 h2 a3 h3 a4 h4 a5 h5 a6 h6 locC (Memref.isWhole_whole _) locS (Memref.isWhole_whole _) rcvC (Memref.isWhole_whole _)
      rcvS (Memref.isWhole_whole _) gatB (Memref.isWhole_whole _) cc0_scratch5 cc0_scratch6 cc0_scratch7 cc0_scratch8 cc0_scratch9 cc0_scratch10 v v' (mV m c t 7) (lV m c t 7) (cV m c t 7) v'' (extractStridedSlice S64x128 ![128, 0] (cV m c t 7) (slices_ctx 2))) k) Q := by
  rw [k0_part25_eq_skeleton]; unfold k0_part25_skel
  simp only [Prog.lift, Prog.bind_op, Prog.bind_ret, Prog.pure_eq_ret]
  refine stepC m 7 2 rfl (k0_off22_eq _ 2) rfl ?_
  refine stepS m 7 2 rfl (k0_off23_eq _ 2) (wM_at m c t 7 2) ?_
  refine stepS m 15 2 rfl (k0_off24_eq _ 2) (wL_at m c t 7 2) ?_
  refine stepC m 7 3 rfl (k0_off22_eq _ 3) rfl ?_
  refine stepS m 7 3 rfl (k0_off23_eq _ 3) (wM_at m c t 7 3) ?_
  refine stepS m 15 3 rfl (k0_off24_eq _ 3) (wL_at m c t 7 3) ?_
  exact hk

end Cert.KP
-- ==== Proof.Point.lean ====
/-
# The program of one grid point

The handshake at the first point, the eight heads, the copies out, the last point's combination and gathering.
-/
module

public import proofs.«01_k».proof.Proof.Tail
public import proofs.«01_k».proof.Proof.Heads

@[expose] public section

set_option maxRecDepth 16384

noncomputable section

namespace Cert.KP

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable {c : Dev nD} {t : Fin cfg0.N} {a1 : Memref sig .tc .vmem S1x256x1024 .f32} {a2 : Memref sig .tc .vmem S1024x1024 .f32}
  {a3 a4 : Memref sig .tc .vmem S1x1024x8x128 .f32} {a5 : Memref sig .tc .vmem S1024x1024 .f32} {a6 : Memref sig .tc .vmem S1x1024x1024 .f32}
  {h1 : a1.IsWhole} {h2 : a2.IsWhole} {h3 : a3.IsWhole} {h4 : a4.IsWhole} {h5 : a5.IsWhole} {h6 : a6.IsWhole}
  {R : sProp (MT nD τ sig Unit (Elt F) ℕ UU ℕ)} {α : Type} {Q : α → sProp (MT nD τ sig Unit (Elt F) ℕ UU ℕ)}
  {Q' : PUnit → sProp (MT nD τ sig Unit (Elt F) ℕ UU ℕ)}

/-! ## The first part -/

/-- Reading all of a window from its start reads the window. -/
theorem idx3 (X : Vec F S1x256x1024 .f32) : (fun j => X ((Rect.unit (s := S1x256x1024) ![0, 0, 0] S1x256x1024.size inb_S1x256x1024_S1x256x1024_0_0_0).toLoadRect.idx j)) = X := by
  funext j
  refine congrArg X (funext fun a => Fin.ext ?_)
  fin_cases a <;> simp [Rect.toLoadRect, LoadRect.idx, Rect.unit]
  exact (Nat.lt_one_iff.mp (j 0).isLt).symm
theorem idx2 (X : Vec F S1024x1024 .f32) : (fun j => X ((Rect.unit (s := S1024x1024) ![0, 0] S1024x1024.size inb_S1024x1024_S1024x1024_0_0).toLoadRect.idx j)) = X := by
  funext j
  refine congrArg X (funext fun a => Fin.ext ?_)
  fin_cases a <;> simp [Rect.toLoadRect, LoadRect.idx, Rect.unit]

/-- The state a grid point starts from. -/
def inS (K : Dev nD × Ck → ℕ) (c : Dev nD) (n : ℕ) : sProp 𝕄 :=
  if n = 0 then iprop(preS m K c ∗ ∃ W, owes (c : Thread nD τ) (O₀ c) W) else iprop(midS m K c (4 * n) ∗ ∃ W, owes (c : Thread nD τ) (Obc c 0 + Orec c (4 * n)) W)

theorem part4 (K : Dev nD × Ck → ℕ) {k : _ → Prog (TpuEff nD τ sig (Elt F) Λ₀ .tc) α}
    (hk : iprop((midS m K c (4 * t.val) ∗ ∃ W, owes (c : Thread nD τ) (Obc c 0 + Orec c (4 * t.val)) W)
        ∗ owns (c : Thread nD τ) a1 fullShare (xB m c t) ∗ owns (c : Thread nD τ) a2 fullShare (wqB m c t) ∗ R)
      ⊢ WP c (k ⟨BitVec.ofNat 32 (grid0.coords t 0).val, c, devW c, qV m c t, k0_pay25 (grid0.coords t), k0_pay26 (grid0.coords t), k0_pay27 (grid0.coords t)⟩) Q) :
    iprop(inS m K c t.val ∗ owns (c : Thread nD τ) a1 fullShare (xB m c t) ∗ owns (c : Thread nD τ) a2 fullShare (wqB m c t) ∗ R)
      ⊢ WP c (Prog.bind (k0_part4 (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10) k) Q := by
  have hload : iprop((midS m K c (4 * t.val) ∗ ∃ W, owes (c : Thread nD τ) (Obc c 0 + Orec c (4 * t.val)) W)
        ∗ owns (c : Thread nD τ) a1 fullShare (xB m c t) ∗ owns (c : Thread nD τ) a2 fullShare (wqB m c t) ∗ R)
      ⊢ WP c (.op (.load a1 (Rect.unit (s := S1x256x1024) ![0, 0, 0] S1x256x1024.size inb_S1x256x1024_S1x256x1024_0_0_0).toLoadRect (View.loadsAt_vmem h_S1x256x1024)) fun v8 =>
        .op (.load a2 (Rect.unit (s := S1024x1024) ![0, 0] S1024x1024.size inb_S1024x1024_S1024x1024_0_0).toLoadRect (View.loadsAt_vmem h_S1024x1024)) fun v10 =>
        k ⟨BitVec.ofNat 32 (grid0.coords t 0).val, c, devW c, k0_pay23 v8 v10, k0_pay25 (grid0.coords t), k0_pay26 (grid0.coords t), k0_pay27 (grid0.coords t)⟩) Q := by
    refine BIBase.Entails.trans ?_ (wp_load_owns (R := iprop((midS m K c (4 * t.val) ∗ ∃ W, owes (c : Thread nD τ) (Obc c 0 + Orec c (4 * t.val)) W)
        ∗ owns (c : Thread nD τ) a2 fullShare (wqB m c t) ∗ R)) a1 (xB m c t) _ (BIBase.Entails.trans ?_
        (wp_load_owns (R := iprop((midS m K c (4 * t.val) ∗ ∃ W, owes (c : Thread nD τ) (Obc c 0 + Orec c (4 * t.val)) W)
        ∗ owns (c : Thread nD τ) a1 fullShare (xB m c t) ∗ R)) a2 (wqB m c t) _ ?_)))
    · iintro ⟨HM, H1, H2, HR⟩
      isplitl [H1]; · iexact H1
      isplitl [HM]; · iexact HM
      isplitl [H2] <;> iassumption
    · iintro ⟨H1, HM, H2, HR⟩
      isplitl [H2]; · iexact H2
      isplitl [HM]; · iexact HM
      isplitl [H1] <;> iassumption
    · rw [idx3, idx2]
      refine BIBase.Entails.trans ?_ hk
      iintro ⟨H2, HM, H1, HR⟩
      isplitl [HM]; · iexact HM
      isplitl [H1]; · iexact H1
      isplitl [H2] <;> iassumption
  rw [k0_part4_eq_skeleton]
  change _ ⊢ WP c (k0_part4_skel (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 >>= k) Q
  unfold k0_part4_skel
  simp only [semWaitWord, Prog.lift, Prog.bind_op, Prog.bind_ret, Prog.pure_eq_ret, Prog.bind_assoc]
  unfold WP
  rw [wp_deviceId]
  by_cases h : k0_cond1 (grid0.coords t) = 1#1
  · rw [dif_pos h]
    simp only [Prog.bind_op, Prog.bind_ret, Prog.bind_assoc]
    rw [show (15#32 : BitVec 32).toInt = ((15#32 : BitVec 32).toNat : Int) from rfl]
    have ht : t.val = 0 := by rw [← co t]; exact (cond1_iff _).mp h
    refine BIBase.Entails.trans ?_ (handshake (R := iprop(owns (c : Thread nD τ) a1 fullShare (xB m c t) ∗ owns (c : Thread nD τ) a2 fullShare (wqB m c t) ∗ R)) m K h ?_)
    · unfold inS; rw [if_pos ht]
    · rw [ht] at hload
      exact hload
  · rw [dif_neg h]
    have ht : t.val ≠ 0 := by rw [← co t]; exact fun e => h ((cond1_iff _).mpr e)
    unfold inS
    rw [if_neg ht]
    exact hload

/-! ## The whole -/

/-- The windows a grid point reads. -/
def winsI (c : Dev nD) (t : Fin cfg0.N) (a1 : Memref sig .tc .vmem S1x256x1024 .f32) (a2 : Memref sig .tc .vmem S1024x1024 .f32)
    (a3 a4 : Memref sig .tc .vmem S1x1024x8x128 .f32) (a5 : Memref sig .tc .vmem S1024x1024 .f32) : sProp 𝕄 :=
  iprop(owns (c : Thread nD τ) a1 fullShare (xB m c t) ∗ owns (c : Thread nD τ) a2 fullShare (wqB m c t)
    ∗ owns (c : Thread nD τ) a3 fullShare (kB m c t) ∗ owns (c : Thread nD τ) a4 fullShare (vB m c t) ∗ owns (c : Thread nD τ) a5 fullShare (woB m c t))

theorem part5 (v2 : BitVec 32) (v17 : IVec S256x1024 32) (v36 : IVec S256x1024 1) (v38 : IVec S256x1024 32) {P : sProp 𝕄} {k : _ → Prog (TpuEff nD τ sig (Elt F) Λ₀ .tc) α}
    (hk : P ⊢ WP c (k ⟨k0_pay30 v2 v17 v36 v38, Scalar.select (Scalar.cmpi .eq 3#32 0#32) 1#32 3#32, k0_pay31 v2 v17 v36 v38, k0_pay32 v2 v17 v36 v38, k0_pay33 v2 v17 v36 v38, k0_pay34⟩) Q) :
    P ⊢ WP c (Prog.bind (k0_part5 (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 v2 v17 v36 v38) k) Q := by
  rw [k0_part5_eq_skeleton]; exact hk

/-- What the heads leave alone. -/
def besides (K : Dev nD × Ck → ℕ) (c : Dev nD) (t : Fin cfg0.N) (f : Vec F S16x64x8x128 .f32) (g : Vec F S16x64x16 .f32) : sProp 𝕄 :=
  iprop(ptLC c (segC (4 * t.val + 4) 16) fullShare f ∗ ptLS c (segS (4 * t.val + 4) 16) fullShare g ∗ midR m K c (4 * t.val)
    ∗ ∃ W, owes (c : Thread nD τ) (Obc c 0 + Orec c (4 * t.val)) W)

theorem segC_cut (t : Fin cfg0.N) : segC (4 * t.val) 16 = segC (4 * t.val) (4 * t.val + 4) ∪ segC (4 * t.val + 4) 16 := by
  have ht := t_lt t
  ext i; rw [Finset.mem_union, mem_segC, mem_segC, mem_segC]; omega
theorem segS_cut (t : Fin cfg0.N) : segS (4 * t.val) 16 = segS (4 * t.val) (4 * t.val + 4) ∪ segS (4 * t.val + 4) 16 := by
  have ht := t_lt t
  ext i; rw [Finset.mem_union, mem_segS, mem_segS, mem_segS]; omega
theorem segC_apart (t : Fin cfg0.N) : Disjoint (segC (4 * t.val) (4 * t.val + 4)) (segC (4 * t.val + 4) 16) :=
  Finset.disjoint_left.mpr fun i hi hi' => by rw [mem_segC] at hi hi'; omega
theorem segS_apart (t : Fin cfg0.N) : Disjoint (segS (4 * t.val) (4 * t.val + 4)) (segS (4 * t.val + 4) 16) :=
  Finset.disjoint_left.mpr fun i hi hi' => by rw [mem_segS] at hi hi'; omega

/-- Before the heads. -/
theorem open_mid (K : Dev nD × Ck → ℕ) :
    iprop((midS m K c (4 * t.val) ∗ ∃ W, owes (c : Thread nD τ) (Obc c 0 + Orec c (4 * t.val)) W)
        ∗ owns (c : Thread nD τ) a1 fullShare (xB m c t) ∗ owns (c : Thread nD τ) a2 fullShare (wqB m c t)
        ∗ owns (c : Thread nD τ) a3 fullShare (kB m c t) ∗ owns (c : Thread nD τ) a4 fullShare (vB m c t) ∗ R)
      ⊢ iprop(∃ f, ∃ g, CP m c t a1 a2 a3 a4 f g 0 ∗ besides m K c t f g ∗ R) := by
  unfold midS CP besides
  iintro ⟨⟨⟨⟨%f, HC⟩, ⟨%g, HS⟩, Hmid⟩, HO⟩, H1, H2, H3, H4, HR⟩
  iexists f; iexists g
  rw [mixC_zero, mixS_zero, segC_cut, segS_cut]
  ihave HC := (pointsTo_union (segC_apart t)).1 $$ HC
  ihave HS := (pointsTo_union (segS_apart t)).1 $$ HS
  icases HC with ⟨HC, HC'⟩
  icases HS with ⟨HS, HS'⟩
  isplitl [H1 H2 H3 H4 HC HS]
  · isplitl [H1]; · iexact H1
    isplitl [H2]; · iexact H2
    isplitl [H3]; · iexact H3
    isplitl [H4]; · iexact H4
    isplitl [HC] <;> iassumption
  isplitr [HR]
  · isplitl [HC']; · iexact HC'
    isplitl [HS']; · iexact HS'
    isplitl [Hmid] <;> iassumption
  · iexact HR

/-- What the sends leave alone. -/
def aside (c : Dev nD) (t : Fin cfg0.N) (a1 : Memref sig .tc .vmem S1x256x1024 .f32) (a2 : Memref sig .tc .vmem S1024x1024 .f32)
    (a3 a4 : Memref sig .tc .vmem S1x1024x8x128 .f32) : sProp 𝕄 :=
  iprop((∃ f, ptLC (F := F) c (segC (4 * t.val + 4) 16) fullShare f) ∗ (∃ f, ptLS (F := F) c (segS (4 * t.val + 4) 16) fullShare f)
    ∗ owns (c : Thread nD τ) a1 fullShare (xB m c t) ∗ owns (c : Thread nD τ) a2 fullShare (wqB m c t)
    ∗ owns (c : Thread nD τ) a3 fullShare (kB m c t) ∗ owns (c : Thread nD τ) a4 fullShare (vB m c t))

/-- After the heads. -/
theorem close_heads (K : Dev nD × Ck → ℕ) (f : Vec F S16x64x8x128 .f32) (g : Vec F S16x64x16 .f32) :
    iprop(CP m c t a1 a2 a3 a4 f g 96 ∗ besides m K c t f g ∗ R) ⊢ iprop(sndS m K c (4 * t.val + 4) (4 * t.val) ∗ aside m c t a1 a2 a3 a4 ∗ R) := by
  unfold CP besides sndS aside
  have hC : ptLC c (segC (4 * t.val) (4 * t.val + 4)) fullShare (mixC m c t 96 f) = ptLC c (segC (4 * t.val) (4 * t.val + 4)) fullShare (LC m c) :=
    pointsTo_congr fun i hi => mixC_end m c t f i hi
  have hS : ptLS c (segS (4 * t.val) (4 * t.val + 4)) fullShare (mixS m c t 96 g) = ptLS c (segS (4 * t.val) (4 * t.val + 4)) fullShare (LS m c) :=
    pointsTo_congr fun i hi => mixS_end m c t g i hi
  rw [hC, hS]
  iintro ⟨⟨H1, H2, H3, H4, HC, HS⟩, ⟨HC', HS', Hmid, HO⟩, HR⟩
  isplitl [HC HS Hmid HO]
  · isplitl [HC]; · iexact HC
    isplitl [HS]; · iexact HS
    isplitl [Hmid] <;> iassumption
  isplitr [HR]
  · isplitl [HC']; · iexists f; iexact HC'
    isplitl [HS']; · iexists g; iexact HS'
    isplitl [H1]; · iexact H1
    isplitl [H2]; · iexact H2
    isplitl [H3] <;> iassumption
  · iexact HR

/-- After the sends: the last point goes on to the end, the others stop. -/
theorem last (K : Dev nD × Ck → ℕ) (X : Vec F S1x1024x1024 .f32) (v2 : BitVec 32)
    (hmid : t.val ≠ 3 → (iprop(((midS m K c (4 * t.val + 4) ∗ ∃ W, owes (c : Thread nD τ) (Obc c 0 + Orec c (4 * t.val + 4)) W)
      ∗ winsI m c t a1 a2 a3 a4 a5 ∗ owns (c : Thread nD τ) a6 fullShare X) ∗ R) ⊢ Q' ⟨⟩))
    (hend : t.val = 3 → (iprop(((endS (F := F) c ∗ ∃ W, owes (c : Thread nD τ) 0 W)
      ∗ winsI m c t a1 a2 a3 a4 a5 ∗ outI m c a6 (fun _ => True)) ∗ R) ⊢ Q' ⟨⟩)) :
    iprop(sndS m K c (4 * t.val + 4) (4 * t.val + 4) ∗ aside m c t a1 a2 a3 a4
        ∗ owns (c : Thread nD τ) a5 fullShare (woB m c t) ∗ owns (c : Thread nD τ) a6 fullShare X ∗ R)
      ⊢ WP c (dite (k0_cond6 (grid0.coords t) = 1#1) (fun hc => Prog.bind (k0_part2 (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c v2 hc) fun x => Prog.bind (k0_part3 (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c v2 hc
        x.1 x.2.1 x.2.2.1 x.2.2.2.1 x.2.2.2.2) fun _ =>
        Prog.bind (Scf.Loop.for k0_t4_loop (k0_t4_ok (grid0.coords t) hc) ⟨⟩ (k0_t4_body (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c hc)) fun _ =>
        Prog.bind (Scf.Loop.for k0_t5_loop (k0_t5_ok (grid0.coords t) hc) ⟨⟩ (k0_t5_body (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10 c hc)) fun _ => .ret ⟨⟩) (fun _ => .ret ⟨⟩)) Q' := by
  by_cases h : k0_cond6 (grid0.coords t) = 1#1
  · rw [dif_pos h]
    have ht : t.val = 3 := by rw [← co t]; exact (cond6_iff _).mp h
    have hw : woB m c t = woB m c (pt 3) := by rw [← ht, pt_val]
    refine BIBase.Entails.trans ?_ (tail (R := iprop((owns (c : Thread nD τ) a1 fullShare (xB m c t) ∗ owns (c : Thread nD τ) a2 fullShare (wqB m c t)
      ∗ owns (c : Thread nD τ) a3 fullShare (kB m c t) ∗ owns (c : Thread nD τ) a4 fullShare (vB m c t)) ∗ R)) m K v2 h (BIBase.Entails.trans ?_ (hend ht)))
    · rw [hw, ht]
      unfold aside outI
      iintro ⟨Hs, ⟨-, -, Hw⟩, H5, H6, HR⟩
      isplitl [Hs H5 H6]
      · isplitl [Hs]; · iexact Hs
        isplitl [H6]
        · iexists X
          isplitr; · ipureintro; exact fun _ h => h.elim
          iexact H6
        · iexact H5
      isplitl [Hw] <;> iassumption
    · unfold winsI
      rw [hw]
      iintro ⟨⟨He, HO, Hout, H5⟩, ⟨H1, H2, H3, H4⟩, HR⟩
      isplitr [HR]
      · isplitl [He HO]; · isplitl [He] <;> iassumption
        isplitr [Hout]
        · isplitl [H1]; · iexact H1
          isplitl [H2]; · iexact H2
          isplitl [H3]; · iexact H3
          isplitl [H4] <;> iassumption
        · iexact Hout
      · iexact HR
  · rw [dif_neg h]
    have ht : t.val ≠ 3 := by rw [← co t]; exact fun e => h ((cond6_iff _).mpr e)
    refine wp_done (BIBase.Entails.trans ?_ (hmid ht))
    unfold sndS aside midS winsI
    iintro ⟨⟨-, -, Hmid, HO⟩, ⟨HC, HS, H1, H2, H3, H4⟩, H5, H6, HR⟩
    isplitr [HR]
    · isplitl [HC HS Hmid HO]
      · isplitr [HO]
        · isplitl [HC]; · iexact HC
          isplitl [HS] <;> iassumption
        · iexact HO
      isplitr [H6]
      · isplitl [H1]; · iexact H1
        isplitl [H2]; · iexact H2
        isplitl [H3]; · iexact H3
        isplitl [H4] <;> iassumption
      · iexact H6
    · iexact HR

set_option maxHeartbeats 2000000 in
theorem point (K : Dev nD × Ck → ℕ) (X : Vec F S1x1024x1024 .f32)
    (hmid : t.val ≠ 3 → (iprop(((midS m K c (4 * t.val + 4) ∗ ∃ W, owes (c : Thread nD τ) (Obc c 0 + Orec c (4 * t.val + 4)) W)
      ∗ winsI m c t a1 a2 a3 a4 a5 ∗ owns (c : Thread nD τ) a6 fullShare X) ∗ R) ⊢ Q' ⟨⟩))
    (hend : t.val = 3 → (iprop(((endS (F := F) c ∗ ∃ W, owes (c : Thread nD τ) 0 W)
      ∗ winsI m c t a1 a2 a3 a4 a5 ∗ outI m c a6 (fun _ => True)) ∗ R) ⊢ Q' ⟨⟩)) :
    iprop((inS m K c t.val ∗ winsI m c t a1 a2 a3 a4 a5 ∗ owns (c : Thread nD τ) a6 fullShare X) ∗ R)
      ⊢ WP c (cc0__body (grid0.coords t) a1 h1 a2 h2 a3 h3 a4 h4 a5 h5 a6 h6 locC (Memref.isWhole_whole _) locS (Memref.isWhole_whole _) rcvC (Memref.isWhole_whole _)
        rcvS (Memref.isWhole_whole _) gatB (Memref.isWhole_whole _) cc0_scratch5 cc0_scratch6 cc0_scratch7 cc0_scratch8 cc0_scratch9 cc0_scratch10) Q' := by
  rw [cc0__body_eq_skeleton]; unfold cc0__body_skel
  simp only [Prog.lift, Prog.bind_op, Prog.bind_ret, Prog.pure_eq_ret, Prog.bind_assoc]
  refine BIBase.Entails.trans ?_ (part4 (R := iprop(owns (c : Thread nD τ) a3 fullShare (kB m c t) ∗ owns (c : Thread nD τ) a4 fullShare (vB m c t)
    ∗ owns (c : Thread nD τ) a5 fullShare (woB m c t) ∗ owns (c : Thread nD τ) a6 fullShare X ∗ R)) m K (BIBase.Entails.trans (open_mid m K) ?_))
  · unfold winsI
    iintro ⟨⟨HI, ⟨H1, H2, H3, H4, H5⟩, H6⟩, HR⟩
    isplitl [HI]; · iexact HI
    isplitl [H1]; · iexact H1
    isplitl [H2]; · iexact H2
    isplitl [H3]; · iexact H3
    isplitl [H4]; · iexact H4
    isplitl [H5]; · iexact H5
    isplitl [H6] <;> iassumption
  · refine exists_elim fun f => exists_elim fun g => ?_
    refine part5 _ _ _ _ ?_
    try dsimp only
    refine part6 m _ ?_
    try dsimp only
    refine part7 m _ _ ?_
    try dsimp only
    refine part8 m _ _ ?_
    try dsimp only
    refine part9 m _ ?_
    try dsimp only
    refine part10 m _ _ ?_
    try dsimp only
    refine part11 m _ ?_
    try dsimp only
    refine part12 m _ ?_
    try dsimp only
    refine part13 m _ ?_
    try dsimp only
    refine part14 m _ (fun _ => ?_)
    try dsimp only
    refine part15 m _ _ ?_
    try dsimp only
    refine part16 m _ ?_
    try dsimp only
    refine part17 m _ ?_
    try dsimp only
    refine part18 m _ ?_
    try dsimp only
    refine part19 m _ ?_
    try dsimp only
    refine part20 m _ _ ?_
    try dsimp only
    refine part21 m _ ?_
    try dsimp only
    refine part22 m _ _ ?_
    try dsimp only
    refine part23 m _ _ ?_
    try dsimp only
    refine part24 m _ _ _ ?_
    try dsimp only
    refine part25 m _ _ _ ?_
    try dsimp only
    refine BIBase.Entails.trans (close_heads m K f g) ?_
    have hT := last (h1 := h1) (h2 := h2) (h3 := h3) (h4 := h4) (h5 := h5) (h6 := h6) m K X (devW c) hmid hend
    have e0 : ∀ r : Fin 4, 4 * (grid0.coords t 0).val + r.val = (rowOf t r).val := fun r => by rw [co t]; rfl
    have e1 : ∀ r : Fin 4, ![4 * (grid0.coords t 0).val + r.val] = ![(rowOf t r).val] := fun r => by rw [e0]
    have e3 : ∀ r : Fin 4, ![4 * (grid0.coords t 0).val + r.val, 0, 0] = ![(rowOf t r).val, 0, 0] := fun r => by rw [e0]
    have e4 : ∀ r : Fin 4, ![4 * (grid0.coords t 0).val + r.val, 0, 0, 0] = ![(rowOf t r).val, 0, 0, 0] := fun r => by rw [e0]
    have hb : ∀ r : Fin 4, (rowOf t r).val < 4 * t.val + 4 := fun r => by show 4 * t.val + r.val < _; omega
    refine cond_step m K c (rowOf t 0) (4 * t.val + 4) (hb 0) _ ((cond2_iff _ _).trans (by rw [← e0 0]; exact Iff.rfl)) (fun h hne =>
        pair_step m K c (rowOf t 0) _ _ _ _ rfl (hb 0) hne (Fin.ext ((k0_dev2_eq _).trans (e0 0))) (Fin.ext ((k0_dev3_eq _).trans (e0 0)))
          (slotC_mk locC _ _ _ ((k0_off28_eq _).trans (e4 0))) (slotC_mk rcvC c _ _ (k0_off27_eq c)) (slotS_mk locS _ _ _ ((k0_off30_eq _).trans (e3 0))) (slotS_mk rcvS c _ _ (k0_off29_eq c))
          ((congrArg SemArray.sem (cellS_mk cc0_scratch5 _ _ _ ((k0_off25_eq _).trans (e1 0)))).trans (sem_5 _)) ((congrArg SemArray.sem (cellS_mk cc0_scratch6 c _ _ (k0_off26_eq c))).trans (sem_6 _))
          ((congrArg SemArray.sem (cellS_mk cc0_scratch7 _ _ _ ((k0_off25_eq _).trans (e1 0)))).trans (sem_7 _)) ((congrArg SemArray.sem (cellS_mk cc0_scratch8 c _ _ (k0_off26_eq c))).trans (sem_8 _)) ?_) (fun h => ?_)
    all_goals
      refine cond_step m K c (rowOf t 1) (4 * t.val + 4) (hb 1) _ ((cond3_iff _ _).trans (by rw [← e0 1]; exact Iff.rfl)) (fun h hne =>
        pair_step m K c (rowOf t 1) _ _ _ _ rfl (hb 1) hne (Fin.ext ((k0_dev4_eq _).trans (e0 1))) (Fin.ext ((k0_dev5_eq _).trans (e0 1)))
          (slotC_mk locC _ _ _ ((k0_off34_eq _).trans (e4 1))) (slotC_mk rcvC c _ _ (k0_off33_eq c)) (slotS_mk locS _ _ _ ((k0_off36_eq _).trans (e3 1))) (slotS_mk rcvS c _ _ (k0_off35_eq c))
          ((congrArg SemArray.sem (cellS_mk cc0_scratch5 _ _ _ ((k0_off31_eq _).trans (e1 1)))).trans (sem_5 _)) ((congrArg SemArray.sem (cellS_mk cc0_scratch6 c _ _ (k0_off32_eq c))).trans (sem_6 _))
          ((congrArg SemArray.sem (cellS_mk cc0_scratch7 _ _ _ ((k0_off31_eq _).trans (e1 1)))).trans (sem_7 _)) ((congrArg SemArray.sem (cellS_mk cc0_scratch8 c _ _ (k0_off32_eq c))).trans (sem_8 _)) ?_) (fun h => ?_)
    all_goals
      refine cond_step m K c (rowOf t 2) (4 * t.val + 4) (hb 2) _ ((cond4_iff _ _).trans (by rw [← e0 2]; exact Iff.rfl)) (fun h hne =>
        pair_step m K c (rowOf t 2) _ _ _ _ rfl (hb 2) hne (Fin.ext ((k0_dev6_eq _).trans (e0 2))) (Fin.ext ((k0_dev7_eq _).trans (e0 2)))
          (slotC_mk locC _ _ _ ((k0_off40_eq _).trans (e4 2))) (slotC_mk rcvC c _ _ (k0_off39_eq c)) (slotS_mk locS _ _ _ ((k0_off42_eq _).trans (e3 2))) (slotS_mk rcvS c _ _ (k0_off41_eq c))
          ((congrArg SemArray.sem (cellS_mk cc0_scratch5 _ _ _ ((k0_off37_eq _).trans (e1 2)))).trans (sem_5 _)) ((congrArg SemArray.sem (cellS_mk cc0_scratch6 c _ _ (k0_off38_eq c))).trans (sem_6 _))
          ((congrArg SemArray.sem (cellS_mk cc0_scratch7 _ _ _ ((k0_off37_eq _).trans (e1 2)))).trans (sem_7 _)) ((congrArg SemArray.sem (cellS_mk cc0_scratch8 c _ _ (k0_off38_eq c))).trans (sem_8 _)) ?_) (fun h => ?_)
    all_goals
      refine cond_step m K c (rowOf t 3) (4 * t.val + 4) (hb 3) _ ((cond5_iff _ _).trans (by rw [← e0 3]; exact Iff.rfl)) (fun h hne =>
        pair_step m K c (rowOf t 3) _ _ _ _ rfl (hb 3) hne (Fin.ext ((k0_dev8_eq _).trans (e0 3))) (Fin.ext ((k0_dev9_eq _).trans (e0 3)))
          (slotC_mk locC _ _ _ ((k0_off46_eq _).trans (e4 3))) (slotC_mk rcvC c _ _ (k0_off45_eq c)) (slotS_mk locS _ _ _ ((k0_off48_eq _).trans (e3 3))) (slotS_mk rcvS c _ _ (k0_off47_eq c))
          ((congrArg SemArray.sem (cellS_mk cc0_scratch5 _ _ _ ((k0_off43_eq _).trans (e1 3)))).trans (sem_5 _)) ((congrArg SemArray.sem (cellS_mk cc0_scratch6 c _ _ (k0_off44_eq c))).trans (sem_6 _))
          ((congrArg SemArray.sem (cellS_mk cc0_scratch7 _ _ _ ((k0_off43_eq _).trans (e1 3)))).trans (sem_7 _)) ((congrArg SemArray.sem (cellS_mk cc0_scratch8 c _ _ (k0_off44_eq c))).trans (sem_8 _)) ?_) (fun h => ?_)
    all_goals exact hT

end Cert.KP
-- ==== Proof.Body.lean ====
/-
# The proof data of the pipeline and its body's obligation
-/
module

public import proofs.«01_k».proof.Proof.Point

@[expose] public section

set_option maxRecDepth 16384

noncomputable section

namespace Cert.KP

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What device `c` holds before point `n` (and, at 4, after the last). -/
def stAt (c : Dev nD) (n : ℕ) : sProp 𝕄 :=
  if n = 0 then iprop(∃ K, preS m K c) else if n = 4 then endS (F := F) c else iprop(∃ K, midS m K c (4 * n))
/-- What it then owes. -/
def owAt (c : Dev nD) (n : ℕ) : CellTallies nD τ sig Unit :=
  if n = 0 then O₀ c else if n = 4 then 0 else Obc c 0 + Orec c (4 * n)

/-- The proof data: every input's block stays; the output's block is the result. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OUT m
  Φ t := stAt m c t.val
  q _ := fullShare
  owed t := owAt c t.val

section Before
variable {c : Dev nD} (dat : Dat τ (Elt F) Unit ℕ UU ℕ cfg0 c)

theorem before_0 (hA : dat.A 0 = V m c (Pipeline.arrRef spec0 0)) (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 (hA : dat.A 1 = V m c (Pipeline.arrRef spec0 1)) (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 (hA : dat.A 2 = V m c (Pipeline.arrRef spec0 2)) (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 (hA : dat.A 3 = V m c (Pipeline.arrRef spec0 3)) (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 (hA : dat.A 4 = V m c (Pipeline.arrRef spec0 4)) (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Before

/-- The output window's buffer, before and after a point that is not the last: as it was found. -/
theorem leaves_mid (c : Dev nD) (t : Fin cfg0.N) (h : t.val ≠ 3) : (dats m 0 c).leavesExact 5 t
    = iprop(∃ d, owns (c : Thread nD τ) ((cfg0.win 5).stage (cfg0.slots t 5)) fullShare ((dats m 0 c).before 5 t d)) := by
  refine Dat.leavesExact_idle _ _ _ ?_ ?_
  · show (!(k0_cond6 (grid0.coords t) == 1#1)) = true
    rw [Bool.not_eq_true', beq_eq_false_iff_ne]
    exact fun hh => h (by rw [← co t]; exact (cond6_iff _).mp hh)
  · rw [Bool.eq_false_iff]
    intro hh
    have := (flush0_5 (t := t)).mp hh
    have := t_lt t
    omega

/-- At the last point it holds the result. -/
theorem leaves_last (c : Dev nD) (t : Fin cfg0.N) (h : t.val = 3) : (dats m 0 c).leavesExact 5 t
    = owns (c : Thread nD τ) ((cfg0.win 5).stage (cfg0.slots t 5)) fullShare (OUT m) := by
  have hi : cfg0.idle 5 (cfg0.grid.coords t) = false := by
    show (!(k0_cond6 (grid0.coords t) == 1#1)) = false
    rw [Bool.not_eq_false', beq_iff_eq]
    exact (cond6_iff _).mpr (by rw [co t]; exact h)
  unfold Dat.leavesExact
  rw [hi]
  rfl

/-- What the body of point `t` starts from, and what it ends at. -/
def bodyPre (c : Dev nD) (t : Fin cfg0.N) : sProp 𝕄 :=
  iprop(stAt m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop(stAt m c (t.val + 1) ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (dats m 0 c).leavesExact 5 t)

theorem open_state (c : Dev nD) (t : Fin cfg0.N) :
    iprop(stAt m c t.val ∗ (dats m 0 c).owesAt () t.castSucc) ⊢ iprop(∃ K, inS m K c t.val) := by
  have h4 := t_lt t
  unfold Dat.owesAt Pipeline.owesWithin
  rw [show (dats m 0 c).owed t.castSucc = owAt c t.val from rfl]
  unfold stAt owAt inS
  by_cases h : t.val = 0
  · simp only [if_pos h]
    iintro ⟨⟨%K, H⟩, ⟨%W, %hW, HO⟩⟩
    iexists K
    isplitl [H]; · iexact H
    iexists W; iexact HO
  · simp only [if_neg h, if_neg (show t.val ≠ 4 by omega)]
    iintro ⟨⟨%K, H⟩, ⟨%W, %hW, HO⟩⟩
    iexists K
    isplitl [H]; · iexact H
    iexists W; iexact HO

theorem close_owes (c : Dev nD) (t : Fin cfg0.N) :
    iprop(∃ W, owes (c : Thread nD τ) (owAt c (t.val + 1)) W) ⊢ ((dats m 0 c).owesAt () t.succ : sProp 𝕄) := by
  unfold Dat.owesAt Pipeline.owesWithin
  rw [show (dats m 0 c).owed t.succ = owAt c (t.val + 1) from rfl]
  iintro ⟨%W, HO⟩
  iexists W
  isplitr
  · ipureintro; exact fun _ _ => Or.inl trivial
  iexact HO

/-- The body of point `t`. -/
theorem body_point (c : Dev nD) (t : Fin cfg0.N) : bodyPre m c t ⊢ WP c (bodyAt0 t) fun _ => bodyPost m c t := by
  unfold bodyPre
  simp only [before_0 m (dats m 0 c) rfl (fun _ => rfl), before_1 m (dats m 0 c) rfl (fun _ => rfl), before_2 m (dats m 0 c) rfl (fun _ => rfl),
    before_3 m (dats m 0 c) rfl (fun _ => rfl), before_4 m (dats m 0 c) rfl (fun _ => rfl)]
  iintro ⟨Hs, Ho, ⟨%_, H0⟩, ⟨%_, H1⟩, ⟨%_, H2⟩, ⟨%_, H3⟩, ⟨%_, H4⟩, ⟨%d, H5⟩⟩
  ihave HS := (open_state m c t) $$ [Hs Ho]
  · isplitl [Hs] <;> iassumption
  icases HS with ⟨%K, HS⟩
  have key := point m (c := c) (t := t) (a1 := st0_0 t) (a2 := st0_1 t) (a3 := st0_2 t) (a4 := st0_3 t) (a5 := st0_4 t) (a6 := st0_5 t)
    (h1 := hstage0_0 ((cfg0.slots t 0).cast nbuf0_0)) (h2 := hstage0_1 ((cfg0.slots t 1).cast nbuf0_1)) (h3 := hstage0_2 ((cfg0.slots t 2).cast nbuf0_2))
    (h4 := hstage0_3 ((cfg0.slots t 3).cast nbuf0_3)) (h5 := hstage0_4 ((cfg0.slots t 4).cast nbuf0_4)) (h6 := hstage0_5 ((cfg0.slots t 5).cast nbuf0_5))
    (R := iprop(emp)) (Q' := fun _ => bodyPost m c t) K ((dats m 0 c).before 5 t d)
    (by
      intro hm
      have h4 := t_lt t
      unfold bodyPost winsI
      rw [leaves_mid m c t hm]
      iintro ⟨⟨⟨Hs, Ho⟩, ⟨H0, H1, H2, H3, H4⟩, H5⟩, -⟩
      isplitl [Hs]
      · unfold stAt
        rw [if_neg (Nat.succ_ne_zero _), if_neg (show t.val + 1 ≠ 4 by omega)]
        iexists K; iexact Hs
      isplitl [Ho]
      · iapply (close_owes m c t)
        unfold owAt
        rw [if_neg (Nat.succ_ne_zero _), if_neg (show t.val + 1 ≠ 4 by omega)]
        iexact Ho
      isplitl [H0]; · iexact H0
      isplitl [H1]; · iexact H1
      isplitl [H2]; · iexact H2
      isplitl [H3]; · iexact H3
      isplitl [H4]; · iexact H4
      iexists d; iexact H5)
    (by
      intro hm
      unfold bodyPost winsI outI
      rw [leaves_last m c t hm]
      iintro ⟨⟨⟨Hs, Ho⟩, ⟨H0, H1, H2, H3, H4⟩, ⟨%X, %hX, H5⟩⟩, -⟩
      obtain rfl : X = OUT m := funext fun i => hX i trivial
      isplitl [Hs]
      · unfold stAt
        rw [if_neg (Nat.succ_ne_zero _), if_pos (show t.val + 1 = 4 by omega)]
        iexact Hs
      isplitl [Ho]
      · iapply (close_owes m c t)
        unfold owAt
        rw [if_neg (Nat.succ_ne_zero _), if_pos (show t.val + 1 = 4 by omega)]
        iexact Ho
      isplitl [H0]; · iexact H0
      isplitl [H1]; · iexact H1
      isplitl [H2]; · iexact H2
      isplitl [H3]; · iexact H3
      isplitl [H4]; · iexact H4
      iexact H5)
  iapply key
  isplitl
  · isplitl [HS]; · iexact HS
    isplitl [H0 H1 H2 H3 H4]
    · unfold winsI
      isplitl [H0]; · iexact H0
      isplitl [H1]; · iexact H1
      isplitl [H2]; · iexact H2
      isplitl [H3]; · iexact H3
      iexact H4
    iexact H5
  iempintro

/-- The pipeline's obligation for the body. -/
theorem body_obligation (c : Dev nD) : BodyObligation (dats (F := F) m 0 c) (defs₀ (F := F)) 𝒱₀ () Set.univ := fun t => by
  rw [bigSep_W0, bigSep_W0]
  exact body_point m c t

end Cert.KP
-- ==== Proof.Launch.lean ====
/-
# The launch: the cells' rounds, the tokens dealt, the credits, and the run
-/
module

public import proofs.«01_k».proof.Proof.Body

@[expose] public section

set_option maxRecDepth 16384

noncomputable section

namespace Cert.KP

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over a device's cells -/

/-- A family over the cells of a device: the barrier's, those of the six arrays the device never uses, and by array those it
    shares with its peers. -/
theorem bigSep_cells (c : Dev nD) (Φ : Ck → sProp 𝕄) : bigSep Finset.univ Φ
    = iprop(Φ none ∗ (bigSep Finset.univ fun f : Fin 6 => Φ (some (f, c)))
      ∗ (bigSep Finset.univ fun n : Fin 15 => Φ (some (0, peer c n))) ∗ (bigSep Finset.univ fun n : Fin 15 => Φ (some (1, peer c n)))
      ∗ (bigSep Finset.univ fun n : Fin 15 => Φ (some (2, peer c n))) ∗ (bigSep Finset.univ fun n : Fin 15 => Φ (some (3, peer c n)))
      ∗ (bigSep Finset.univ fun n : Fin 15 => Φ (some (4, peer c n))) ∗ (bigSep Finset.univ fun n : Fin 15 => Φ (some (5, peer c n)))) := by
  have h0 : bigSep Finset.univ Φ = iprop(Φ none ∗ bigSep Finset.univ fun x : Fin 6 × Dev nD => Φ (some x)) := by
    rw [show (Finset.univ : Finset Ck) = insert none (Finset.univ.map Function.Embedding.some) by ext x; cases x <;> simp,
      bigSep_insert (by simp), bigSep_map]; rfl
  have h1 (f : Fin 6) : (bigSep Finset.univ fun k : Dev nD => Φ (some (f, k))) = iprop(Φ (some (f, c)) ∗ bigSep Finset.univ fun n : Fin 15 => Φ (some (f, peer c n))) :=
    bigSep_peers (fun k => Φ (some (f, k))) c
  rw [h0, bigSep_univ_prod, bigSep_congr fun f _ => h1 f, bigSep_sep',
    bigSep_univ_eq_bigSepL [0, 1, 2, 3, 4, 5] (by decide) (by decide) (fun f : Fin 6 => bigSep Finset.univ fun n : Fin 15 => Φ (some (f, peer c n)))]
  rfl

/-! ## The kernel's own semaphores -/

def osem (x : Fin 6 × Dev nD) : SemLoc sig := .dma (dS x.1 x.2)

theorem win_sem_lt (w : Fin cfg0.W) (s : Fin (cfg0.win w).nbuf) : ((cfg0.win w).sem s).val < 7 := by revert w; decide +kernel

theorem ownSemFacts : Pipeline.OwnSemFacts cfg0.spec osem := by
  refine ⟨by decide +kernel, ?_, ?_⟩
  · rintro ⟨f, k⟩ ⟨f', k'⟩ h
    obtain ⟨h1, h2⟩ := dS_inj (SemLoc.dma.inj h)
    exact Prod.ext h1 h2
  · intro x w s h
    have h1 := win_sem_lt w s
    have h2 := dS_ge x.1 x.2
    have h3 : dS x.1 x.2 = (cfg0.win w).sem s := SemLoc.dma.inj h
    rw [h3] at h2
    omega

theorem share_eq (c : Dev nD) (w : Fin cfg0.W) : (dats m 0 c).share w = fullShare := by unfold Dat.share; split <;> rfl

theorem csem_inj : Function.Injective (csem : Ck → SemLoc sig) := by
  rintro (_ | ⟨f, k⟩) (_ | ⟨f', k'⟩) h
  · rfl
  · cases h
  · cases h
  · obtain ⟨h1, h2⟩ := dS_inj (SemLoc.dma.inj h)
    rw [h1, h2]
theorem kcell_inj : Function.Injective (kcell : Dev nD × Ck → GSem nD τ sig) := by
  rintro ⟨c, x⟩ ⟨c', x'⟩ h
  have h1 : c = c' := Fin.ext (congrArg (fun g : GSem nD τ sig => g.1.1.val) h)
  have h2 : x = x' := csem_inj (congrArg Prod.snd h)
  rw [h1, h2]
def kCells : Finset (GSem nD τ sig) := Finset.univ.map ⟨kcell, kcell_inj⟩

/-- The tokens minted: for every barrier cell one per device, for every other cell one. -/
def tokOf (x : Dev nD × Option (Fin 6) × Dev nD) : GSem nD τ sig × ℕ × Dev nD :=
  match x.2.1 with
  | none => (bar x.1, 0, x.2.2)
  | some f => (cel x.1 f x.2.2, 0, 0)
theorem tokOf_inj : Function.Injective tokOf := by
  rintro ⟨c, _ | f, k⟩ ⟨c', _ | f', k'⟩ h
  · have h1 : c = c' := bar_eq_iff.mp (congrArg Prod.fst h)
    have h2 : k = k' := congrArg (fun x => x.2.2) h
    rw [h1, h2]
  · exact absurd (congrArg Prod.fst h) (bar_ne_cel c c' f' k')
  · exact absurd (congrArg Prod.fst h).symm (bar_ne_cel c' c f k)
  · obtain ⟨h1, h2, h3⟩ := cel_eq_iff.mp (congrArg Prod.fst h)
    exact Prod.ext h1 (Prod.ext (congrArg some h2) h3)
def kToks : Finset (GSem nD τ sig × ℕ × Dev nD) := Finset.univ.map ⟨tokOf, tokOf_inj⟩

def u₀ : UU := (initOf (Pipeline.cells cfgs cellOf_inj) (Pipeline.launchToks cfgs cellOf_inj), initOf kCells kToks)

/-- The tokens of device `c`'s own cells. -/
def toks (c : Dev nD) : sProp 𝕄 :=
  iprop((bigSep Finset.univ fun k : Dev nD => dutyTok ER (bar c) 0 k)
    ∗ (bigSep Finset.univ fun k : Dev nD => tok (F := F) c 0 k) ∗ (bigSep Finset.univ fun k : Dev nD => tok (F := F) c 1 k)
    ∗ (bigSep Finset.univ fun k : Dev nD => tok (F := F) c 2 k) ∗ (bigSep Finset.univ fun k : Dev nD => tok (F := F) c 3 k)
    ∗ (bigSep Finset.univ fun k : Dev nD => tok (F := F) c 4 k) ∗ (bigSep Finset.univ fun k : Dev nD => tok (F := F) c 5 k))
/-- The tokens of the duties device `c` pays. -/
def payToks (c : Dev nD) : sProp 𝕄 :=
  iprop((bigSep Finset.univ fun k : Dev nD => dutyTok ER (bar k) 0 c)
    ∗ (bigSep Finset.univ fun k : Dev nD => tok (F := F) c 0 k) ∗ (bigSep Finset.univ fun k : Dev nD => tok (F := F) k 1 c)
    ∗ (bigSep Finset.univ fun k : Dev nD => tok (F := F) c 2 k) ∗ (bigSep Finset.univ fun k : Dev nD => tok (F := F) k 3 c)
    ∗ (bigSep Finset.univ fun k : Dev nD => tok (F := F) c 4 k) ∗ (bigSep Finset.univ fun k : Dev nD => tok (F := F) k 5 c))

/-- What the launch deals device `c`, and what the exchange of tokens makes of it. -/
def G (c : Dev nD) : sProp 𝕄 :=
  iprop((bigSep Finset.univ fun x : Ck => roundState ER (rd m) (kcell (c, x)) 0)
    ∗ (bigSep Finset.univ fun x : Ck => iprop(atPos ER (kcell (c, x)) 0 ∅ 0 ∗ reached ER (kcell (c, x)) 0)) ∗ toks (F := F) c)
def linear (c : Dev nD) : sProp 𝕄 := iprop((bigSep Finset.univ fun x : Ck => atPos ER (kcell (c, x)) 0 ∅ 0) ∗ payToks (F := F) c)
def G' (c : Dev nD) : sProp 𝕄 := iprop(∃ K, records m K ∗ linear (F := F) c)

theorem deal : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun x : Ck => Φ (kcell (c, x)) := by
    unfold kCells; rw [bigSep_map, bigSep_univ_prod]; rfl
  have hT : bigSep kToks (fun x => (dutyTok ER x.1 x.2.1 x.2.2 : sProp 𝕄)) = bigSep Finset.univ fun c : Dev nD => toks (F := F) c := by
    unfold kToks; rw [bigSep_map, bigSep_univ_prod]
    refine bigSep_congr fun c _ => ?_
    rw [bigSep_univ_prod, bigSep_univ_eq_bigSepL [none, some 0, some 1, some 2, some 3, some 4, some 5] (by decide) (by decide)]
    rfl
  iintro HX
  imod (Rounds.fund ER (rd m) kCells kToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun x : Fin 6 × Dev nD => zer (F := F) c x.1 x.2 := rfl
theorem unscopedSems0_eq (c : Dev nD) : (unscopedSems0 c : sProp 𝕄) = semVal (bar c) 0 := by
  unfold unscopedSems0; rw [bigSep_eq_bigSepL_of_eq [SemLoc.reg barS] (by decide +kernel) (by decide)]; rfl

/-- The counters at zero and the rounds' states make the invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Ck => iprop(∃ κ : ℕ, cellInv ER (rd m) κ (kcell (c, x))))
          ∗ (bigSep Finset.univ fun x : Ck => iprop(atPos ER (kcell (c, x)) 0 ∅ 0 ∗ reached ER (kcell (c, x)) 0)) ∗ toks (F := F) c) := by
  have hz : iprop((bigSep Finset.univ fun x : Fin 6 × Dev nD => zer (F := F) c x.1 x.2) ∗ semVal (bar c) 0)
      ⊢ (bigSep Finset.univ fun x : Ck => semVal (kcell (c, x)) 0 : sProp 𝕄) := by
    rw [show (Finset.univ : Finset Ck) = insert none (Finset.univ.map Function.Embedding.some) by ext x; cases x <;> simp,
      bigSep_insert (by simp), bigSep_map]
    show _ ⊢ iprop(semVal (bar c) 0 ∗ bigSep Finset.univ fun x : Fin 6 × Dev nD => zer (F := F) c x.1 x.2)
    iintro ⟨H, HB⟩
    isplitl [HB]; · iexact HB
    iexact H
  rw [ownSems0_eq, unscopedSems0_eq]
  unfold G
  iintro ⟨Hos, Hus, Hst, Hat, Htok⟩
  ihave Hv := hz $$ [Hos Hus]
  · isplitl [Hos] <;> iassumption
  imod (show iprop((bigSep Finset.univ fun x : Ck => semVal (kcell (c, x)) 0) ∗ bigSep Finset.univ fun x : Ck => roundState ER (rd m) (kcell (c, x)) 0)
      ⊢ (|={Set.univ}=> bigSep Finset.univ fun x => iprop(∃ κ : ℕ, cellInv ER (rd m) κ (kcell (c, x))) : sProp 𝕄) from by
        rw [← bigSep_sep']
        exact (bigSep_mono fun x _ => (Rounds.body_intro ER (rd m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

theorem toks_around : (bigSep Finset.univ fun c : Dev nD => (toks (F := F) c : sProp 𝕄)) ⊢ bigSep Finset.univ fun c : Dev nD => payToks (F := F) c := by
  unfold toks payToks
  simp only [bigSep_sep']
  rw [bigSep_univ_comm (fun c k : Dev nD => (dutyTok ER (bar c) 0 k : sProp 𝕄)), bigSep_univ_comm (fun c k : Dev nD => tok (F := F) c 1 k),
    bigSep_univ_comm (fun c k : Dev nD => tok (F := F) c 3 k), bigSep_univ_comm (fun c k : Dev nD => tok (F := F) c 5 k)]

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : Ck => iprop(∃ κ : ℕ, cellInv ER (rd m) κ (kcell (c, x))))
          ∗ (bigSep Finset.univ fun x : Ck => iprop(atPos ER (kcell (c, x)) 0 ∅ 0 ∗ reached ER (kcell (c, x)) 0)) ∗ toks (F := F) c) : sProp 𝕄)
      ⊢ bigSep Finset.univ (G' m) := by
  rw [bigSep_sep', bigSep_sep', ← bigSep_univ_prod (fun x : Dev nD × Ck => iprop(∃ κ : ℕ, cellInv ER (rd m) κ (kcell x))),
    bigSep_congr (s := Finset.univ) (fun (c : Dev nD) _ => bigSep_sep' Finset.univ (fun x : Ck => (atPos ER (kcell (c, x)) 0 ∅ 0 : sProp 𝕄)) (fun x => reached ER (kcell (c, x)) 0)),
    bigSep_sep', ← bigSep_univ_prod (fun x : Dev nD × Ck => (reached ER (kcell x) 0 : sProp 𝕄))]
  iintro ⟨HI, ⟨Hat, HR⟩, Htok⟩
  ihave HK := (BI.bigSep_exists_pi Finset.univ (fun (x : Dev nD × Ck) (κ : ℕ) => (cellInv ER (rd m) κ (kcell x) : sProp 𝕄))) $$ HI
  icases HK with ⟨%K, HI⟩
  ihave Htk := (toks_around (F := F)) $$ Htok
  iapply (with_records (R := records m K) (Φ := linear (F := F)) fun c _ => by
    unfold G'
    iintro ⟨HR, HL⟩
    iexists K
    isplitl [HR] <;> iassumption)
  isplitl [HI HR]
  · unfold records
    isplitl [HI] <;> iassumption
  · unfold linear
    rw [bigSep_sep']
    isplitl [Hat] <;> iassumption

/-- The counters of every device at once, to every device's resources. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KP
-- ==== Proof.Run.lean ====
/-
# The run: the credits of the launch, the entry and the exit, and what every final state holds
-/
module

public import proofs.«01_k».proof.Proof.Launch
public import Idealize.ShloMosaic.Lib.Pipeline.CollectiveSegs

@[expose] public section

set_option maxRecDepth 16384

noncomputable section

namespace Cert.KP

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credits -/

/-- One peer of `d` is `c`, unless `c` is `d`. -/
theorem count_peer (c d : Dev nD) (a : ℕ) : (∑ j : Fin 15, if c = peer d j then a else 0) = if c = d then 0 else a := by
  have h : (∑ k : Dev nD, if c = k then a else 0) = (if c = d then a else 0) + ∑ j : Fin 15, if c = peer d j then a else 0 :=
    Fin.sum_univ_succAbove (n := 15) (fun k => if c = k then a else 0) d
  rw [Finset.sum_ite_eq Finset.univ c fun _ => a, if_pos (Finset.mem_univ _)] at h
  split at h <;> rename_i hc
  · rw [if_pos hc]; omega
  · rw [if_neg hc]; omega

theorem sum_at {I : Type} (S : Finset I) (O : I → CellTallies nD τ sig Unit) (g : GSem nD τ sig) :
    (∑ j ∈ S, O j) g () = ∑ j ∈ S, O j g () := by
  rw [Finset.sum_apply, Finsupp.finset_sum_apply]

theorem Obar_bar (d c : Dev nD) : Obar d 0 (bar c) () = if c = d then 0 else 1 := by
  unfold Obar
  rw [sum_at, frm_zero, ← count_peer c d 1]
  refine Finset.sum_congr rfl fun j _ => ?_
  rw [tallyAt_apply]
  exact if_congr ⟨fun h => bar_eq_iff.mp h.1, fun h => ⟨bar_eq_iff.mpr h, rfl⟩⟩ rfl rfl
theorem Obar_cel (d c : Dev nD) (f : Fin 6) (k : Dev nD) : Obar d 0 (cel c f k) () = 0 := by
  unfold Obar
  rw [sum_at]
  refine Finset.sum_eq_zero fun j _ => ?_
  rw [tallyAt_apply]
  exact if_neg fun h => bar_ne_cel _ _ _ _ h.1.symm
theorem Orec_bar (d c : Dev nD) : Orec d 0 (bar c) () = 0 := by
  unfold Orec
  rw [sum_at]
  refine Finset.sum_eq_zero fun j _ => ?_
  unfold Orec1
  split
  · rfl
  · rw [Pi.add_apply, Finsupp.add_apply, tallyAt_apply, tallyAt_apply, if_neg fun h => bar_ne_cel _ _ _ _ h.1, if_neg fun h => bar_ne_cel _ _ _ _ h.1, Nat.add_zero]
theorem Orec_cel (d c : Dev nD) (f : Fin 6) (k : Dev nD) (hk : k ≠ c) :
    Orec d 0 (cel c f k) () = if d = k ∧ (f = 1 ∨ f = 3) then amt f.val else 0 := by
  unfold Orec
  rw [sum_at, show frm nD 0 = Finset.univ from frm_zero, Finset.sum_eq_single c]
  · unfold Orec1
    by_cases hcd : c = d
    · rw [if_pos hcd, if_neg fun h => hk (h.1.symm.trans hcd.symm)]; rfl
    · rw [if_neg hcd, Pi.add_apply, Finsupp.add_apply, tallyAt_apply, tallyAt_apply]
      by_cases hd : d = k
      · subst hd
        by_cases h3 : f = 3
        · subst h3
          rw [if_pos ⟨rfl, rfl⟩, if_neg fun h => absurd (cel_eq_iff.mp h.1).2.1 (by decide), if_pos ⟨rfl, Or.inr rfl⟩]; rfl
        · rw [if_neg fun h => h3 (cel_eq_iff.mp h.1).2.1]
          by_cases h1 : f = 1
          · subst h1
            rw [if_pos ⟨rfl, rfl⟩, if_pos ⟨rfl, Or.inl rfl⟩, Nat.zero_add]; rfl
          · rw [if_neg fun h => h1 (cel_eq_iff.mp h.1).2.1, if_neg fun h => h.2.elim h1 h3]
      · rw [if_neg fun h => hd (cel_eq_iff.mp h.1).2.2.symm, if_neg fun h => hd (cel_eq_iff.mp h.1).2.2.symm, if_neg fun h => hd h.1]
  · intro j _ hj
    unfold Orec1
    split
    · rfl
    · rw [Pi.add_apply, Finsupp.add_apply, tallyAt_apply, tallyAt_apply, if_neg fun h => hj (cel_eq_iff.mp h.1).1.symm, if_neg fun h => hj (cel_eq_iff.mp h.1).1.symm, Nat.add_zero]
  · exact fun h => absurd (Finset.mem_univ _) h
theorem Obc_bar (d c : Dev nD) : Obc d 0 (bar c) () = 0 := by
  unfold Obc
  rw [sum_at]
  refine Finset.sum_eq_zero fun j _ => ?_
  rw [tallyAt_apply]
  exact if_neg fun h => bar_ne_cel _ _ _ _ h.1
theorem Obc_cel (d c : Dev nD) (f : Fin 6) (k : Dev nD) (hk : k ≠ c) :
    Obc d 0 (cel c f k) () = if d = k ∧ f = 5 then amt f.val else 0 := by
  unfold Obc
  rw [sum_at, frm_zero]
  by_cases h : d = k ∧ f = 5
  · obtain ⟨rfl, rfl⟩ := h
    rw [if_pos ⟨rfl, rfl⟩]
    have := count_peer c d (amt 5)
    rw [if_neg fun h => hk h.symm] at this
    refine Eq.trans (Finset.sum_congr rfl fun j _ => ?_) this
    rw [tallyAt_apply]
    exact if_congr ⟨fun h => (cel_eq_iff.mp h.1).1, fun h => ⟨cel_eq_iff.mpr ⟨h, rfl, rfl⟩, rfl⟩⟩ rfl rfl
  · rw [if_neg h]
    refine Finset.sum_eq_zero fun j _ => ?_
    rw [tallyAt_apply]
    exact if_neg fun hh => h ⟨(cel_eq_iff.mp hh.1).2.2.symm, (cel_eq_iff.mp hh.1).2.1⟩

/-- The launch credits each barrier cell with a unit from every other device; -/
theorem launch_bar (c : Dev nD) :
    tallyOn (bar c) (launchCredit (Pipeline.owing O₀) 0 (bar c)) = (tallyAt (bar c) () 15 : CellTallies nD τ sig Unit) := by
  unfold tallyAt
  refine congrArg _ (Finsupp.ext fun u => ?_)
  cases u
  rw [Pipeline.launchCredit_owing, Finsupp.single_eq_same]
  have h (d : Dev nD) : O₀ d (bar c) () = if c = d then 0 else 1 := by
    unfold O₀
    rw [Pi.add_apply, Finsupp.add_apply, Pi.add_apply, Finsupp.add_apply, Obar_bar, Orec_bar, Obc_bar, Nat.zero_add]
  rw [Finset.sum_congr rfl fun d _ => h d]
  clear h; revert c; decide +kernel
/-- and each cell of landings with its landing. -/
theorem launch_cel (c : Dev nD) (f : Fin 6) (k : Dev nD) (hk : k ≠ c) (hf : f = 1 ∨ f = 3 ∨ f = 5) :
    tallyOn (cel c f k) (launchCredit (Pipeline.owing O₀) 0 (cel c f k)) = (tallyAt (cel c f k) () (amt f.val) : CellTallies nD τ sig Unit) := by
  unfold tallyAt
  refine congrArg _ (Finsupp.ext fun u => ?_)
  cases u
  rw [Pipeline.launchCredit_owing, Finsupp.single_eq_same]
  have h (d : Dev nD) : O₀ d (cel c f k) () = if d = k then amt f.val else 0 := by
    unfold O₀
    rw [Pi.add_apply, Finsupp.add_apply, Pi.add_apply, Finsupp.add_apply, Obar_cel, Orec_cel _ _ _ _ hk, Obc_cel _ _ _ _ hk, Nat.add_zero]
    by_cases hd : d = k
    · rcases hf with rfl | rfl | rfl <;> simp [hd]
    · simp [hd]
  rw [Finset.sum_congr rfl fun d _ => h d, Finset.sum_ite_eq' Finset.univ k fun _ => amt f.val, if_pos (Finset.mem_univ _)]

/-- The credits a device starts with. -/
theorem creds (c : Dev nD) :
    (Pipeline.launchCred O₀ c : sProp 𝕄) ⊢ iprop(cred (tallyAt (bar c) () 15) ∗ (bigSep Finset.univ fun n : Fin 15 => crd (F := F) c 1 (peer c n))
      ∗ (bigSep Finset.univ fun n : Fin 15 => crd (F := F) c 3 (peer c n)) ∗ (bigSep Finset.univ fun n : Fin 15 => crd (F := F) c 5 (peer c n))) := by
  have h1 : (Pipeline.launchCred O₀ c : sProp 𝕄) ⊢ bigSep Finset.univ fun x : Ck => cred (tallyOn (kcell (c, x)) (launchCredit (Pipeline.owing O₀) 0 (kcell (c, x)))) := by
    unfold Pipeline.launchCred
    refine BIBase.Entails.trans (bigSep_subset (t := Finset.univ.map ⟨csem, csem_inj⟩) (Finset.subset_univ _)) ?_
    rw [bigSep_map]; exact BI.Entails.refl _
  have hc (f : Fin 6) (hf : f = 1 ∨ f = 3 ∨ f = 5) :
      (bigSep Finset.univ fun n : Fin 15 => (cred (tallyOn (kcell (c, some (f, peer c n))) (launchCredit (Pipeline.owing O₀) 0 (kcell (c, some (f, peer c n))))) : sProp 𝕄))
        = bigSep Finset.univ fun n : Fin 15 => crd (F := F) c f (peer c n) :=
    bigSep_congr fun n _ => congrArg cred (launch_cel c f (peer c n) (peer_ne c n) hf)
  refine BIBase.Entails.trans h1 ?_
  rw [bigSep_cells c, hc 1 (by decide), hc 3 (by decide), hc 5 (by decide)]
  rw [show (tallyOn (kcell (c, none)) (launchCredit (Pipeline.owing O₀) 0 (kcell (c, none))) : CellTallies nD τ sig Unit) = tallyAt (bar c) () 15 from launch_bar c]
  iintro ⟨H, -, -, H1, -, H3, -, H5⟩
  isplitl [H]; · iexact H
  isplitl [H1]; · iexact H1
  isplitl [H3]; · iexact H3
  iexact H5

/-! ## Entry and exit -/

/-- What a device starts from besides the buffers. -/
def start (c : Dev nD) : sProp 𝕄 :=
  iprop(∃ K, records m K ∗ levAts L lv
    ∗ (atPos ER (bar c) 0 ∅ 0 ∗ cred (tallyAt (bar c) () 15) ∗ bigSep Finset.univ fun n : Fin 15 => dutyTok ER (bar (peer c n)) 0 c)
    ∗ (bigSep Finset.univ fun k : Dev nD => sendTok (F := F) c k)
    ∗ (bigSep Finset.univ fun n : Fin 15 => bcTok (F := F) c (peer c n))
    ∗ rest (F := F) c)

theorem send_toks (c : Dev nD) :
    iprop((bigSep Finset.univ fun k : Dev nD => tok (F := F) c 0 k) ∗ (bigSep Finset.univ fun k : Dev nD => tok (F := F) k 1 c)
      ∗ (bigSep Finset.univ fun k : Dev nD => tok (F := F) c 2 k) ∗ (bigSep Finset.univ fun k : Dev nD => tok (F := F) k 3 c))
      ⊢ (bigSep Finset.univ fun k : Dev nD => sendTok (F := F) c k : sProp 𝕄) := by
  rw [← bigSep_sep', ← bigSep_sep', ← bigSep_sep']
  refine bigSep_mono fun k _ => ?_
  unfold sendTok
  split
  · exact BI.affine
  · exact BI.Entails.refl _

theorem bc_toks (c : Dev nD) :
    iprop((bigSep Finset.univ fun k : Dev nD => tok (F := F) c 4 k) ∗ (bigSep Finset.univ fun k : Dev nD => tok (F := F) k 5 c))
      ⊢ (bigSep Finset.univ fun n : Fin 15 => bcTok (F := F) c (peer c n) : sProp 𝕄) := by
  rw [← bigSep_sep', bigSep_peers _ c]
  iintro ⟨-, H⟩
  unfold bcTok
  iexact H

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, H1, H3, H5⟩
  unfold G' linear payToks
  icases HG with ⟨%K, HR, Hp, TB, T0, T1, T2, T3, T4, T5⟩
  ihave HP := (Entails.of_eq (bigSep_cells c (fun x : Ck => (atPos ER (kcell (c, x)) 0 ∅ 0 : sProp 𝕄)))) $$ Hp
  icases HP with ⟨PB, PO, P0, P1, P2, P3, P4, P5⟩
  ihave HTB := (Entails.of_eq (bigSep_peers (fun k : Dev nD => (dutyTok ER (bar k) 0 c : sProp 𝕄)) c)) $$ TB
  icases HTB with ⟨-, TB⟩
  ihave HS := (send_toks (F := F) c) $$ [T0 T1 T2 T3]
  · isplitl [T0]; · iexact T0
    isplitl [T1]; · iexact T1
    isplitl [T2] <;> iassumption
  ihave HT := (bc_toks (F := F) c) $$ [T4 T5]
  · isplitl [T4] <;> iassumption
  imodintro
  isplitl
  · unfold start
    iexists K
    isplitl [HR]; · iexact HR
    isplitl [Hlev]; · iexact Hlev
    isplitl [PB HB TB]
    · isplitl [PB]; · iexact PB
      isplitl [HB]; · iexact HB
      iexact TB
    isplitl [HS]; · iexact HS
    isplitl [HT]; · iexact HT
    unfold rest recvRes gatRes drainPos
    simp only [bigSep_sep']
    isplitl [P1 H1 P3 H3]
    · isplitl [P1 H1]
      · isplitl [P1]; · iexact P1
        iexact H1
      isplitl [P3]; · iexact P3
      iexact H3
    isplitl [P5 H5]
    · isplitl [P5]; · iexact P5
      iexact H5
    isplitl [P0 P2 P4]
    · isplitl [P0]; · iexact P0
      isplitl [P2]; · iexact P2
      iexact P4
    iexact PO
  · iempintro

theorem cut2 (c : Dev nD) (f : Vec F S16x64x8x128 .f32) : (((c : Thread nD τ).loc cc0_scratch2) ↦{fullShare} f) ⊢ (bigSep Finset.univ fun k : Dev nD => exRC (F := F) c k : sProp 𝕄) := by
  have h (k : Dev nD) : ptRC c (setC k) fullShare f ⊢ (exRC (F := F) c k : sProp 𝕄) := by
    unfold exRC
    iintro H; iexists f; iexact H
  iintro H
  ihave H' := (Entails.of_eq (Ring.pointsTo_blocks (ℓ := (c : Thread nD τ).loc cc0_scratch2) (q := fullShare) setC (fun a b h => setC_disj a b h) setC_cover f)) $$ H
  have hb : (bigSep Finset.univ fun k : Dev nD => ptRC c (setC k) fullShare f) ⊢ (bigSep Finset.univ fun k : Dev nD => exRC (F := F) c k : sProp 𝕄) := bigSep_mono fun k _ => h k
  iapply hb
  iexact H'
theorem cut3 (c : Dev nD) (f : Vec F S16x64x16 .f32) : (((c : Thread nD τ).loc cc0_scratch3) ↦{fullShare} f) ⊢ (bigSep Finset.univ fun k : Dev nD => exRS (F := F) c k : sProp 𝕄) := by
  have h (k : Dev nD) : ptRS c (setS k) fullShare f ⊢ (exRS (F := F) c k : sProp 𝕄) := by
    unfold exRS
    iintro H; iexists f; iexact H
  iintro H
  ihave H' := (Entails.of_eq (Ring.pointsTo_blocks (ℓ := (c : Thread nD τ).loc cc0_scratch3) (q := fullShare) setS (fun a b h => setS_disj a b h) setS_cover f)) $$ H
  have hb : (bigSep Finset.univ fun k : Dev nD => ptRS c (setS k) fullShare f) ⊢ (bigSep Finset.univ fun k : Dev nD => exRS (F := F) c k : sProp 𝕄) := bigSep_mono fun k _ => h k
  iapply hb
  iexact H'
theorem cut4 (c : Dev nD) (f : Vec F S16x64x1024 .f32) : (((c : Thread nD τ).loc cc0_scratch4) ↦{fullShare} f) ⊢ (bigSep Finset.univ fun k : Dev nD => exB (F := F) c k : sProp 𝕄) := by
  have h (k : Dev nD) : ptB c (setB k) fullShare f ⊢ (exB (F := F) c k : sProp 𝕄) := by
    unfold exB
    iintro H; iexists f; iexact H
  iintro H
  ihave H' := (Entails.of_eq (Ring.pointsTo_blocks (ℓ := (c : Thread nD τ).loc cc0_scratch4) (q := fullShare) setB (fun a b h => setB_disj a b h) setB_cover f)) $$ H
  have hb : (bigSep Finset.univ fun k : Dev nD => ptB c (setB k) fullShare f) ⊢ (bigSep Finset.univ fun k : Dev nD => exB (F := F) c k : sProp 𝕄) := bigSep_mono fun k _ => h k
  iapply hb
  iexact H'

theorem segC_all : segC 0 16 = Finset.univ := by
  ext i; rw [mem_segC]; exact ⟨fun _ => Finset.mem_univ _, fun _ => ⟨Nat.zero_le _, (i 0).isLt⟩⟩
theorem segS_all : segS 0 16 = Finset.univ := by
  ext i; rw [mem_segS]; exact ⟨fun _ => Finset.mem_univ _, fun _ => ⟨Nat.zero_le _, (i 0).isLt⟩⟩

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(∃ K, preS m K c) from rfl, scopedRest0_eq]
  unfold start preS
  rw [segC_all, segS_all]
  iintro ⟨⟨%K, HR, Hlev, HB, HS, HT, Hr⟩, -, ⟨%f0, F0⟩, ⟨%f1, F1⟩, ⟨%f2, F2⟩, ⟨%f3, F3⟩, ⟨%f4, F4⟩⟩
  ihave B2 := (cut2 (F := F) c f2) $$ F2
  ihave B3 := (cut3 (F := F) c f3) $$ F3
  ihave B4 := (cut4 (F := F) c f4) $$ F4
  iexists K
  isplitl [HR]; · iexact HR
  isplitl [Hlev]; · iexact Hlev
  isplitl [HB]; · iexact HB
  isplitl [F0]; · iexists f0; iexact F0
  isplitl [F1]; · iexists f1; iexact F1
  isplitl [B2]; · iexact B2
  isplitl [B3]; · iexact B3
  isplitl [B4]; · iexact B4
  isplitl [HS]; · iexact HS
  isplitl [HT]; · iexact HT
  iexact Hr

theorem N_last : (Fin.last cfg0.N).val = 4 := N_0

theorem phi_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = stAt m c (Fin.last cfg0.N).val from rfl, N_last, scopedRest0_eq, ownSems0_eq, unscopedSems0_eq]
  unfold stAt
  rw [if_neg (show ¬ (4 = 0) by decide), if_pos rfl]
  unfold endS
  iintro ⟨HB, Hz, H⟩
  isplitl [HB]; · iexact HB
  isplitl [Hz]; · iexact Hz
  iexact H

theorem owed_end (c : Dev nD) : (dats m 0 c).owed (Fin.last cfg0.N) = 0 := by
  show owAt c (Fin.last cfg0.N).val = 0
  rw [N_last]
  unfold owAt
  rw [if_neg (show ¬ (4 = 0) by decide), if_pos rfl]

theorem waits (c : Dev nD) : (levAts L lv : sProp 𝕄) ⊢ Pipeline.cellsWaits cfgs (dats m) () 0 c :=
  Pipeline.cellsWaits_intro cfgs (dats m) () 0 c fun w s t =>
    mayWait c _ 0 (by
      have := win_sem_lt w s
      show (if 7 ≤ ((cfg0.win w).sem s).val then _ else 0) ≤ 0
      rw [if_neg (by omega)]) _ (by
      show Above 0 (owAt c t.val)
      unfold owAt
      split
      · exact above_O₀ c
      split
      · exact above_zero 0
      · exact above_add (above_mono (above_Obc c 0) (by decide)) (above_mono (above_Orec c _) (by decide)))

/-! ## The run -/

def finalA (c : Dev nD) (w : Fin cfg0.W) : Buf (Elt F) ((cfg0.win w).arr.view.loc (c : Thread nD τ)) := (dats m 0 c).arrAt w cfg0.N

/-- Every window's array ends at what the pipeline makes of it. -/
def Ends (r : PUnit × MemSt nD τ sig (Elt F)) : Prop :=
  ∀ c : Dev nD, ∀ w : Fin cfg0.W, r.2.mem ((cfg0.win w).arr.view.loc (c : Thread nD τ)) = finalA m c w

/-- For any float values, from any memory with zero counters, every weakly fair execution of the kernel on sixteen devices
    terminates, with every window's array at what the pipeline makes of it and every counter at zero. -/
theorem run_main : θ_run defs (onTc (τ := τ) (main (F := F))) (⟨m, fun _ => 0, ρ⟩ : MemSt nD τ sig (Elt F)) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := owed_end m)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m) (hout := phi_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array ends as it was. -/
theorem final_in (c : Dev nD) (w : Fin cfg0.W) (h : (cfg0.win w).isOut = false) : finalA m c w = m ((cfg0.win w).arr.view.loc (c : Thread nD τ)) :=
  (dats (F := F) m 0 c).arrAt_in w h _

/-- At such an end the five arguments are what they were at the start. -/
theorem ends_args (r) (h : Ends m r ∧ r.2.sem = fun _ => 0) :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  ⟨fun c => ⟨(h.1 c 0).trans (final_in m c 0 rfl), (h.1 c 1).trans (final_in m c 1 rfl), (h.1 c 2).trans (final_in m c 2 rfl),
    (h.1 c 3).trans (final_in m c 3 rfl), (h.1 c 4).trans (final_in m c 4 rfl)⟩, h.2⟩

end Cert.KP
-- ==== Proof.RefTerm.lean ====
/-
# The reference's result, piece by piece

The one term that the reference's run leaves in its result, cut into the pieces its text names.
-/
module

public import proofs.«01_k».proof.Proof.Gen.ReferenceIdeal.Run

@[expose] public section

set_option maxRecDepth 16384

noncomputable section

namespace Cert.RV

open Cert.ReferenceIdeal Cert.ReferenceIdeal.Gen
open Idealize.ShloMosaic Idealize.ShloMosaic.TcCoe

/-- The block number of each query. -/
def rowBlk : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- The block number of each key. -/
def keyBlk : IVec S16384 32 :=
  select (andi (cmpi .ne (signi (iotaInDim S16384 32 0)) (broadcastInDim S16384 ![] bcast_S_S16384 (signi (id (constantI S_ 32 64#32)))))
      (cmpi .ne (Host.remsi (iotaInDim S16384 32 0) (broadcastInDim S16384 ![] bcast_S_S16384 (id (constantI S_ 32 64#32))))
        (broadcastInDim S16384 ![] bcast_S_S16384 (constantI S_ 32 0#32))))
    (subi (Host.divsi (iotaInDim S16384 32 0) (broadcastInDim S16384 ![] bcast_S_S16384 (id (constantI S_ 32 64#32))))
      (broadcastInDim S16384 ![] bcast_S_S16384 (constantI S_ 32 1#32)))
    (Host.divsi (iotaInDim S16384 32 0) (broadcastInDim S16384 ![] bcast_S_S16384 (id (constantI S_ 32 64#32))))

/-- The block numbers over queries and keys, -/
def rowBlk2 : IVec S1024x16384 32 :=
  broadcastInDim S1024x16384 ![0, 1] bcast_S1024x1_S1024x16384_0_1 (broadcastInDim S1024x1 ![0] bcast_S1024_S1024x1_0 rowBlk)
def keyBlk1 : IVec S1x16384 32 := broadcastInDim S1x16384 ![1] bcast_S16384_S1x16384_1 keyBlk
def keyBlk2 : IVec S1024x16384 32 := broadcastInDim S1024x16384 ![0, 1] bcast_S1x16384_S1024x16384_0_1 keyBlk1

/-- the divisor three, -/
def three : IVec S_ 32 := select (cmpi .eq (id (constantI S_ 32 3#32)) (constantI S_ 32 0#32)) (constantI S_ 32 1#32) (id (constantI S_ 32 3#32))

/-- and the remainder of the sum of the block numbers by it. -/
def rem : IVec S1024x16384 32 :=
  Host.remsi (addi rowBlk2 keyBlk2) (broadcastInDim S1024x16384 ![] bcast_S_S1024x16384 three)

/-- Which keys each query attends to. -/
def mask : IVec S1024x16384 1 :=
  ori (ori (cmpi .eq rowBlk2 keyBlk2)
      (broadcastInDim S1024x16384 ![0, 1] bcast_S1x16384_S1024x16384_0_1 (cmpi .eq keyBlk1 (broadcastInDim S1x16384 ![] bcast_S_S1x16384 (constantI S_ 32 0#32)))))
    (cmpi .eq (select (andi (cmpi .ne (cmpi .slt rem (broadcastInDim S1024x16384 ![] bcast_S_S1024x16384 (constantI S_ 32 0#32)))
          (broadcastInDim S1024x16384 ![] bcast_S_S1024x16384 (cmpi .slt three (constantI S_ 32 0#32))))
        (cmpi .ne rem (broadcastInDim S1024x16384 ![] bcast_S_S1024x16384 (constantI S_ 32 0#32))))
        (addi rem (broadcastInDim S1024x16384 ![] bcast_S_S1024x16384 three)) rem)
      (broadcastInDim S1024x16384 ![] bcast_S_S1024x16384 (constantI S_ 32 0#32)))

/-- Which queries attend to a key at all. -/
def rowKeep : IVec S1024 1 := Host.reduce IntOp.ori mask (constantI S_ 1 0#1) reducesTo_S1024x16384_S1024_d1 h_S_

variable {F : FTy → Type} [FloatOps F]
variable (X : Vec F S1x1024x1024 .f32) (WQ : Vec F S1024x1024 .f32) (KK VV : Vec F S1x16384x8x128 .f32) (WO : Vec F S1024x1024 .f32)

/-- The masked scores, by head, query and key; -/
def scores : FVec F S1x8x1024x16384 .f32 :=
  select (broadcastInDim S1x8x1024x16384 ![0, 1, 2, 3] bcast_S1x1x1024x16384_S1x8x1024x16384_0_1_2_3
      (broadcastInDim S1x1x1024x16384 ![2, 3] bcast_S1024x16384_S1x1x1024x16384_2_3 mask))
    (mulf (Host.dotGeneral dot_S1x1024x8x128_S1x16384x8x128_S1x8x1024x16384_3_3_1_1_02_02 none
        (shapeCast _ (Host.dotGeneral dot_S1x1024x1024_S1024x1024_S1x1024x1024_2_0_01_1_n_n none X WQ) shapeCasts_S1x1024x1024_S1x1024x8x128) KK)
      (broadcastInDim S1x8x1024x16384 ![] bcast_S_S1x8x1024x16384 (constant S_ .f32 0x3DB504F3#32)))
    (broadcastInDim S1x8x1024x16384 ![] bcast_S_S1x8x1024x16384 (id (constant S_ .f32 0xCE6E6B28#32)))

/-- for scores `s`, their greatest of each row, -/
def top (s : FVec F S1x8x1024x16384 .f32) : FVec F S1x8x1024 .f32 :=
  Host.reduce FloatOps.maximumf s (constant S_ .f32 0xFF800000#32) reducesTo_S1x8x1024x16384_S1x8x1024_d3 h_S_

/-- the exponentials, -/
def expo (s : FVec F S1x8x1024x16384 .f32) : FVec F S1x8x1024x16384 .f32 :=
  Host.exp (subf s (broadcastInDim S1x8x1024x16384 ![0, 1, 2, 3] bcast_S1x8x1024x1_S1x8x1024x16384_0_1_2_3
    (broadcastInDim S1x8x1024x1 ![0, 1, 2] bcast_S1x8x1024_S1x8x1024x1_0_1_2 (top s))))

/-- and their sums of each row; -/
def total (w : FVec F S1x8x1024x16384 .f32) : FVec F S1x8x1024 .f32 :=
  Host.reduceAdd w (constant S_ .f32 0x00000000#32) reducesTo_S1x8x1024x16384_S1x8x1024_d3 h_S_

/-- for rows kept `k`, exponentials `w` and sums `t`, the weights. -/
def weights (k : IVec S1024 1) (w : FVec F S1x8x1024x16384 .f32) (t : FVec F S1x8x1024 .f32) : FVec F S1x8x1024x16384 .f32 :=
  select (broadcastInDim S1x8x1024x16384 ![0, 1, 2, 3] bcast_S1x1x1024x1_S1x8x1024x16384_0_1_2_3 (broadcastInDim S1x1x1024x1 ![2] bcast_S1024_S1x1x1024x1_2 k))
    (Host.divf w (broadcastInDim S1x8x1024x16384 ![0, 1, 2, 3] bcast_S1x8x1024x1_S1x8x1024x16384_0_1_2_3
      (select (broadcastInDim S1x8x1024x1 ![0, 1, 2, 3] bcast_S1x1x1024x1_S1x8x1024x1_0_1_2_3 (broadcastInDim S1x1x1024x1 ![2] bcast_S1024_S1x1x1024x1_2 k))
        (broadcastInDim S1x8x1024x1 ![0, 1, 2] bcast_S1x8x1024_S1x8x1024x1_0_1_2 t)
        (broadcastInDim S1x8x1024x1 ![] bcast_S_S1x8x1024x1 (id (constant S_ .f32 0x3F800000#32))))))
    (broadcastInDim S1x8x1024x16384 ![] bcast_S_S1x8x1024x16384 (id (constant S_ .f32 0x00000000#32)))

/-- The weights of scores `s`. -/
def attnW (s : FVec F S1x8x1024x16384 .f32) : FVec F S1x8x1024x16384 .f32 := weights rowKeep (expo s) (total (expo s))

/-- The weighted sums of the values, by head, entry and query. -/
def ctx (w : FVec F S1x8x1024x16384 .f32) : FVec F S1x8x128x1024 .f32 :=
  Host.dotGeneral dot_S1x16384x8x128_S1x8x1024x16384_S1x8x128x1024_1_3_3_2_02_01 none VV w

/-- Their output projection. -/
def outp (c : FVec F S1x8x128x1024 .f32) : FVec F S1x1024x1024 .f32 :=
  Host.dotGeneral dot_S1x1024x1024_S1024x1024_S1x1024x1024_2_0_01_1_n_n none
    (shapeCast _ (transpose S1x1024x8x128 [0, 3, 1, 2] c transposes_S1x8x128x1024_S1x1024x8x128_0_3_1_2) shapeCasts_S1x1024x8x128_S1x1024x1024) WO

variable (m : (ℓ : Loc nD τ sig) → Buf (Elt F) ℓ)

/-- The reference's result is these pieces put together. -/
theorem res_eq (c : Dev nD) : Value.res_main_v44 m c
    = outp (m ((c.tc : Thread nD τ).loc main_arg4)) (ctx (m ((c.tc : Thread nD τ).loc main_arg3)) (attnW
        (scores (m ((c.tc : Thread nD τ).loc main_arg0)) (m ((c.tc : Thread nD τ).loc main_arg1)) (m ((c.tc : Thread nD τ).loc main_arg2))))) := by
  unfold Value.res_main_v44
  rfl

end Cert.RV
-- ==== Proof.Mask.lean ====
/-
# Which keys a query attends to, as words

The kernel and the reference compute the numbers of the blocks of 64 rows and the test on them in 32-bit words. Here is
what these words are on the ranges that occur.
-/
module

public import Idealize.ShloMosaic.Lib.Pointwise

@[expose] public section

set_option maxRecDepth 65536

namespace Cert.KP

open Idealize.ShloMosaic

/-- A query of block `q` attends to the keys of block `k`. -/
def attends (q k : ℕ) : Bool := q == k || k == 0 || (q + k) % 3 == 0

/-- The kernel's sign of a word. -/
def ksign (w : BitVec 32) : BitVec 32 :=
  IntOp.subi ((IntOp.cmpi .sgt w 0#32).setWidth 32) ((IntOp.cmpi .slt w 0#32).setWidth 32)

/-- The kernel's block number of a row. -/
def kfloor (w : BitVec 32) : BitVec 32 :=
  Scalar.select (IntOp.andi (IntOp.cmpi .ne (ksign w) 1#32) (IntOp.cmpi .ne (IntOp.remsi .vector w 64#32) 0#32))
    (IntOp.subi (IntOp.divsi .vector w 64#32) 1#32) (IntOp.divsi .vector w 64#32)

/-- The kernel's remainder by three. -/
def kmod (w : BitVec 32) : BitVec 32 :=
  Scalar.select
    (IntOp.andi (IntOp.xori (IntOp.cmpi .slt (IntOp.remsi .vector w 3#32) 0#32) 0#1) (IntOp.cmpi .ne (IntOp.remsi .vector w 3#32) 0#32))
    (IntOp.addi (IntOp.remsi .vector w 3#32) 3#32) (IntOp.remsi .vector w 3#32)

/-- The kernel's test. -/
def kmask (q k : BitVec 32) : BitVec 1 :=
  IntOp.ori (IntOp.ori (IntOp.cmpi .eq q k) (IntOp.cmpi .eq k 0#32)) (IntOp.cmpi .eq (kmod (IntOp.addi q k)) 0#32)

theorem kfloor_eq : ∀ n : Fin 1024, kfloor (BitVec.ofNat 32 n.val) = BitVec.ofNat 32 (n.val / 64) := by decide +kernel

theorem kmask_eq : ∀ (q : Fin 16) (k : Fin 256), kmask (BitVec.ofNat 32 q.val) (BitVec.ofNat 32 k.val) = BitVec.ofBool (attends q.val k.val) := by
  decide +kernel

/-- The reference's sign of a word. -/
def rsign (w : BitVec 32) : BitVec 32 := if w = 0 then 0 else if w.msb then -1 else 1

/-- The reference's block number of a row. -/
def rfloor (w : BitVec 32) : BitVec 32 :=
  Scalar.select (IntOp.andi (IntOp.cmpi .ne (rsign w) (rsign 64#32)) (IntOp.cmpi .ne (IntOp.remsi .host w 64#32) 0#32))
    (IntOp.subi (IntOp.divsi .host w 64#32) 1#32) (IntOp.divsi .host w 64#32)

/-- The reference's divisor three. -/
def rthree : BitVec 32 := Scalar.select (IntOp.cmpi .eq 3#32 0#32) 1#32 3#32

/-- The reference's remainder by three. -/
def rmod (w : BitVec 32) : BitVec 32 :=
  Scalar.select
    (IntOp.andi (IntOp.cmpi .ne (IntOp.cmpi .slt (IntOp.remsi .host w rthree) 0#32) (IntOp.cmpi .slt rthree 0#32))
      (IntOp.cmpi .ne (IntOp.remsi .host w rthree) 0#32))
    (IntOp.addi (IntOp.remsi .host w rthree) rthree) (IntOp.remsi .host w rthree)

/-- The reference's test. -/
def rmask (q k : BitVec 32) : BitVec 1 :=
  IntOp.ori (IntOp.ori (IntOp.cmpi .eq q k) (IntOp.cmpi .eq k 0#32)) (IntOp.cmpi .eq (rmod (IntOp.addi q k)) 0#32)

theorem rfloor_eq : ∀ (a : Fin 16) (b : Fin 1024), rfloor (BitVec.ofNat 32 (1024 * a.val + b.val)) = BitVec.ofNat 32 ((1024 * a.val + b.val) / 64) := by
  decide +kernel

theorem rmask_eq : ∀ (q : Fin 16) (k : Fin 256), rmask (BitVec.ofNat 32 q.val) (BitVec.ofNat 32 k.val) = BitVec.ofBool (attends q.val k.val) := by
  decide +kernel

end Cert.KP
-- ==== Proof.Read.lean ====
/-
# The kernel's operations read at an index
-/
module

public import proofs.«01_k».proof.Proof.Values
public import proofs.«01_k».proof.Proof.Mask
public import Idealize.ShloMosaic.Lib.Pipeline.ValueKit

@[expose] public section

set_option maxRecDepth 16384

noncomputable section

namespace Cert.KP

open Cert.KernelIdeal Cert.KernelIdeal.Gen
open Idealize.ShloMosaic Idealize.ShloMosaic.TcCoe

variable (m : (ℓ : Loc nD τ sig) → Buf (Elt Ideal) ℓ)

theorem coords_val (t : Fin cfg0.N) : (grid0.coords t 0).val = t.val := by
  revert t; decide +kernel

theorem devW_eq : ∀ c : Dev nD, devW c = BitVec.ofNat 32 c.val := by decide +kernel

/-- The mask at an index, as words. -/
theorem maskV_words (c : Dev nD) (t : Fin cfg0.N) (r : Fin 256) (jj : Fin 1024) :
    maskV c t (ix2 r jj) = kmask (kfloor (IntOp.addi (BitVec.ofNat 32 r.val) (IntOp.muli (BitVec.ofNat 32 (grid0.coords t 0).val) 256#32)))
      (IntOp.addi (kfloor (BitVec.ofNat 32 jj.val)) (IntOp.muli (devW c) 16#32)) := by
  unfold maskV
  unfold_payloads
  pointwise
  rfl

theorem row_word : ∀ (t : Fin 4) (r : Fin 256),
    IntOp.addi (BitVec.ofNat 32 r.val) (IntOp.muli (BitVec.ofNat 32 t.val) 256#32) = BitVec.ofNat 32 (256 * t.val + r.val) := by decide +kernel

theorem key_word : ∀ (c : Fin 16) (q : Fin 16),
    IntOp.addi (BitVec.ofNat 32 q.val) (IntOp.muli (BitVec.ofNat 32 c.val) 16#32) = BitVec.ofNat 32 (16 * c.val + q.val) := by decide +kernel

/-- The mask at an index: whether the query's block attends to the key's. -/
theorem maskV_eq (c : Dev nD) (t : Fin cfg0.N) (r : Fin 256) (jj : Fin 1024) :
    maskV c t (ix2 r jj) = BitVec.ofBool (attends ((256 * t.val + r.val) / 64) (16 * c.val + jj.val / 64)) := by
  have ht : t.val < 4 := lt_of_lt_of_eq t.isLt N_0
  have hr := r.isLt
  have hj := jj.isLt
  have hc : c.val < 16 := c.isLt
  rw [maskV_words, coords_val, devW_eq, row_word ⟨t.val, ht⟩ r, kfloor_eq ⟨256 * t.val + r.val, by omega⟩, kfloor_eq jj,
    key_word c ⟨jj.val / 64, by omega⟩,
    kmask_eq ⟨(256 * t.val + r.val) / 64, by omega⟩ ⟨16 * c.val + jj.val / 64, by omega⟩]

/-! ## The blocks the pipeline brings in -/

theorem index_0 : ∀ t : Fin cfg0.N, win0_0.index t = ![0, t.val, 0] := by decide +kernel
theorem index_1 : ∀ t : Fin cfg0.N, win0_1.index t = ![0, 0] := by decide +kernel
theorem index_2 : ∀ t : Fin cfg0.N, win0_2.index t = ![0, 0, 0, 0] := by decide +kernel
theorem index_3 : ∀ t : Fin cfg0.N, win0_3.index t = ![0, 0, 0, 0] := by decide +kernel
theorem index_4 : ∀ t : Fin cfg0.N, win0_4.index t = ![0, 0] := by decide +kernel

/-- Row `r` of grid point `t` is row `256 t + r` of the queries. -/
def qrow (t : Fin cfg0.N) (r : Fin 256) : Fin 1024 :=
  ⟨256 * t.val + r.val, by have := lt_of_lt_of_eq t.isLt N_0; omega⟩

theorem xB_apply (c : Dev nD) (t : Fin cfg0.N) (r : Fin 256) (k : Fin 1024) :
    xB m c t (ix3 0 r k) = m ((c.tc : Thread nD τ).loc main_arg0) (ix3 0 (qrow t r) k) := by
  unfold xB iblk
  blk_simp
  show m ((c.tc : Thread nD τ).loc main_arg0) _ = _
  congr 1
  blk_ext [index_0 t, qrow]

theorem wqB_eq (c : Dev nD) (t : Fin cfg0.N) : wqB m c t = m ((c.tc : Thread nD τ).loc main_arg1) := by
  funext j
  unfold wqB iblk
  blk_simp
  show m ((c.tc : Thread nD τ).loc main_arg1) _ = _
  congr 1
  blk_ext [index_1 t]

theorem kB_eq (c : Dev nD) (t : Fin cfg0.N) : kB m c t = m ((c.tc : Thread nD τ).loc main_arg2) := by
  funext j
  unfold kB iblk
  blk_simp
  show m ((c.tc : Thread nD τ).loc main_arg2) _ = _
  congr 1
  blk_ext [index_2 t]

theorem vB_eq (c : Dev nD) (t : Fin cfg0.N) : vB m c t = m ((c.tc : Thread nD τ).loc main_arg3) := by
  funext j
  unfold vB iblk
  blk_simp
  show m ((c.tc : Thread nD τ).loc main_arg3) _ = _
  congr 1
  blk_ext [index_3 t]

theorem woB_eq (c : Dev nD) (t : Fin cfg0.N) : woB m c t = m ((c.tc : Thread nD τ).loc main_arg4) := by
  funext j
  unfold woB iblk
  blk_simp
  show m ((c.tc : Thread nD τ).loc main_arg4) _ = _
  congr 1
  blk_ext [index_4 t]

/-! ## One head -/

/-- Column `d` of head `h`. -/
def hcol (h : Fin 8) (d : Fin 128) : Fin 1024 := ⟨128 * h.val + d.val, by omega⟩

theorem qV_apply (c : Dev nD) (t : Fin cfg0.N) (r : Fin 256) (e : Fin 1024) :
    qV m c t (ix2 r e) = ∑ k : Fin 1024, xB m c t (ix3 0 r k) * wqB m c t (ix2 k e) := by
  unfold qV
  pointwise [k0_pay23]

theorem headB_apply (B : Vec Ideal S1x1024x8x128 .f32) (h : Fin 8) (jj : Fin 1024) (d : Fin 128) :
    headB B h (ix4 0 jj 0 d) = B (ix4 0 jj h d) := by
  unfold headB
  pointwise

theorem headS_apply (q : FVec Ideal S256x1024 .f32) (mk : IVec S256x1024 1) (B : Vec Ideal S1x1024x8x128 .f32) (h : Fin 8)
    (r : Fin 256) (jj : Fin 1024) :
    headS q mk (headB B h) h (ix2 r jj) = Scalar.select (mk (ix2 r jj))
      ((∑ d : Fin 128, q (ix2 r (hcol h d)) * B (ix4 0 jj h d)) * Ideal.ofBits .f32 0x3DB504F3#32) (Ideal.ofBits .f32 0xCE6E6B28#32) := by
  unfold headS
  pointwise [headB_apply]
  rfl

theorem ofBits_neg_inf : Ideal.ofBits .f32 0xFF800000#32 = ⊥ := by simp [Ideal.ofBits, Ideal.ieee]

/-- The scale of the scores is a real number, -/
theorem scale_real : ∃ r : ℝ, Ideal.ofBits .f32 0x3DB504F3#32 = r :=
  ⟨11863283 * (2 ^ 27)⁻¹, by simp [Ideal.ofBits, Ideal.ieee]⟩
/-- and so is the score of a key that is not attended to. -/
theorem masked_real : ∃ r : ℝ, Ideal.ofBits .f32 0xCE6E6B28#32 = r :=
  ⟨-(15625000 * 2 ^ 6), by simp [Ideal.ofBits, Ideal.ieee]⟩

theorem rowMax_apply (s : FVec Ideal S256x1024 .f32) (r : Fin 256) :
    col (rowMax s) (ix2 r 0) = (Finset.univ : Finset (Fin 1024)).fold max ⊥ fun jj => s (ix2 r jj) := by
  unfold col rowMax
  pointwise
  rw [ofBits_neg_inf]

theorem headW_apply (s : FVec Ideal S256x1024 .f32) (x : FVec Ideal S256x1 .f32) (r : Fin 256) (jj : Fin 1024) :
    headW s x (ix2 r jj) = Ideal.exp (s (ix2 r jj) - x (ix2 r 0)) := by
  unfold headW
  pointwise

theorem rowSum_apply (w : FVec Ideal S256x1024 .f32) (r : Fin 256) :
    rowSum w (ix2 r 0) = ∑ jj : Fin 1024, w (ix2 r jj) := by
  unfold rowSum col
  pointwise

theorem headC_apply (w : FVec Ideal S256x1024 .f32) (B : Vec Ideal S1x1024x8x128 .f32) (h : Fin 8) (r : Fin 256) (d : Fin 128) :
    headC w (headB B h) (ix2 r d) = ∑ jj : Fin 1024, w (ix2 r jj) * B (ix4 0 jj h d) := by
  unfold headC
  pointwise [headB_apply]

end Cert.KP
-- ==== Proof.Comb.lean ====
/-
# The combination and the finished block read at an index
-/
module

public import proofs.«01_k».proof.Proof.Read

@[expose] public section

set_option maxRecDepth 16384

noncomputable section

namespace Cert.KP

open Cert.KernelIdeal Cert.KernelIdeal.Gen
open Idealize.ShloMosaic Idealize.ShloMosaic.TcCoe

/-- The column of head `h`'s maximum, -/
def colM (h : Fin 8) : Fin 16 := ⟨h.val, by omega⟩
/-- and of its sum. -/
def colL (h : Fin 8) : Fin 16 := ⟨8 + h.val, by omega⟩

variable (a : FVec Ideal S64x8x128 .f32 × FVec Ideal S64x16 .f32) (vc : Vec Ideal S1x64x8x128 .f32) (vs : Vec Ideal S1x64x16 .f32)
variable (r : Fin 64) (h : Fin 8) (e : Fin 128)

theorem combStep_max : (combStep a vc vs).2 (ix2 r (colM h)) = max (a.2 (ix2 r (colM h))) (vs (ix3 0 r (colM h))) := by
  unfold combStep colM
  unfold_payloads
  pointwise

theorem combStep_sum : (combStep a vc vs).2 (ix2 r (colL h))
    = a.2 (ix2 r (colL h)) * Ideal.exp (a.2 (ix2 r (colM h)) - max (a.2 (ix2 r (colM h))) (vs (ix3 0 r (colM h))))
      + vs (ix3 0 r (colL h)) * Ideal.exp (vs (ix3 0 r (colM h)) - max (a.2 (ix2 r (colM h))) (vs (ix3 0 r (colM h)))) := by
  unfold combStep colM colL
  unfold_payloads
  pointwise

theorem combStep_ctx : (combStep a vc vs).1 (ix3 r h e)
    = a.1 (ix3 r h e) * Ideal.exp (a.2 (ix2 r (colM h)) - max (a.2 (ix2 r (colM h))) (vs (ix3 0 r (colM h))))
      + vc (ix4 0 r h e) * Ideal.exp (vs (ix3 0 r (colM h)) - max (a.2 (ix2 r (colM h))) (vs (ix3 0 r (colM h)))) := by
  unfold combStep colM
  unfold_payloads
  pointwise

theorem pay12_apply : k0_pay12 vc (ix3 r h e) = vc (ix4 0 r h e) := by
  pointwise [k0_pay12]

theorem pay13_apply (k : Fin 16) : k0_pay13 vs (ix2 r k) = vs (ix3 0 r k) := by
  pointwise [k0_pay13]

theorem fin_apply (W : Vec Ideal S1024x1024 .f32) (n : Fin 1024) :
    fin a W (ix2 r n) = ∑ h : Fin 8, ∑ d : Fin 128, (a.1 (ix3 r h d) * Ideal.div 1 (a.2 (ix2 r (colL h)))) * W (ix2 (hcol h d) n) := by
  unfold fin woH
  unfold_payloads
  pointwise
  rw [Fin.sum_univ_eight]
  rfl

end Cert.KP
-- ==== Proof.Maths.lean ====
/-
# Weighted sums of values under exponential weights

A row of attention over the extended reals: the scores of the row are real numbers, the values it sums are any extended
reals. A partial result is a triple: a real shift, the sum of the exponentials of the shifted scores, and the sum of the
values under these exponentials as weights (`St`). Two partial results over different devices combine to one over both,
whatever the shifts are (`St.union`), and a complete one divided by its sum is the attention of the row (`St.norm`).
-/
module

public import Idealize.ShloMosaic.Lib.Pointwise

@[expose] public section

noncomputable section

namespace Cert.KP

open Idealize.ShloMosaic

/-- A nonnegative real factor goes into a sum of extended reals. -/
theorem real_mul_sum {ι : Type} (D : Finset ι) (r : ℝ) (hr : 0 ≤ r) (f : ι → EReal) :
    (∑ i ∈ D, f i) * (r : EReal) = ∑ i ∈ D, f i * (r : EReal) := by
  classical
  induction D using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- A sum of reals, as a sum of extended reals. -/
theorem coe_sum {ι : Type} (D : Finset ι) (f : ι → ℝ) : ((∑ i ∈ D, f i : ℝ) : EReal) = ∑ i ∈ D, (f i : EReal) := by
  classical
  induction D using Finset.induction_on with
  | empty => simp
  | insert a s ha ih => rw [Finset.sum_insert ha, Finset.sum_insert ha, EReal.coe_add, ih]

/-- The greater of two reals, as an extended real. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The greatest element of a nonempty list of reals, from minus infinity, is real. -/
theorem fold_max_real {ι : Type} [Fintype ι] [Nonempty ι] (f : ι → EReal) (hf : ∀ i, ∃ r : ℝ, f i = r) :
    ∃ r : ℝ, (Finset.univ : Finset ι).fold max ⊥ f = r := by
  classical
  have key : ∀ D : Finset ι, (D.fold max ⊥ f = ⊥ ∧ D = ∅) ∨ ∃ r : ℝ, D.fold max ⊥ f = r := by
    intro D
    induction D using Finset.induction_on with
    | empty => exact .inl ⟨rfl, rfl⟩
    | insert a s ha ih =>
      right
      rw [Finset.fold_insert ha]
      obtain ⟨x, hx⟩ := hf a
      rcases ih with ⟨h, _⟩ | ⟨r, h⟩
      · exact ⟨x, by rw [h, hx]; exact max_eq_left bot_le⟩
      · exact ⟨max x r, by rw [h, hx, coe_max]⟩
  rcases key Finset.univ with ⟨_, h⟩ | h
  · exact absurd h (Finset.univ_nonempty.ne_empty)
  · exact h

variable {δ κ ε : Type} [Fintype κ] [DecidableEq δ]

/-- The sum of the exponentials of the scores `s` shifted by `μ`, over the keys of the devices `D`. -/
def den (D : Finset δ) (s : δ → κ → ℝ) (μ : ℝ) : ℝ := ∑ d ∈ D, ∑ j, Real.exp (s d j - μ)

/-- The sum of the values `v` under these exponentials. -/
def num (D : Finset δ) (s : δ → κ → ℝ) (v : δ → κ → EReal) (μ : ℝ) : EReal :=
  ∑ d ∈ D, ∑ j, ((Real.exp (s d j - μ) : ℝ) : EReal) * v d j

omit [DecidableEq δ] in
theorem den_pos [Nonempty κ] (D : Finset δ) (hD : D.Nonempty) (s : δ → κ → ℝ) (μ : ℝ) : 0 < den D s μ :=
  Finset.sum_pos (fun d _ => Finset.sum_pos (fun j _ => Real.exp_pos _) Finset.univ_nonempty) hD

omit [DecidableEq δ] in
/-- A change of the shift is a factor of the sum of exponentials, -/
theorem den_shift (D : Finset δ) (s : δ → κ → ℝ) (μ ν : ℝ) : den D s μ * Real.exp (μ - ν) = den D s ν := by
  unfold den
  rw [Finset.sum_mul]
  refine Finset.sum_congr rfl fun d _ => ?_
  rw [Finset.sum_mul]
  refine Finset.sum_congr rfl fun j _ => ?_
  rw [← Real.exp_add]; congr 1; ring

omit [DecidableEq δ] in
/-- and of the weighted sum. -/
theorem num_shift (D : Finset δ) (s : δ → κ → ℝ) (v : δ → κ → EReal) (μ ν : ℝ) :
    num D s v μ * ((Real.exp (μ - ν) : ℝ) : EReal) = num D s v ν := by
  unfold num
  rw [real_mul_sum _ _ (Real.exp_pos _).le]
  refine Finset.sum_congr rfl fun d _ => ?_
  rw [real_mul_sum _ _ (Real.exp_pos _).le]
  refine Finset.sum_congr rfl fun j _ => ?_
  rw [mul_right_comm, ← EReal.coe_mul, ← Real.exp_add]
  congr 3; ring

/-- A partial result over the devices `D`: shift `x`, sum of exponentials `l`, weighted sums `c`. -/
def St (D : Finset δ) (s : δ → κ → ℝ) (v : δ → κ → ε → EReal) (x l : EReal) (c : ε → EReal) : Prop :=
  ∃ μ : ℝ, x = μ ∧ l = (den D s μ : ℝ) ∧ ∀ e, c e = num D s (fun d j => v d j e) μ

/-- Two partial results over different devices combine to one over both. -/
theorem St.union {D E : Finset δ} {s : δ → κ → ℝ} {v : δ → κ → ε → EReal} {x l y k : EReal} {c b : ε → EReal}
    (hD : St D s v x l c) (hE : St E s v y k b) (h : Disjoint D E) :
    St (D ∪ E) s v (max x y) (l * Ideal.exp (x - max x y) + k * Ideal.exp (y - max x y))
      (fun e => c e * Ideal.exp (x - max x y) + b e * Ideal.exp (y - max x y)) := by
  obtain ⟨μ, rfl, rfl, hc⟩ := hD
  obtain ⟨ν, rfl, rfl, hb⟩ := hE
  refine ⟨max μ ν, (coe_max μ ν).symm, ?_, fun e => ?_⟩
  · rw [← coe_max, ← EReal.coe_sub, ← EReal.coe_sub, Ideal.exp_coe, Ideal.exp_coe, ← EReal.coe_mul, ← EReal.coe_mul, ← EReal.coe_add,
      den_shift, den_shift]
    unfold den
    rw [Finset.sum_union h]
  · rw [← coe_max, ← EReal.coe_sub, ← EReal.coe_sub, Ideal.exp_coe, Ideal.exp_coe]
    show c e * _ + b e * _ = _
    rw [hc, hb, num_shift, num_shift]
    unfold num
    rw [Finset.sum_union h]

/-- Attention of a row: the values under the exponentials of the scores, each divided by their sum. -/
def attn (D : Finset δ) (s : δ → κ → ℝ) (v : δ → κ → EReal) : EReal :=
  ∑ d ∈ D, ∑ j, ((Real.exp (s d j) / den D s 0 : ℝ) : EReal) * v d j

omit [DecidableEq δ] in
/-- A shifted exponential over the shifted sum is the exponential over the sum. -/
theorem exp_div_den [Nonempty κ] (D : Finset δ) (hD : D.Nonempty) (s : δ → κ → ℝ) (μ a : ℝ) :
    Real.exp (a - μ) / den D s μ = Real.exp a / den D s 0 := by
  have h0 := (den_pos D hD s 0).ne'
  have hm := (den_pos D hD s μ).ne'
  rw [div_eq_div_iff hm h0, ← den_shift D s 0 μ, Real.exp_sub, zero_sub, Real.exp_neg]
  field_simp

omit [DecidableEq δ] in
/-- A complete partial result times the inverse of its sum is the attention of the row. -/
theorem St.norm [Nonempty κ] {D : Finset δ} (hD : D.Nonempty) {s : δ → κ → ℝ} {v : δ → κ → ε → EReal} {x l : EReal} {c : ε → EReal}
    (h : St D s v x l c) (e : ε) : c e * Ideal.div 1 l = attn D s (fun d j => v d j e) := by
  obtain ⟨μ, rfl, rfl, hc⟩ := h
  have hp := den_pos D hD s μ
  rw [hc, Ideal.div_coe hp.ne', one_mul]
  unfold num attn
  rw [real_mul_sum _ _ (by positivity)]
  refine Finset.sum_congr rfl fun d _ => ?_
  rw [real_mul_sum _ _ (by positivity)]
  refine Finset.sum_congr rfl fun j _ => ?_
  rw [mul_right_comm, ← EReal.coe_mul, ← exp_div_den D hD s μ, mul_one_div]

end Cert.KP
-- ==== Proof.Spec.lean ====
/-
# The attention both programs compute

The scores and the result, over the whole arrays, that the kernel's devices share out and the reference computes in one
piece.
-/
module

public import proofs.«01_k».proof.Proof.Comb
public import proofs.«01_k».proof.Proof.Maths

@[expose] public section

set_option maxRecDepth 16384

noncomputable section

namespace Cert.KP

open Cert.KernelIdeal Cert.KernelIdeal.Gen
open Idealize.ShloMosaic Idealize.ShloMosaic.TcCoe

/-- The shape of all the keys, and of all the values. -/
abbrev SKeys : Shape := ⟨4, ![1, 16384, 8, 128]⟩

/-- Key `jj` of device `d` is key `1024 d + jj`. -/
def gkey (d : Fin 16) (jj : Fin 1024) : Fin 16384 := ⟨d.val * 1024 + jj.val, by omega⟩

variable (X : Vec Ideal S1x1024x1024 .f32) (WQ : Vec Ideal S1024x1024 .f32) (KK VV : Vec Ideal SKeys .f32) (WO : Vec Ideal S1024x1024 .f32)

/-- The query `i` projected: its entry `e`. -/
def query (i e : Fin 1024) : EReal := ∑ k : Fin 1024, X (ix3 0 i k) * WQ (ix2 k e)

/-- The masked score of query `i` and key `j` in head `h`. -/
def score (i : Fin 1024) (h : Fin 8) (j : Fin 16384) : EReal :=
  Scalar.select (BitVec.ofBool (attends (i.val / 64) (j.val / 64)))
    ((∑ d : Fin 128, query X WQ i (hcol h d) * KK (ix4 0 j h d)) * Ideal.ofBits .f32 0x3DB504F3#32) (Ideal.ofBits .f32 0xCE6E6B28#32)

/-- The values of head `h`, by device, key and entry. -/
def vals (h : Fin 8) (d : Fin 16) (jj : Fin 1024) (e : Fin 128) : EReal := VV (ix4 0 (gkey d jj) h e)

/-- The result's entry `n` of row `i`, from real scores `sc`. -/
def result (sc : Fin 1024 → Fin 8 → Fin 16384 → ℝ) (i n : Fin 1024) : EReal :=
  ∑ h : Fin 8, ∑ e : Fin 128, attn Finset.univ (fun d jj => sc i h (gkey d jj)) (fun d jj => vals VV h d jj e) * WO (ix2 (hcol h e) n)

/-- A product of real numbers is real, -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- and so is a sum of them. -/
theorem real_sum {ι : Type} [Fintype ι] {f : ι → EReal} (hf : ∀ i, ∃ r : ℝ, f i = r) : ∃ r : ℝ, ∑ i, f i = r := by
  choose g hg using hf
  refine ⟨∑ i, g i, ?_⟩
  rw [coe_sum]
  exact Finset.sum_congr rfl fun i _ => hg i

/-- Of real queries, projection and keys the scores are real. -/
theorem score_real (hX : ∀ i, ∃ r : ℝ, X i = r) (hW : ∀ i, ∃ r : ℝ, WQ i = r) (hK : ∀ i, ∃ r : ℝ, KK i = r)
    (i : Fin 1024) (h : Fin 8) (j : Fin 16384) : ∃ r : ℝ, score X WQ KK i h j = r := by
  have h1 := real_mul (real_sum fun d : Fin 128 => real_mul (x := query X WQ i (hcol h d)) (real_sum fun k => real_mul (hX (ix3 0 i k)) (hW (ix2 k (hcol h d))))
    (hK (ix4 0 j h d))) scale_real
  unfold score
  cases attends (i.val / 64) (j.val / 64)
  · exact masked_real
  · exact h1

end Cert.KP
-- ==== Proof.RefMask.lean ====
/-
# The reference's mask read at an index
-/
module

public import proofs.«01_k».proof.Proof.RefTerm
public import proofs.«01_k».proof.Proof.Spec

@[expose] public section

set_option maxRecDepth 16384

noncomputable section

namespace Cert.RV

open Cert.ReferenceIdeal Cert.ReferenceIdeal.Gen
open Idealize.ShloMosaic Idealize.ShloMosaic.TcCoe
open Cert.KP (attends rfloor rsign rmod rmask rthree rfloor_eq rmask_eq hcol score query gkey)

theorem rowBlk_apply (i : Fin 1024) : rowBlk (ix1 i) = BitVec.ofNat 32 (i.val / 64) := by
  have e : rowBlk (ix1 i) = rfloor (BitVec.ofNat 32 i.val) := by
    unfold rowBlk
    pointwise
    rfl
  have := rfloor_eq 0 i
  rw [e]
  simpa using this

theorem keyBlk_apply (j : Fin 16384) : keyBlk (ix1 j) = BitVec.ofNat 32 (j.val / 64) := by
  have e : keyBlk (ix1 j) = rfloor (BitVec.ofNat 32 j.val) := by
    unfold keyBlk
    pointwise
    rfl
  have := rfloor_eq ⟨j.val / 1024, by omega⟩ ⟨j.val % 1024, Nat.mod_lt _ (by decide)⟩
  rw [e]
  simpa only [Nat.div_add_mod] using this

theorem rem_apply (i : Fin 1024) (j : Fin 16384) :
    rem (ix2 i j) = IntOp.remsi .host (IntOp.addi (rowBlk (ix1 i)) (keyBlk (ix1 j))) rthree := by
  unfold rem rowBlk2 keyBlk2 keyBlk1 three
  pointwise
  rfl

theorem mask_apply (i : Fin 1024) (j : Fin 16384) : mask (ix2 i j) = BitVec.ofBool (attends (i.val / 64) (j.val / 64)) := by
  have e : mask (ix2 i j) = rmask (rowBlk (ix1 i)) (keyBlk (ix1 j)) := by
    unfold mask rowBlk2 keyBlk2 keyBlk1 three
    pointwise [rem_apply]
    rfl
  have h := rmask_eq ⟨i.val / 64, by omega⟩ ⟨j.val / 64, by omega⟩
  rw [e, rowBlk_apply, keyBlk_apply]
  exact h

end Cert.RV
-- ==== Proof.RefKeep.lean ====
/-
# The reference's scores and the rows it keeps
-/
module

public import proofs.«01_k».proof.Proof.RefMask

@[expose] public section

set_option maxRecDepth 16384

noncomputable section

namespace Cert.RV

open Cert.ReferenceIdeal Cert.ReferenceIdeal.Gen
open Idealize.ShloMosaic Idealize.ShloMosaic.TcCoe
open Cert.KP (attends rfloor rsign rmod rmask rthree rfloor_eq rmask_eq hcol score query gkey)

/-- A fold by "or" that meets a 1 is 1. -/
theorem foldl_ori_one {ι : Type} (f : ι → BitVec 1) : ∀ (l : List ι) (init : BitVec 1), (init = 1#1 ∨ ∃ n ∈ l, f n = 1#1) →
    l.foldl (fun r n => IntOp.ori r (f n)) init = 1#1
  | [], init, h => by simpa using h
  | a :: l, init, h => by
    refine foldl_ori_one f l _ ?_
    rcases h with h | ⟨n, hn, h⟩
    · exact .inl (by show IntOp.ori init (f a) = 1#1; rw [h]; generalize f a = b; revert b; decide)
    · rcases List.mem_cons.mp hn with e | hn
      · exact .inl (by show IntOp.ori init (f a) = 1#1; rw [← e, h]; generalize init = b; revert b; decide)
      · exact .inr ⟨n, hn, h⟩

/-- Every query attends to the first block of keys. -/
theorem rowKeep_apply (i : Fin 1024) : rowKeep (ix1 i) = 1#1 := by
  unfold rowKeep
  rw [Host.reduce_eq_foldl]
  refine foldl_ori_one mask _ _ (.inr ⟨ix2 i 0, ?_, ?_⟩)
  · rw [List.mem_filter]
    refine ⟨List.mem_map.2 ⟨_, List.mem_finRange _, Equiv.symm_apply_apply _ _⟩, ?_⟩
    simp only [decide_eq_true_eq]
    funext a
    fin_cases a
    exact Fin.ext rfl
  · rw [mask_apply]
    unfold attends
    simp

variable (X : Vec Ideal S1x1024x1024 .f32) (WQ : Vec Ideal S1024x1024 .f32) (KK VV : Vec Ideal S1x16384x8x128 .f32) (WO : Vec Ideal S1024x1024 .f32)

theorem scores_apply (i : Fin 1024) (h : Fin 8) (j : Fin 16384) : scores X WQ KK (ix4 0 h i j) = score X WQ KK i h j := by
  unfold scores score query
  pointwise [mask_apply]
  have e : ∀ (d : Fin 128) (hd : h.val * 128 + d.val < 1024), (⟨h.val * 128 + d.val, hd⟩ : Fin 1024) = hcol h d := fun d _ =>
    Fin.ext (by unfold hcol; show h.val * 128 + d.val = 128 * h.val + d.val; omega)
  simp only [e]
  rfl

end Cert.RV
-- ==== Proof.RefVal.lean ====
/-
# The reference's pieces read at an index
-/
module

public import proofs.«01_k».proof.Proof.RefTerm
public import proofs.«01_k».proof.Proof.Spec
public import Idealize.ShloMosaic.Lib.Pipeline.ValueKit

@[expose] public section

set_option maxRecDepth 16384

noncomputable section

namespace Cert.RV

open Cert.ReferenceIdeal Cert.ReferenceIdeal.Gen
open Idealize.ShloMosaic Idealize.ShloMosaic.TcCoe
open Cert.KP (attends rfloor rsign rmod rmask rthree rfloor_eq rmask_eq hcol score query gkey)

variable (X : Vec Ideal S1x1024x1024 .f32) (WQ : Vec Ideal S1024x1024 .f32) (KK VV : Vec Ideal S1x16384x8x128 .f32) (WO : Vec Ideal S1024x1024 .f32)

variable (s w : FVec Ideal S1x8x1024x16384 .f32)

theorem top_apply (h : Fin 8) (i : Fin 1024) :
    top s (ix3 0 h i) = (Finset.univ : Finset (Fin 16384)).fold max ⊥ fun j => s (ix4 0 h i j) := by
  unfold top
  pointwise
  rw [Cert.KP.ofBits_neg_inf]

theorem expo_apply (h : Fin 8) (i : Fin 1024) (j : Fin 16384) :
    expo s (ix4 0 h i j) = Ideal.exp (s (ix4 0 h i j) - top s (ix3 0 h i)) := by
  unfold expo
  pointwise

theorem total_apply (h : Fin 8) (i : Fin 1024) : total w (ix3 0 h i) = ∑ j : Fin 16384, w (ix4 0 h i j) := by
  unfold total
  pointwise

theorem weights_apply (k : IVec S1024 1) (t : FVec Ideal S1x8x1024 .f32) (h : Fin 8) (i : Fin 1024) (j : Fin 16384) (hk : k (ix1 i) = 1#1) :
    weights k w t (ix4 0 h i j) = Ideal.div (w (ix4 0 h i j)) (t (ix3 0 h i)) := by
  unfold weights
  pointwise [hk]

theorem ctx_apply (h : Fin 8) (e : Fin 128) (i : Fin 1024) :
    ctx VV w (ix4 0 h e i) = ∑ j : Fin 16384, VV (ix4 0 j h e) * w (ix4 0 h i j) := by
  unfold ctx
  pointwise

theorem outp_apply (c : FVec Ideal S1x8x128x1024 .f32) (i n : Fin 1024) :
    outp WO c (ix3 0 i n) = ∑ h : Fin 8, ∑ e : Fin 128, c (ix4 0 h e i) * WO (ix2 (hcol h e) n) := by
  unfold outp
  pointwise
  refine Fin.sum_divmod_congr fun t ht hs => ?_
  congr 2
  exact congrArg (fun y => ix2 y n) (Fin.ext (by unfold hcol; show t.val = 128 * (t.val / 128) + t.val % 128; omega))

end Cert.RV
-- ==== Proof.RefOut.lean ====
/-
# What the reference computes is the attention
-/
module

public import proofs.«01_k».proof.Proof.RefKeep
public import proofs.«01_k».proof.Proof.RefVal

@[expose] public section

set_option maxRecDepth 16384

noncomputable section

namespace Cert.RV

open Cert.ReferenceIdeal Cert.ReferenceIdeal.Gen
open Idealize.ShloMosaic Idealize.ShloMosaic.TcCoe
open Cert.KP (score gkey hcol result vals attn den fold_max_real coe_sum den_pos exp_div_den)

/-- A sum over all the keys is a sum over the devices and each one's keys. -/
theorem sum_keys {M : Type} [AddCommMonoid M] (f : Fin 16384 → M) : ∑ j, f j = ∑ d : Fin 16, ∑ jj : Fin 1024, f (gkey d jj) :=
  (Fin.sum_mul_add_congr (f := f) (F := fun d jj => f (gkey d jj)) fun d jj _ => rfl).symm

variable {X : Vec Ideal S1x1024x1024 .f32} {WQ : Vec Ideal S1024x1024 .f32} {KK : Vec Ideal S1x16384x8x128 .f32}
variable (VV : Vec Ideal S1x16384x8x128 .f32) (WO : Vec Ideal S1024x1024 .f32)
variable {sc : Fin 1024 → Fin 8 → Fin 16384 → ℝ} (hsc : ∀ i h j, score X WQ KK i h j = sc i h j)
include hsc

/-- The weights are the exponentials of the scores over their sum. -/
theorem attnW_apply (i : Fin 1024) (h : Fin 8) (j : Fin 16384) : attnW (scores X WQ KK) (ix4 0 h i j)
    = ((Real.exp (sc i h j) / den Finset.univ (fun (d : Fin 16) (jj : Fin 1024) => sc i h (gkey d jj)) 0 : ℝ) : EReal) := by
  have hs : ∀ j, scores X WQ KK (ix4 0 h i j) = (sc i h j : ℝ) := fun j => (scores_apply X WQ KK i h j).trans (hsc i h j)
  obtain ⟨μ, hμ⟩ := fold_max_real (fun j => scores X WQ KK (ix4 0 h i j)) (fun j => ⟨_, hs j⟩)
  have hw : ∀ j, expo (scores X WQ KK) (ix4 0 h i j) = (Real.exp (sc i h j - μ) : ℝ) := fun j => by
    rw [expo_apply, top_apply, hμ, hs, ← EReal.coe_sub]
    rfl
  have ht : total (expo (scores X WQ KK)) (ix3 0 h i) = (den Finset.univ (fun (d : Fin 16) (jj : Fin 1024) => sc i h (gkey d jj)) μ : ℝ) := by
    rw [total_apply, Finset.sum_congr rfl fun j _ => hw j, ← coe_sum, sum_keys]
    rfl
  have e : attnW (scores X WQ KK) (ix4 0 h i j) = Ideal.div (expo (scores X WQ KK) (ix4 0 h i j)) (total (expo (scores X WQ KK)) (ix3 0 h i)) := by
    unfold attnW
    exact weights_apply (expo (scores X WQ KK)) rowKeep (total (expo (scores X WQ KK))) h i j (rowKeep_apply i)
  rw [e, hw, ht, Ideal.div_coe (den_pos _ Finset.univ_nonempty _ _).ne']
  exact (EReal.coe_mul _ _).symm.trans (congrArg _ ((mul_one_div _ _).trans (exp_div_den _ Finset.univ_nonempty _ _ _)))

/-- The reference's result is the attention. -/
theorem out_apply (i n : Fin 1024) : outp WO (ctx VV (attnW (scores X WQ KK))) (ix3 0 i n) = result VV WO sc i n := by
  rw [outp_apply]
  unfold result attn vals
  refine Finset.sum_congr rfl fun h _ => Finset.sum_congr rfl fun e _ => ?_
  refine congrArg (· * WO (ix2 (hcol h e) n)) ?_
  rw [ctx_apply, sum_keys]
  refine Finset.sum_congr rfl fun d _ => Finset.sum_congr rfl fun jj _ => ?_
  rw [attnW_apply hsc, mul_comm]

end Cert.RV
-- ==== Proof.KerVal.lean ====
/-
# What the kernel computes is the attention
-/
module

public import proofs.«01_k».proof.Proof.Spec

@[expose] public section

set_option maxRecDepth 16384

noncomputable section

namespace Cert.KP

open Cert.KernelIdeal Cert.KernelIdeal.Gen
open Idealize.ShloMosaic Idealize.ShloMosaic.TcCoe

variable (m : (ℓ : Loc nD τ sig) → Buf (Elt Ideal) ℓ)
variable {X : Vec Ideal S1x1024x1024 .f32} {WQ : Vec Ideal S1024x1024 .f32} {KK VV : Vec Ideal SKeys .f32} {WO : Vec Ideal S1024x1024 .f32}

/-- Every device holds the queries and the projections, and its own block of the keys and of the values. -/
structure Holds (X : Vec Ideal S1x1024x1024 .f32) (WQ : Vec Ideal S1024x1024 .f32) (KK VV : Vec Ideal SKeys .f32)
    (WO : Vec Ideal S1024x1024 .f32) : Prop where
  x : ∀ c : Dev nD, m ((c.tc : Thread nD τ).loc main_arg0) = X
  wq : ∀ c : Dev nD, m ((c.tc : Thread nD τ).loc main_arg1) = WQ
  k : ∀ (c : Dev nD) (jj : Fin 1024) (h : Fin 8) (d : Fin 128),
    m ((c.tc : Thread nD τ).loc main_arg2) (ix4 0 jj h d) = KK (ix4 0 (gkey c jj) h d)
  v : ∀ (c : Dev nD) (jj : Fin 1024) (h : Fin 8) (d : Fin 128),
    m ((c.tc : Thread nD τ).loc main_arg3) (ix4 0 jj h d) = VV (ix4 0 (gkey c jj) h d)
  wo : ∀ c : Dev nD, m ((c.tc : Thread nD τ).loc main_arg4) = WO

variable {m} (H : Holds m X WQ KK VV WO)
include H

/-- A device's scores are those of its keys. -/
theorem sV_apply (c : Dev nD) (t : Fin cfg0.N) (h : Fin 8) (r : Fin 256) (jj : Fin 1024) :
    sV m c t h (ix2 r jj) = score X WQ KK (qrow t r) h (gkey c jj) := by
  unfold sV score query
  rw [headS_apply, maskV_eq]
  have e1 : (gkey c jj).val / 64 = 16 * c.val + jj.val / 64 := by unfold gkey; show (c.val * 1024 + jj.val) / 64 = _; omega
  rw [e1]
  congr 2
  refine Finset.sum_congr rfl fun d _ => ?_
  rw [qV_apply, kB_eq, H.k]
  congr 1
  refine Finset.sum_congr rfl fun k _ => ?_
  rw [xB_apply, wqB_eq, H.x, H.wq]

variable {sc : Fin 1024 → Fin 8 → Fin 16384 → ℝ} (hsc : ∀ i h j, score X WQ KK i h j = sc i h j)
include hsc

/-- What a device computes of a row and head is the partial result over its own keys. -/
theorem part_St (c : Dev nD) (t : Fin cfg0.N) (h : Fin 8) (r : Fin 256) :
    St {c} (fun d jj => sc (qrow t r) h (gkey d jj)) (vals VV h) (mV m c t h (ix2 r 0)) (lV m c t h (ix2 r 0))
      (fun e => cV m c t h (ix2 r e)) := by
  have hs : ∀ jj, sV m c t h (ix2 r jj) = (sc (qrow t r) h (gkey c jj) : ℝ) := fun jj => (sV_apply H c t h r jj).trans (hsc _ _ _)
  obtain ⟨μ, hμ⟩ := fold_max_real (fun jj => sV m c t h (ix2 r jj)) (fun jj => ⟨_, hs jj⟩)
  have hm : mV m c t h (ix2 r 0) = μ := (rowMax_apply _ _).trans hμ
  have hw : ∀ jj, wV m c t h (ix2 r jj) = (Real.exp (sc (qrow t r) h (gkey c jj) - μ) : ℝ) := fun jj => by
    unfold wV
    rw [headW_apply, hs, hm, ← EReal.coe_sub]
    rfl
  refine ⟨μ, hm, ?_, fun e => ?_⟩
  · unfold lV den
    rw [rowSum_apply, Finset.sum_singleton, coe_sum]
    exact Finset.sum_congr rfl fun jj _ => hw jj
  · unfold cV num vals
    refine (headC_apply _ _ _ _ _).trans ?_
    rw [Finset.sum_singleton]
    refine Finset.sum_congr rfl fun jj _ => ?_
    rw [hw, vB_eq, H.v]

omit H hsc in
/-- The devices whose partial results the first `n` trips on device `c` have combined. -/
def seen (c : Dev nD) (n : ℕ) : Finset (Dev nD) := Finset.univ.filter fun d => d = c ∨ ∃ k : Fin 15, k.val < n ∧ d = peer c k

omit H hsc in
theorem seen_zero (c : Dev nD) : seen c 0 = {c} := by
  ext d
  simp [seen]

omit H hsc in
theorem seen_succ (c : Dev nD) (n : Fin 15) : seen c (n.val + 1) = seen c n.val ∪ {peer c n} := by
  ext d
  simp only [seen, Finset.mem_filter, Finset.mem_univ, true_and, Finset.mem_union, Finset.mem_singleton]
  constructor
  · rintro (h | ⟨k, hk, h⟩)
    · exact .inl (.inl h)
    · rcases Nat.lt_succ_iff_lt_or_eq.mp hk with hk | hk
      · exact .inl (.inr ⟨k, hk, h⟩)
      · exact .inr (by rw [h, Fin.ext hk])
  · rintro ((h | ⟨k, hk, h⟩) | h)
    · exact .inl h
    · exact .inr ⟨k, by omega, h⟩
    · exact .inr ⟨n, by omega, h⟩

omit H hsc in
theorem seen_disjoint (c : Dev nD) (n : Fin 15) : Disjoint (seen c n.val) {peer c n} := by
  rw [Finset.disjoint_singleton_right]
  simp only [seen, Finset.mem_filter, Finset.mem_univ, true_and, not_or, not_exists, not_and]
  exact ⟨peer_ne c n, fun k hk h => absurd (Fin.succAbove_right_injective h) (by rintro rfl; exact lt_irrefl _ hk)⟩

omit H hsc in
theorem seen_all (c : Dev nD) : seen c 15 = Finset.univ := by
  ext d
  simp only [seen, Finset.mem_filter, Finset.mem_univ, true_and, iff_true]
  rcases eq_or_ne d c with h | h
  · exact .inl h
  · obtain ⟨k, hk⟩ := Fin.exists_succAbove_eq h
    exact .inr ⟨k, k.isLt, hk.symm⟩

/-- Row `a` of device `p`'s block of rows. -/
def orow (p : Dev nD) (a : Fin 64) : Fin 1024 := ⟨64 * p.val + a.val, by have : p.val < 16 := p.isLt; omega⟩

omit H hsc in
theorem qrow_eq (p : Dev nD) (a : Fin 64) : qrow (pt (p.val / 4)) (row256 (p.val % 4) a) = orow p a := by
  have : p.val < 16 := p.isLt
  refine Fin.ext ?_
  show 256 * (p.val / 4 % 4) + (64 * (p.val % 4) + a.val) % 256 = 64 * p.val + a.val
  omega

/-- What device `q` keeps for row `a` of device `p`'s block is the partial result over `q`'s keys. -/
theorem kept_St (q p : Dev nD) (a : Fin 64) (h : Fin 8) :
    St {q} (fun d jj => sc (orow p a) h (gkey d jj)) (vals VV h) (LS m q (ix3 p a (colM h))) (LS m q (ix3 p a (colL h)))
      (fun e => LC m q (ix4 p a h e)) := by
  have hS := part_St H hsc q (pt (p.val / 4)) h (row256 (p.val % 4) a)
  rw [qrow_eq] at hS
  have e1 : LS m q (ix3 p a (colM h)) = mV m q (pt (p.val / 4)) h (ix2 (row256 (p.val % 4) a) 0) := by
    have : (colM h).val < 8 := h.isLt
    exact dif_pos this
  have e2 : LS m q (ix3 p a (colL h)) = lV m q (pt (p.val / 4)) h (ix2 (row256 (p.val % 4) a) 0) := by
    have h8 : ¬ (colL h).val < 8 := by show ¬ 8 + h.val < 8; omega
    have h9 : (⟨(colL h).val - 8, by have : (colL h).val < 16 := (colL h).isLt; omega⟩ : Fin 8) = h :=
      Fin.ext (by show 8 + h.val - 8 = h.val; omega)
    exact (dif_neg h8).trans (congrArg (fun g => lV m q (pt (p.val / 4)) g (ix2 (row256 (p.val % 4) a) 0)) h9)
  rw [e1, e2]
  exact hS

/-- After `n` trips the running pair is the partial result over the keys of the devices seen. -/
theorem comb_St (c : Dev nD) (a : Fin 64) (h : Fin 8) (n : ℕ) (hn : n ≤ 15) :
    St (seen c n) (fun d jj => sc (orow c a) h (gkey d jj)) (vals VV h) ((comb m c n).2 (ix2 a (colM h)))
      ((comb m c n).2 (ix2 a (colL h))) (fun e => (comb m c n).1 (ix3 a h e)) := by
  induction n with
  | zero =>
    rw [seen_zero]
    have := kept_St H hsc c c a h
    simp only [comb, pay12_apply, pay13_apply]
    exact this
  | succ n ih =>
    have hlt : n < 15 := hn
    have hu := (ih hlt.le).union (kept_St H hsc (peer c ⟨n, hlt⟩) c a h) (seen_disjoint c ⟨n, hlt⟩)
    rw [← seen_succ c ⟨n, hlt⟩] at hu
    have e : comb m c (n + 1) = combStep (comb m c n) (blkC (RC m c) (peer c ⟨n, hlt⟩)) (blkS (RS m c) (peer c ⟨n, hlt⟩)) := dif_pos hlt
    rw [e]
    simp only [combStep_max, combStep_sum, combStep_ctx]
    exact hu

/-- A device's finished block is its rows of the attention. -/
theorem OV_apply (c : Dev nD) (a : Fin 64) (n : Fin 1024) : OV m c (ix2 a n) = result VV WO sc (orow c a) n := by
  unfold OV result
  rw [fin_apply, woB_eq, H.wo]
  refine Finset.sum_congr rfl fun h _ => Finset.sum_congr rfl fun e _ => ?_
  have hS := comb_St H hsc c a h 15 le_rfl
  rw [seen_all] at hS
  rw [hS.norm Finset.univ_nonempty e]

/-- The output array is the attention. -/
theorem OUT_apply (i n : Fin 1024) : OUT m (ix3 0 i n) = result VV WO sc i n := by
  have hi := i.isLt
  have e : orow (⟨i.val / 64, by omega⟩ : Fin 16) ⟨i.val % 64, Nat.mod_lt _ (by decide)⟩ = i :=
    Fin.ext (by show 64 * (i.val / 64) + i.val % 64 = i.val; omega)
  have := OV_apply H hsc (⟨i.val / 64, by omega⟩ : Fin 16) ⟨i.val % 64, Nat.mod_lt _ (by decide)⟩ n
  rw [e] at this
  rw [← this]
  unfold OUT
  rw [ix2_eq_valueIdx]
  rfl

end Cert.KP
-- ==== Proof.Whole.lean ====
/-
# The output array at the end, and what the claims' hypotheses say
-/
module

public import proofs.«01_k».proof.Proof.Run
public import proofs.«01_k».proof.Proof.KerVal
public import Idealize.ShloMosaic.Lib.Pipeline.ValueKit

@[expose] public section

set_option maxRecDepth 16384

noncomputable section

namespace Cert.KP

open Cert.KernelIdeal Cert.KernelIdeal.Gen
open Idealize.ShloMosaic Idealize.ShloMosaic.TcCoe

variable {F : FTy → Type} [FloatOps F]
variable (m : (ℓ : Loc nD τ sig) → Buf (Elt F) ℓ)

/-- The output array ends as the gathered blocks. -/
theorem final_out (c : Dev nD) : finalA m c 5 = OUT m :=
  (dats m 0 c).arrAt_eq_of_after_last 5 (pt 3) (by decide +kernel) (OUT m) fun j => by
    blk_simp
    rfl

/-- An extended real whose absolute value is below infinity is a real number. -/
theorem real_of_abs_lt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  replace h := max_lt_iff.mp ((Ideal.cmp_olt_eq_one _ _).mp h)
  induction x with
  | bot => simp at h
  | coe r => exact ⟨r, rfl⟩
  | top => simp at h

/-- An array all of whose absolute values test below infinity is of real numbers. -/
theorem reals_of_finite {s z : Shape} (x : FVec Ideal s .f32) (ds : Fin z.rank → Fin s.rank) (hb : z.BroadcastsInDim s ds)
    (h : cmpf .olt (Host.absf x) (broadcastInDim s ds hb (constant z .f32 0x7F800000#32)) = fun _ => 1#1) (i : s.Idx) : ∃ r : ℝ, x i = r :=
  real_of_abs_lt (x i) (congrFun h i)

/-- A block of the keys or values at an index. -/
theorem block_keys (A : Vec Ideal SKeys .f32) (c : Fin 16) (jj : Fin 1024) (h : Fin 8) (d : Fin 128) :
    Layout.block ⟨4, ![1, 1024, 8, 128]⟩ SKeys 1 16 c A (by decide) (ix4 0 jj h d) = A (ix4 0 (gkey c jj) h d) := by
  rw [Layout.block_apply]
  congr 1
  funext a
  fin_cases a <;> exact Fin.ext rfl

/-- Every key is some device's. -/
theorem keys_of_blocks {P : EReal → Prop} (A : Vec Ideal SKeys .f32)
    (h : ∀ (c : Fin 16) (jj : Fin 1024) (h : Fin 8) (d : Fin 128), P (A (ix4 0 (gkey c jj) h d))) (i : SKeys.Idx) : P (A i) := by
  have h0 : (i 0).val < 1 := (i 0).isLt
  have h1 : (i 1).val < 16384 := (i 1).isLt
  have e : ix4 0 (gkey ⟨(i 1).val / 1024, by omega⟩ ⟨(i 1).val % 1024, Nat.mod_lt _ (by decide)⟩) (i 2) (i 3) = i := by
    funext a
    fin_cases a
    · exact Fin.ext (by show 0 = (i 0).val; omega)
    · exact Fin.ext (by show (i 1).val / 1024 * 1024 + (i 1).val % 1024 = (i 1).val; omega)
    · rfl
    · rfl
  rw [← e]
  exact h _ _ _ _

end Cert.KP
-- ==== Proof.Same.lean ====
/-
# The two printings of the kernel have one body table

The kernel is printed once for the device words and once for the extended reals, with the same text.  Read over the same
float values the two body tables are equal, so a run of one is a run of the other.
-/
module

public import proofs.«01_k».proof.Proof.Gen.Kernel
public import proofs.«01_k».proof.Proof.Gen.KernelIdeal

@[expose] public section

set_option maxRecDepth 16384

namespace Cert.KP

open Idealize.ShloMosaic Idealize.SL.Sem

variable {F : FTy → Type} [FloatOps F]

set_option backward.isDefEq.respectTransparency false in
/-- The kernels' own bodies agree. -/
theorem kernel_bodies : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    dsimp only
    have hb : Cert.Kernel.cc0__body (F := F) = Cert.KernelIdeal.cc0__body (F := F) := rfl
    rw [hb]
    rfl

set_option backward.isDefEq.respectTransparency false in
/-- The whole body tables agree. -/
theorem kernel_defs : Cert.Kernel.defs (F := F) = Cert.KernelIdeal.defs (F := F) := by
  unfold Cert.Kernel.defs Cert.KernelIdeal.defs
  exact congrArg (Pipeline.defs (Cert.KernelIdeal.pcfgs (F := F))) kernel_bodies

end Cert.KP
-- ==== Proof.lean ====
/- The certificate: the claims of Defs.lean, from the run of the kernel (Proof/Run.lean) and the run of the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Run
public import proofs.«01_k».proof.Proof.RefOut
public import proofs.«01_k».proof.Proof.Whole
public import proofs.«01_k».proof.Proof.Same

@[expose] public section

set_option maxRecDepth 16384

namespace Cert.Proof

open Idealize.ShloMosaic Idealize.SL.Sem

set_option backward.isDefEq.respectTransparency false in
/-- At the end of the run over the device words each device's five arguments are what they were, and every semaphore is
    back at zero. -/
theorem frame_kernel : Cert.quiescent_Kernel := by
  intro m ρ _
  have h := (θ_run (Cert.KernelIdeal.defs (F := Bits)) (onTc (τ := Cert.KernelIdeal.τ) (Cert.KernelIdeal.main (F := Bits))) ⟨m, fun _ => 0, ρ⟩).mono
    (fun r (h : KP.Ends m r ∧ r.2.sem = fun _ => 0) => KP.ends_args m r h) (KP.run_main (F := Bits) m ρ)
  rw [KP.kernel_defs]
  exact h

/-- The same over the extended reals. -/
theorem frame_kernelIdeal : Cert.quiescent_KernelIdeal := fun m ρ _ =>
  (θ_run Cert.KernelIdeal.defs _ _).mono (fun r h => KP.ends_args m r h) (KP.run_main (F := Ideal) m ρ)

/-- The reference leaves its five arguments, and has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The last two again, of arguments whose scores are finite. -/
theorem frame_kernelIdeal_finite : Cert.quiescent_KernelIdeal_pre_finite_scores_KernelIdeal := fun m ρ _ =>
  frame_kernelIdeal m ρ trivial

theorem frame_reference_finite : Cert.quiescent_ReferenceIdeal_pre_finite_scores_ReferenceIdeal := fun m ρ _ =>
  frame_reference m ρ trivial

/-- Of finite queries, projection and keys, on every device the kernel's result is the reference's. -/
theorem same_result : Cert.algebraic_KernelIdeal_ReferenceIdeal_pre_finite_scores_KernelIdeal := by
  intro m g m' g' hpre hin
  have H : KP.Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c => (hin c).1
      wq := fun c => (hin c).2.1
      k := fun c jj h d => (congrFun (hin c).2.2.1 _).trans (KP.block_keys _ c jj h d)
      v := fun c jj h d => (congrFun (hin c).2.2.2.1 _).trans (KP.block_keys _ c jj h d)
      wo := fun c => (hin c).2.2.2.2 }
  have hX := fun i => (congrFun (H.x 0) i) ▸ KP.reals_of_finite _ _ _ (hpre 0).1 i
  have hW := fun i => (congrFun (H.wq 0) i) ▸ KP.reals_of_finite _ _ _ (hpre 0).2.1 i
  have hK := KP.keys_of_blocks (P := fun y => ∃ r : ℝ, y = r) _ fun c jj h d =>
    (H.k c jj h d) ▸ KP.reals_of_finite _ _ _ (hpre c).2.2 (ix4 0 jj h d)
  choose sc hsc using fun i h j => KP.score_real _ _ _ hX hW hK i h j
  have hout : Cert.ReferenceIdeal.Value.res_main_v44 m' 0 = KP.OUT m := by
    rw [RV.res_eq]
    funext i
    have h0 : (i 0).val < 1 := (i 0).isLt
    have e : ix3 0 (i 1) (i 2) = i := by
      funext a
      fin_cases a
      · exact Fin.ext (by show 0 = (i 0).val; omega)
      · rfl
      · rfl
    rw [← e]
    exact (RV.out_apply _ _ hsc (i 1) (i 2)).trans (KP.OUT_apply H hsc (i 1) (i 2)).symm
  refine ⟨KP.OUT m, ?_, ?_⟩
  · exact (θ_run Cert.KernelIdeal.defs _ _).mono
      (fun r h c => ⟨(h.1 c 5).trans (KP.final_out m c), (KP.ends_args m r h).1 c⟩) (KP.run_main (F := Ideal) m g)
  · exact (θ_run Cert.ReferenceIdeal.defs _ _).mono
      (fun r h => ⟨(h 0).1.trans hout, (h 0).2⟩) (Cert.ReferenceIdeal.Value.run (F := Ideal) m' g')

/-- The claims together, after the witnesses of the printed programs' facts. -/
theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    frame_kernel, frame_kernelIdeal, frame_kernelIdeal_finite, frame_reference, frame_reference_finite, trivial, same_result⟩

end Cert.Proof

end
